-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite_qkv [hPre_finite_qkv : Cert.Pre_finite_qkv.Facts] (m : (ℓ : Loc Cert.RetIdeal.nD Cert.RetIdeal.τ Cert.RetIdeal.sig) → Buf (Elt Ideal) ℓ) : Prop :=
  ∀ c : Dev Cert.RetIdeal.nD,
    (Cert.Pre_finite_qkv.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite_qkv [hPre_finite_qkv : Cert.Pre_finite_qkv.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite_qkv.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_qk [hPre_finite_qk : Cert.Pre_finite_qk.Facts] (m : (ℓ : Loc Cert.MergeIdeal.nD Cert.MergeIdeal.τ Cert.MergeIdeal.sig) → Buf (Elt Ideal) ℓ) : Prop :=
  ∀ c : Dev Cert.MergeIdeal.nD,
    (Cert.Pre_finite_qk.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_qk [hPre_finite_qk : Cert.Pre_finite_qk.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_qk.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetIdeal_pre_finite_qkv [hRetIdeal : Cert.RetIdeal.Facts] [hPre_finite_qkv : Cert.Pre_finite_qkv.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite_qkv m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_RetRefIdeal_pre_finite_qkv [hRetRefIdeal : Cert.RetRefIdeal.Facts] [hPre_finite_qkv : Cert.Pre_finite_qkv.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite_qkv m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_finite_qk [hMergeIdeal : Cert.MergeIdeal.Facts] [hPre_finite_qk : Cert.Pre_finite_qk.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_qk m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_finite_qk [hMergeRefIdeal : Cert.MergeRefIdeal.Facts] [hPre_finite_qk : Cert.Pre_finite_qk.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_qk m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Ret_RetIdeal : Prop :=
  True

def algebraic_RetIdeal_RetRefIdeal_pre_finite_qkv [hRetIdeal : Cert.RetIdeal.Facts] [hRetRefIdeal : Cert.RetRefIdeal.Facts] [hPre_finite_qkv : Cert.Pre_finite_qkv.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite_qkv m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v102)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v102) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v96) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_Merge_MergeIdeal : Prop :=
  True

def algebraic_MergeIdeal_MergeRefIdeal_pre_finite_qk [hMergeIdeal : Cert.MergeIdeal.Facts] [hMergeRefIdeal : Cert.MergeRefIdeal.Facts] [hPre_finite_qk : Cert.Pre_finite_qk.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_qk m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)) →
    ∃ (v0 : (c : Dev Cert.InIdeal.nD) → Buf (Elt Ideal) ((c.tc : Thread Cert.InIdeal.nD Cert.InIdeal.τ).loc Cert.InIdeal.main_v53_0)) (v1 : (c : Dev Cert.InIdeal.nD) → Buf (Elt Ideal) ((c.tc : Thread Cert.InIdeal.nD Cert.InIdeal.τ).loc Cert.InIdeal.main_v53_1)) (v2 : (c : Dev Cert.InIdeal.nD) → Buf (Elt Ideal) ((c.tc : Thread Cert.InIdeal.nD Cert.InIdeal.τ).loc Cert.InIdeal.main_v53_2)) (v3 : (c : Dev Cert.InIdeal.nD) → Buf (Elt Ideal) ((c.tc : Thread Cert.InIdeal.nD Cert.InIdeal.τ).loc Cert.InIdeal.main_v53_3)) (v4 : (c : Dev Cert.InIdeal.nD) → Buf (Elt Ideal) ((c.tc : Thread Cert.InIdeal.nD Cert.InIdeal.τ).loc Cert.InIdeal.main_v53_4)) (v5 : (c : Dev Cert.InIdeal.nD) → Buf (Elt Ideal) ((c.tc : Thread Cert.InIdeal.nD Cert.InIdeal.τ).loc Cert.InIdeal.main_v53_5)) (v6 : (c : Dev Cert.InIdeal.nD) → Buf (Elt Ideal) ((c.tc : Thread Cert.InIdeal.nD Cert.InIdeal.τ).loc Cert.InIdeal.main_v53_6)) (v7 : (c : Dev Cert.InIdeal.nD) → Buf (Elt Ideal) ((c.tc : Thread Cert.InIdeal.nD Cert.InIdeal.τ).loc Cert.InIdeal.main_v53_7)) (v8 : (c : Dev Cert.InIdeal.nD) → Buf (Elt Ideal) ((c.tc : Thread Cert.InIdeal.nD Cert.InIdeal.τ).loc Cert.InIdeal.main_v53_8)) (v9 : (c : Dev Cert.InIdeal.nD) → Buf (Elt Ideal) ((c.tc : Thread Cert.InIdeal.nD Cert.InIdeal.τ).loc Cert.InIdeal.main_v53_9)) (v10 : (c : Dev Cert.InIdeal.nD) → Buf (Elt Ideal) ((c.tc : Thread Cert.InIdeal.nD Cert.InIdeal.τ).loc Cert.InIdeal.main_v53_10)) (v11 : (c : Dev Cert.InIdeal.nD) → Buf (Elt Ideal) ((c.tc : Thread Cert.InIdeal.nD Cert.InIdeal.τ).loc Cert.InIdeal.main_v53_11)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v53_0) = v0 c
          ∧ r.2.mem ((c.tc : Thread Cert.InIdeal.nD Cert.InIdeal.τ).loc Cert.InIdeal.main_v53_1) = v1 c
          ∧ r.2.mem ((c.tc : Thread Cert.InIdeal.nD Cert.InIdeal.τ).loc Cert.InIdeal.main_v53_2) = v2 c
          ∧ r.2.mem ((c.tc : Thread Cert.InIdeal.nD Cert.InIdeal.τ).loc Cert.InIdeal.main_v53_3) = v3 c
          ∧ r.2.mem ((c.tc : Thread Cert.InIdeal.nD Cert.InIdeal.τ).loc Cert.InIdeal.main_v53_4) = v4 c
          ∧ r.2.mem ((c.tc : Thread Cert.InIdeal.nD Cert.InIdeal.τ).loc Cert.InIdeal.main_v53_5) = v5 c
          ∧ r.2.mem ((c.tc : Thread Cert.InIdeal.nD Cert.InIdeal.τ).loc Cert.InIdeal.main_v53_6) = v6 c
          ∧ r.2.mem ((c.tc : Thread Cert.InIdeal.nD Cert.InIdeal.τ).loc Cert.InIdeal.main_v53_7) = v7 c
          ∧ r.2.mem ((c.tc : Thread Cert.InIdeal.nD Cert.InIdeal.τ).loc Cert.InIdeal.main_v53_8) = v8 c
          ∧ r.2.mem ((c.tc : Thread Cert.InIdeal.nD Cert.InIdeal.τ).loc Cert.InIdeal.main_v53_9) = v9 c
          ∧ r.2.mem ((c.tc : Thread Cert.InIdeal.nD Cert.InIdeal.τ).loc Cert.InIdeal.main_v53_10) = v10 c
          ∧ r.2.mem ((c.tc : Thread Cert.InIdeal.nD Cert.InIdeal.τ).loc Cert.InIdeal.main_v53_11) = v11 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v57) = v0 c
          ∧ r.2.mem ((c.tc : Thread Cert.InRefIdeal.nD Cert.InRefIdeal.τ).loc Cert.InRefIdeal.main_v92) = v1 c
          ∧ r.2.mem ((c.tc : Thread Cert.InRefIdeal.nD Cert.InRefIdeal.τ).loc Cert.InRefIdeal.main_v147) = v2 c
          ∧ r.2.mem ((c.tc : Thread Cert.InRefIdeal.nD Cert.InRefIdeal.τ).loc Cert.InRefIdeal.main_v148) = v3 c
          ∧ r.2.mem ((c.tc : Thread Cert.InRefIdeal.nD Cert.InRefIdeal.τ).loc Cert.InRefIdeal.main_v149) = v4 c
          ∧ r.2.mem ((c.tc : Thread Cert.InRefIdeal.nD Cert.InRefIdeal.τ).loc Cert.InRefIdeal.main_v150) = v5 c
          ∧ r.2.mem ((c.tc : Thread Cert.InRefIdeal.nD Cert.InRefIdeal.τ).loc Cert.InRefIdeal.main_v124) = v6 c
          ∧ r.2.mem ((c.tc : Thread Cert.InRefIdeal.nD Cert.InRefIdeal.τ).loc Cert.InRefIdeal.main_v135) = v7 c
          ∧ r.2.mem ((c.tc : Thread Cert.InRefIdeal.nD Cert.InRefIdeal.τ).loc Cert.InRefIdeal.main_v151) = v8 c
          ∧ r.2.mem ((c.tc : Thread Cert.InRefIdeal.nD Cert.InRefIdeal.τ).loc Cert.InRefIdeal.main_v152) = v9 c
          ∧ r.2.mem ((c.tc : Thread Cert.InRefIdeal.nD Cert.InRefIdeal.τ).loc Cert.InRefIdeal.main_v154) = v10 c
          ∧ r.2.mem ((c.tc : Thread Cert.InRefIdeal.nD Cert.InRefIdeal.τ).loc Cert.InRefIdeal.main_v144) = v11 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v2_0)) (v1 : (c : Dev Cert.MemkvIdeal.nD) → Buf (Elt Ideal) ((c.tc : Thread Cert.MemkvIdeal.nD Cert.MemkvIdeal.τ).loc Cert.MemkvIdeal.main_v2_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2_0) = v0 c
          ∧ r.2.mem ((c.tc : Thread Cert.MemkvIdeal.nD Cert.MemkvIdeal.τ).loc Cert.MemkvIdeal.main_v2_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v16) = v0 c
          ∧ r.2.mem ((c.tc : Thread Cert.MemkvRefIdeal.nD Cert.MemkvRefIdeal.τ).loc Cert.MemkvRefIdeal.main_v17) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def Claim : Prop :=
  ∃ (hMlp : Cert.Mlp.Facts) (hMlpIdeal : Cert.MlpIdeal.Facts) (hMlpRefIdeal : Cert.MlpRefIdeal.Facts) (hRet : Cert.Ret.Facts) (hRetIdeal : Cert.RetIdeal.Facts) (hRetRefIdeal : Cert.RetRefIdeal.Facts) (hMerge : Cert.Merge.Facts) (hMergeIdeal : Cert.MergeIdeal.Facts) (hMergeRefIdeal : Cert.MergeRefIdeal.Facts) (hIn : Cert.In.Facts) (hInIdeal : Cert.InIdeal.Facts) (hInRefIdeal : Cert.InRefIdeal.Facts) (hMemkv : Cert.Memkv.Facts) (hMemkvIdeal : Cert.MemkvIdeal.Facts) (hMemkvRefIdeal : Cert.MemkvRefIdeal.Facts) (hPre_finite_qkv : Cert.Pre_finite_qkv.Facts) (hPre_finite_qk : Cert.Pre_finite_qk.Facts),
    quiescent_Mlp (hMlp := hMlp)
    ∧ quiescent_MlpIdeal (hMlpIdeal := hMlpIdeal)
    ∧ quiescent_MlpRefIdeal (hMlpRefIdeal := hMlpRefIdeal)
    ∧ quiescent_Ret (hRet := hRet)
    ∧ quiescent_RetIdeal (hRetIdeal := hRetIdeal)
    ∧ quiescent_RetIdeal_pre_finite_qkv (hRetIdeal := hRetIdeal) (hPre_finite_qkv := hPre_finite_qkv)
    ∧ quiescent_RetRefIdeal (hRetRefIdeal := hRetRefIdeal)
    ∧ quiescent_RetRefIdeal_pre_finite_qkv (hRetRefIdeal := hRetRefIdeal) (hPre_finite_qkv := hPre_finite_qkv)
    ∧ quiescent_Merge (hMerge := hMerge)
    ∧ quiescent_MergeIdeal (hMergeIdeal := hMergeIdeal)
    ∧ quiescent_MergeIdeal_pre_finite_qk (hMergeIdeal := hMergeIdeal) (hPre_finite_qk := hPre_finite_qk)
    ∧ quiescent_MergeRefIdeal (hMergeRefIdeal := hMergeRefIdeal)
    ∧ quiescent_MergeRefIdeal_pre_finite_qk (hMergeRefIdeal := hMergeRefIdeal) (hPre_finite_qk := hPre_finite_qk)
    ∧ quiescent_In (hIn := hIn)
    ∧ quiescent_InIdeal (hInIdeal := hInIdeal)
    ∧ quiescent_InRefIdeal (hInRefIdeal := hInRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ preserves_Mlp_MlpIdeal
    ∧ algebraic_MlpIdeal_MlpRefIdeal (hMlpIdeal := hMlpIdeal) (hMlpRefIdeal := hMlpRefIdeal)
    ∧ preserves_Ret_RetIdeal
    ∧ algebraic_RetIdeal_RetRefIdeal_pre_finite_qkv (hRetIdeal := hRetIdeal) (hRetRefIdeal := hRetRefIdeal) (hPre_finite_qkv := hPre_finite_qkv)
    ∧ preserves_Merge_MergeIdeal
    ∧ algebraic_MergeIdeal_MergeRefIdeal_pre_finite_qk (hMergeIdeal := hMergeIdeal) (hMergeRefIdeal := hMergeRefIdeal) (hPre_finite_qk := hPre_finite_qk)
    ∧ preserves_In_InIdeal
    ∧ algebraic_InIdeal_InRefIdeal (hInIdeal := hInIdeal) (hInRefIdeal := hInRefIdeal)
    ∧ preserves_Memkv_MemkvIdeal
    ∧ algebraic_MemkvIdeal_MemkvRefIdeal (hMemkvIdeal := hMemkvIdeal) (hMemkvRefIdeal := hMemkvRefIdeal)
-- ==== Pre_finite_qk.lean ====
abbrev S65536x1024 : Shape := ⟨2, ![65536, 1024]⟩
abbrev S65536x512 : Shape := ⟨2, ![65536, 512]⟩
abbrev S65536x3072 : Shape := ⟨2, ![65536, 3072]⟩
abbrev S16x256x512 : Shape := ⟨3, ![16, 256, 512]⟩
abbrev S512x1024 : Shape := ⟨2, ![512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S65536x512 : S_.BroadcastsInDim S65536x512 (![] : Fin 0 → Fin S65536x512.rank)
  reducesTo_S65536x512_S_d0_1 : S65536x512.ReducesTo [0, 1] S_
  h_S_ : 0 < S_.numel
  bcast_S_S16x256x512 : S_.BroadcastsInDim S16x256x512 (![] : Fin 0 → Fin S16x256x512.rank)
  reducesTo_S16x256x512_S_d0_1_2 : S16x256x512.ReducesTo [0, 1, 2] S_

variable [Facts]

def fn {F : FTy → Type} [FloatOps F] (main_arg0 : FVec F S65536x1024 .f32) (main_arg1 : FVec F S65536x512 .bf16) (main_arg2 : FVec F S65536x1024 .bf16) (main_arg3 : FVec F S65536x512 .bf16) (main_arg4 : FVec F S65536x3072 .bf16) (main_arg5 : FVec F S16x256x512 .bf16) (main_arg6 : FVec F S16x256x512 .bf16) (main_arg7 : FVec F S512x1024 .f32) (main_arg8 : FVec F S1024x1024 .bf16) (main_arg9 : FVec F S512x1024 .f32) (main_arg10 : FVec F S1024x1024 .f32) : IVec S_ 1 :=
  let main_v0 : FVec F S65536x512 .f32 := (extf .f32 · bitsLt_bf16_f32) main_arg3
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_c : IVec S_ 1 := constantI S_ 1 1#1
  let main_v4 : IVec S_ 1 := (fun x v => Host.reduce IntOp.andi x v reducesTo_S65536x512_S_d0_1 h_S_) main_v3 main_c
  let main_v5 : FVec F S16x256x512 .f32 := (extf .f32 · bitsLt_bf16_f32) main_arg5
  let main_v6 : FVec F S16x256x512 .f32 := Host.absf main_v5
  let main_cst_0 : FVec F S_ .f32 := constant S_ .f32 0x7F800000#32
  let main_v7 : FVec F S16x256x512 .f32 := broadcastInDim S16x256x512 ![] bcast_S_S16x256x512 main_cst_0
  let main_v8 : IVec S16x256x512 1 := cmpf .olt main_v6 main_v7
  let main_c_1 : IVec S_ 1 := constantI S_ 1 1#1
  let main_v9 : IVec S_ 1 := (fun x v => Host.reduce IntOp.andi x v reducesTo_S16x256x512_S_d0_1_2 h_S_) main_v8 main_c_1
  let main_v10 : IVec S_ 1 := andi main_v4 main_v9
  main_v10
-- ==== Pre_finite_qkv.lean ====
abbrev S65536x512 : Shape := ⟨2, ![65536, 512]⟩
abbrev S_ : Shape := ⟨0, ![]⟩

class Facts : Prop where
  bitsLt_bf16_f32 : FTy.bits .bf16 < FTy.bits .f32
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .bf16) (main_arg1 : FVec F S65536x512 .bf16) (main_arg2 : FVec F S65536x512 .bf16) (main_arg3 : FVec F S65536x512 .bf16) : IVec S_ 1 :=
  let main_v0 : FVec F S65536x512 .f32 := (extf .f32 · bitsLt_bf16_f32) main_arg0
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_c : IVec S_ 1 := constantI S_ 1 1#1
  let main_v4 : IVec S_ 1 := (fun x v => Host.reduce IntOp.andi x v reducesTo_S65536x512_S_d0_1 h_S_) main_v3 main_c
  let main_v5 : FVec F S65536x512 .f32 := (extf .f32 · bitsLt_bf16_f32) main_arg1
  let main_v6 : FVec F S65536x512 .f32 := Host.absf main_v5
  let main_cst_0 : FVec F S_ .f32 := constant S_ .f32 0x7F800000#32
  let main_v7 : FVec F S65536x512 .f32 := broadcastInDim S65536x512 ![] bcast_S_S65536x512 main_cst_0
  let main_v8 : IVec S65536x512 1 := cmpf .olt main_v6 main_v7
  let main_c_1 : IVec S_ 1 := constantI S_ 1 1#1
  let main_v9 : IVec S_ 1 := (fun x v => Host.reduce IntOp.andi x v reducesTo_S65536x512_S_d0_1 h_S_) main_v8 main_c_1
  let main_v10 : IVec S_ 1 := andi main_v4 main_v9
  let main_v11 : FVec F S65536x512 .f32 := (extf .f32 · bitsLt_bf16_f32) main_arg2
  let main_v12 : FVec F S65536x512 .f32 := Host.absf main_v11
  let main_cst_2 : FVec F S_ .f32 := constant S_ .f32 0x7F800000#32
  let main_v13 : FVec F S65536x512 .f32 := broadcastInDim S65536x512 ![] bcast_S_S65536x512 main_cst_2
  let main_v14 : IVec S65536x512 1 := cmpf .olt main_v12 main_v13
  let main_c_3 : IVec S_ 1 := constantI S_ 1 1#1
  let main_v15 : IVec S_ 1 := (fun x v => Host.reduce IntOp.andi x v reducesTo_S65536x512_S_d0_1 h_S_) main_v14 main_c_3
  let main_v16 : IVec S_ 1 := andi main_v10 main_v15
  main_v16
-- ==== Mlp.lean ====
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x4096, .f32⟩
  | .hbm, ⟨22, _⟩ => ⟨S_, .f32⟩
  | .hbm, ⟨23, _⟩ => ⟨S65536x4096, .f32⟩
  | .hbm, ⟨24, _⟩ => ⟨S65536x4096, .f32⟩
  | .hbm, ⟨25, _⟩ => ⟨S65536x4096, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Ret.lean ====
abbrev S65536x512 : Shape := ⟨2, ![65536, 512]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S512 : Shape := ⟨1, ![512]⟩
abbrev S1x512 : Shape := ⟨2, ![1, 512]⟩
abbrev S256x512 : Shape := ⟨2, ![256, 512]⟩
abbrev S8x1 : Shape := ⟨2, ![8, 1]⟩
abbrev S8x512 : Shape := ⟨2, ![8, 512]⟩
abbrev S8x1x512 : Shape := ⟨3, ![8, 1, 512]⟩
abbrev S512x1 : Shape := ⟨2, ![512, 1]⟩
abbrev S512x512 : Shape := ⟨2, ![512, 512]⟩
abbrev S256x128 : Shape := ⟨2, ![256, 128]⟩
abbrev S1x1x512 : Shape := ⟨3, ![1, 1, 512]⟩
abbrev S1x128 : Shape := ⟨2, ![1, 128]⟩
abbrev S512x256 : Shape := ⟨2, ![512, 256]⟩

abbrev nBuf : Space → Nat
  | .hbm => 191
  | .vmem => 19
  | .smem => 0
  | _ => 0

abbrev hbmTy0_0 (i : Nat) : BufTy := match i % 128 with
  | 0 => ⟨S65536x512, .bf16⟩
  | 1 => ⟨S65536x512, .bf16⟩
  | 2 => ⟨S65536x512, .bf16⟩
  | 3 => ⟨S65536x512, .bf16⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S8, .f32⟩
  | 13 => ⟨S8, .f32⟩
  | 14 => ⟨S256, .i32⟩
  | 15 => ⟨S_, .i32⟩
  | 16 => ⟨S_, .i32⟩
  | 17 => ⟨S256, .i32⟩
  | 18 => ⟨S256, .i32⟩
  | 19 => ⟨S256, .i32⟩
  | 20 => ⟨S_, .i32⟩
  | 21 => ⟨S256, .i32⟩
  | 22 => ⟨S256, .i1⟩
  | 23 => ⟨S256, .i32⟩
  | 24 => ⟨S256, .i32⟩
  | 25 => ⟨S_, .i32⟩
  | 26 => ⟨S256, .i32⟩
  | 27 => ⟨S256, .i1⟩
  | 28 => ⟨S256, .i1⟩
  | 29 => ⟨S_, .i32⟩
  | 30 => ⟨S256, .i32⟩
  | 31 => ⟨S256, .i32⟩
  | 32 => ⟨S256, .i32⟩
  | 33 => ⟨S256x1, .i32⟩
  | 34 => ⟨S1x256, .i32⟩
  | 35 => ⟨S256x256, .i32⟩
  | 36 => ⟨S256x256, .i32⟩
  | 37 => ⟨S256x256, .i32⟩
  | 38 => ⟨S256x256, .f32⟩
  | 39 => ⟨S256x1, .i32⟩
  | 40 => ⟨S1x256, .i32⟩
  | 41 => ⟨S256x256, .i32⟩
  | 42 => ⟨S256x256, .i32⟩
  | 43 => ⟨S256x256, .i1⟩
  | 44 => ⟨S1x256, .i32⟩
  | 45 => ⟨S256x1, .i32⟩
  | 46 => ⟨S256x256, .i32⟩
  | 47 => ⟨S256x256, .i32⟩
  | 48 => ⟨S256x256, .i1⟩
  | 49 => ⟨S256x256, .f32⟩
  | 50 => ⟨S256x256, .f32⟩
  | 51 => ⟨S256x256, .i1⟩
  | 52 => ⟨S1x256x256, .i1⟩
  | 53 => ⟨S8x1x1, .f32⟩
  | 54 => ⟨S1x256x256, .f32⟩
  | 55 => ⟨S8x256x256, .f32⟩
  | 56 => ⟨S8x256x256, .f32⟩
  | 57 => ⟨S8x256x256, .f32⟩
  | 58 => ⟨S8x256x256, .f32⟩
  | 59 => ⟨S_, .f32⟩
  | 60 => ⟨S_, .f32⟩
  | 61 => ⟨S8x256x256, .i1⟩
  | 62 => ⟨S8x256x256, .f32⟩
  | 63 => ⟨S8x256x256, .f32⟩
  | 64 => ⟨S512, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S512, .i32⟩
  | 72 => ⟨S512, .i32⟩
  | 73 => ⟨S_, .i32⟩
  | 74 => ⟨S512, .i32⟩
  | 75 => ⟨S512, .i1⟩
  | 76 => ⟨S_, .i32⟩
  | 77 => ⟨S512, .i32⟩
  | 78 => ⟨S512, .i1⟩
  | 79 => ⟨S_, .i32⟩
  | 80 => ⟨S_, .i1⟩
  | 81 => ⟨S512, .i1⟩
  | 82 => ⟨S512, .i1⟩
  | 83 => ⟨S512, .i1⟩
  | 84 => ⟨S512, .i32⟩
  | 85 => ⟨S512, .i32⟩
  | 86 => ⟨S512, .i32⟩
  | 87 => ⟨S_, .i32⟩
  | 88 => ⟨S_, .i32⟩
  | 89 => ⟨S512, .i32⟩
  | 90 => ⟨S512, .i32⟩
  | 91 => ⟨S512, .i32⟩
  | 92 => ⟨S_, .i32⟩
  | 93 => ⟨S512, .i32⟩
  | 94 => ⟨S512, .i1⟩
  | 95 => ⟨S512, .i32⟩
  | 96 => ⟨S512, .i32⟩
  | 97 => ⟨S_, .i32⟩
  | 98 => ⟨S512, .i32⟩
  | 99 => ⟨S512, .i1⟩
  | 100 => ⟨S512, .i1⟩
  | 101 => ⟨S_, .i32⟩
  | 102 => ⟨S512, .i32⟩
  | 103 => ⟨S512, .i32⟩
  | 104 => ⟨S512, .i32⟩
  | 105 => ⟨S_, .i32⟩
  | 106 => ⟨S_, .i32⟩
  | 107 => ⟨S512, .i32⟩
  | 108 => ⟨S512, .i32⟩
  | 109 => ⟨S512, .i32⟩
  | 110 => ⟨S_, .i32⟩
  | 111 => ⟨S512, .i32⟩
  | 112 => ⟨S512, .i1⟩
  | 113 => ⟨S512, .i32⟩
  | 114 => ⟨S512, .i32⟩
  | 115 => ⟨S_, .i32⟩
  | 116 => ⟨S512, .i32⟩
  | 117 => ⟨S512, .i1⟩
  | 118 => ⟨S512, .i1⟩
  | 119 => ⟨S_, .i32⟩
  | 120 => ⟨S512, .i32⟩
  | 121 => ⟨S512, .i32⟩
  | 122 => ⟨S512, .i32⟩
  | 123 => ⟨S512, .f32⟩
  | 124 => ⟨S_, .f32⟩
  | 125 => ⟨S512, .f32⟩
  | 126 => ⟨S512, .f32⟩
  | 127 => ⟨S_, .f32⟩
  | _ => ⟨S65536x512, .bf16⟩

abbrev hbmTy0_1 (i : Nat) : BufTy := match i % 128 with
  | 0 => ⟨S512, .f32⟩
  | 1 => ⟨S512, .f32⟩
  | 2 => ⟨S512, .f32⟩
  | 3 => ⟨S512, .f32⟩
  | 4 => ⟨S512, .f32⟩
  | 5 => ⟨S256, .f32⟩
  | 6 => ⟨S1x512, .f32⟩
  | 7 => ⟨S256x1, .f32⟩
  | 8 => ⟨S_, .f32⟩
  | 9 => ⟨S256x1, .f32⟩
  | 10 => ⟨S256x1, .f32⟩
  | 11 => ⟨S256x512, .f32⟩
  | 12 => ⟨S256x512, .f32⟩
  | 13 => ⟨S256x512, .f32⟩
  | 14 => ⟨S256x512, .f32⟩
  | 15 => ⟨S1x512, .f32⟩
  | 16 => ⟨S256x1, .f32⟩
  | 17 => ⟨S_, .f32⟩
  | 18 => ⟨S256x1, .f32⟩
  | 19 => ⟨S256x1, .f32⟩
  | 20 => ⟨S256x512, .f32⟩
  | 21 => ⟨S256x512, .f32⟩
  | 22 => ⟨S256x512, .f32⟩
  | 23 => ⟨S256x512, .f32⟩
  | 24 => ⟨S8, .i32⟩
  | 25 => ⟨S1x512, .i32⟩
  | 26 => ⟨S8x1, .i32⟩
  | 27 => ⟨S8x512, .i32⟩
  | 28 => ⟨S8x512, .i32⟩
  | 29 => ⟨S8x512, .i1⟩
  | 30 => ⟨S8x512, .f32⟩
  | 31 => ⟨S8x1x512, .f32⟩
  | 32 => ⟨S1x512, .i32⟩
  | 33 => ⟨S8x1, .i32⟩
  | 34 => ⟨S8x512, .i32⟩
  | 35 => ⟨S8x512, .i32⟩
  | 36 => ⟨S8x512, .i1⟩
  | 37 => ⟨S8x512, .f32⟩
  | 38 => ⟨S8x1x512, .f32⟩
  | 39 => ⟨S512x1, .i32⟩
  | 40 => ⟨S1x512, .i32⟩
  | 41 => ⟨S512x512, .i32⟩
  | 42 => ⟨S512x512, .i32⟩
  | 43 => ⟨S512x512, .i1⟩
  | 44 => ⟨S512x512, .f32⟩
  | 45 => ⟨S_, .f32⟩
  | 46 => ⟨S512, .f32⟩
  | 47 => ⟨S512, .f32⟩
  | 48 => ⟨S512, .f32⟩
  | 49 => ⟨S512x1, .f32⟩
  | 50 => ⟨S512x512, .f32⟩
  | 51 => ⟨S512x1, .i32⟩
  | 52 => ⟨S1x512, .i32⟩
  | 53 => ⟨S512x512, .i32⟩
  | 54 => ⟨S512x512, .i32⟩
  | 55 => ⟨S512x512, .i1⟩
  | 56 => ⟨S512x512, .f32⟩
  | 57 => ⟨S_, .f32⟩
  | 58 => ⟨S512x512, .f32⟩
  | 59 => ⟨S512x512, .f32⟩
  | 60 => ⟨S8x1x512, .bf16⟩
  | 61 => ⟨S512x512, .bf16⟩
  | 62 => ⟨S65536x512, .bf16⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S8x256x256, .f32⟩
  | .local _ .vmem, ⟨9, _⟩ => ⟨S256x512, .f32⟩
  | .local _ .vmem, ⟨10, _⟩ => ⟨S256x512, .f32⟩
  | .local _ .vmem, ⟨11, _⟩ => ⟨S8x1x512, .bf16⟩
  | .local _ .vmem, ⟨12, _⟩ => ⟨S8x1x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S256x512, .bf16⟩
  | .local _ .vmem, ⟨17, _⟩ => ⟨S256x512, .bf16⟩
  | .local _ .vmem, ⟨18, _⟩ => ⟨S512x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v36 : Ref sig .tc := ⟨.hbm, 63, rfl⟩
abbrev main_v37 : Ref sig .tc := ⟨.hbm, 64, rfl⟩
abbrev main_c_2 : Ref sig .tc := ⟨.hbm, 65, rfl⟩
abbrev main_call3_v0 : Ref sig .tc := ⟨.hbm, 66, rfl⟩
abbrev main_call3_c : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_c_1 : Ref sig .tc := ⟨.hbm, 73, rfl⟩
abbrev main_call3_v5 : Ref sig .tc := ⟨.hbm, 74, rfl⟩
abbrev main_call3_v6 : Ref sig .tc := ⟨.hbm, 75, rfl⟩
abbrev main_call3_c_2 : Ref sig .tc := ⟨.hbm, 76, rfl⟩
abbrev main_call3_v7 : Ref sig .tc := ⟨.hbm, 77, rfl⟩
abbrev main_call3_v8 : Ref sig .tc := ⟨.hbm, 78, rfl⟩
abbrev main_call3_c_3 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_v38 : Ref sig .tc := ⟨.hbm, 86, rfl⟩
abbrev main_c_3 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_c : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_0 : Ref sig .tc := ⟨.hbm, 101, rfl⟩
abbrev main_call4_v12 : Ref sig .tc := ⟨.hbm, 102, rfl⟩
abbrev main_call4_v13 : Ref sig .tc := ⟨.hbm, 103, rfl⟩
abbrev main_v39 : Ref sig .tc := ⟨.hbm, 104, rfl⟩
abbrev main_c_4 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_c : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_0 : Ref sig .tc := ⟨.hbm, 119, rfl⟩
abbrev main_call5_v12 : Ref sig .tc := ⟨.hbm, 120, rfl⟩
abbrev main_call5_v13 : Ref sig .tc := ⟨.hbm, 121, rfl⟩
abbrev main_v40 : Ref sig .tc := ⟨.hbm, 122, rfl⟩
abbrev main_v41 : Ref sig .tc := ⟨.hbm, 123, rfl⟩
abbrev main_cst_5 : Ref sig .tc := ⟨.hbm, 124, rfl⟩
abbrev main_v42 : Ref sig .tc := ⟨.hbm, 125, rfl⟩
abbrev main_v43 : Ref sig .tc := ⟨.hbm, 126, rfl⟩
abbrev main_cst_6 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_cst_7 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_cst_8 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_cst_9 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_10 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RetRefIdeal.lean ====
abbrev S65536x512 : Shape := ⟨2, ![65536, 512]⟩
abbrev S16x4096x2x8x32 : Shape := ⟨5, ![16, 4096, 2, 8, 32]⟩
abbrev S16x4096x8x2x32 : Shape := ⟨5, ![16, 4096, 8, 2, 32]⟩
abbrev S16x4096x8x64 : Shape := ⟨4, ![16, 4096, 8, 64]⟩
abbrev S8 : Shape := ⟨1, ![8]⟩
abbrev S_ : Shape := ⟨0, ![]⟩
abbrev S64 : Shape := ⟨1, ![64]⟩
abbrev S8x1x1 : Shape := ⟨3, ![8, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S16x64x64x8x64 : Shape := ⟨5, ![16, 64, 64, 8, 64]⟩
abbrev S16x64x8x64x64 : Shape := ⟨5, ![16, 64, 8, 64, 64]⟩
abbrev S1x1x8x64x64 : Shape := ⟨5, ![1, 1, 8, 64, 64]⟩
abbrev S64x8 : Shape := ⟨2, ![64, 8]⟩
abbrev S1x1x64x8x1 : Shape := ⟨5, ![1, 1, 64, 8, 1]⟩
abbrev S64x16x8x64x64 : Shape := ⟨5, ![64, 16, 8, 64, 64]⟩
abbrev S16x8x64x64 : Shape := ⟨4, ![16, 8, 64, 64]⟩
abbrev S1x16x8x64x64 : Shape := ⟨5, ![1, 16, 8, 64, 64]⟩
abbrev S1x8x1x1 : Shape := ⟨4, ![1, 8, 1, 1]⟩
abbrev S16x4096x8 : Shape := ⟨3, ![16, 4096, 8]⟩
abbrev S16x4096x8x1 : Shape := ⟨4, ![16, 4096, 8, 1]⟩

abbrev nBuf : Space → Nat
  | .hbm => 146
  | .vmem => 0
  | .smem => 0
  | _ => 0

abbrev hbmTy0_0 (i : Nat) : BufTy := match i % 128 with
  | 0 => ⟨S65536x512, .bf16⟩
  | 1 => ⟨S65536x512, .bf16⟩
  | 2 => ⟨S65536x512, .bf16⟩
  | 3 => ⟨S65536x512, .bf16⟩
  | 4 => ⟨S65536x512, .f32⟩
  | 5 => ⟨S16x4096x2x8x32, .f32⟩
  | 6 => ⟨S16x4096x8x2x32, .f32⟩
  | 7 => ⟨S16x4096x8x64, .f32⟩
  | 8 => ⟨S65536x512, .f32⟩
  | 9 => ⟨S16x4096x2x8x32, .f32⟩
  | 10 => ⟨S16x4096x8x2x32, .f32⟩
  | 11 => ⟨S16x4096x8x64, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S8, .f32⟩
  | 21 => ⟨S8, .f32⟩
  | 22 => ⟨S64, .f32⟩
  | 23 => ⟨S8x1x1, .f32⟩
  | 24 => ⟨S64x1, .f32⟩
  | 25 => ⟨S1x64, .f32⟩
  | 26 => ⟨S64x64, .f32⟩
  | 27 => ⟨S64x64, .f32⟩
  | 28 => ⟨S64x64, .f32⟩
  | 29 => ⟨S64x64, .f32⟩
  | 30 => ⟨S1x64x64, .f32⟩
  | 31 => ⟨S8x64x64, .f32⟩
  | 32 => ⟨S8x64x64, .f32⟩
  | 33 => ⟨S8x64x64, .f32⟩
  | 34 => ⟨S8x64x64, .f32⟩
  | 35 => ⟨S8x1, .f32⟩
  | 36 => ⟨S_, .f32⟩
  | 37 => ⟨S64, .f32⟩
  | 38 => ⟨S64, .f32⟩
  | 39 => ⟨S1x64, .f32⟩
  | 40 => ⟨S8x64, .f32⟩
  | 41 => ⟨S8x64, .f32⟩
  | 42 => ⟨S8x64, .f32⟩
  | 43 => ⟨S8x64, .f32⟩
  | 44 => ⟨S8x1, .f32⟩
  | 45 => ⟨S_, .f32⟩
  | 46 => ⟨S64, .f32⟩
  | 47 => ⟨S64, .f32⟩
  | 48 => ⟨S1x64, .f32⟩
  | 49 => ⟨S8x64, .f32⟩
  | 50 => ⟨S8x64, .f32⟩
  | 51 => ⟨S8x64, .f32⟩
  | 52 => ⟨S8x64, .f32⟩
  | 53 => ⟨S_, .f32⟩
  | 54 => ⟨S8, .f32⟩
  | 55 => ⟨S8, .f32⟩
  | 56 => ⟨S8, .f32⟩
  | 57 => ⟨S16x64x64x8x64, .f32⟩
  | 58 => ⟨S16x64x64x8x64, .f32⟩
  | 59 => ⟨S65536x512, .f32⟩
  | 60 => ⟨S16x64x64x8x64, .f32⟩
  | 61 => ⟨S16x64x8x64x64, .f32⟩
  | 62 => ⟨S1x1x8x64x64, .f32⟩
  | 63 => ⟨S16x64x8x64x64, .f32⟩
  | 64 => ⟨S16x64x8x64x64, .f32⟩
  | 65 => ⟨S16x64x8x64x64, .f32⟩
  | 66 => ⟨S16x64x64x8x64, .f32⟩
  | 67 => ⟨S64x8, .f32⟩
  | 68 => ⟨S1x1x64x8x1, .f32⟩
  | 69 => ⟨S16x64x64x8x64, .f32⟩
  | 70 => ⟨S16x64x64x8x64, .f32⟩
  | 71 => ⟨S64x16x8x64x64, .f32⟩
  | 72 => ⟨S_, .f32⟩
  | 73 => ⟨S16x8x64x64, .f32⟩
  | 74 => ⟨S_, .f32⟩
  | 75 => ⟨S64x16x8x64x64, .f32⟩
  | 76 => ⟨S_, .i32⟩
  | 77 => ⟨S64x16x8x64x64, .f32⟩
  | 78 => ⟨S8, .f32⟩
  | 79 => ⟨S_, .i32⟩
  | 80 => ⟨S16x8x64x64, .f32⟩
  | 81 => ⟨S64x16x8x64x64, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S1x16x8x64x64, .f32⟩
  | 89 => ⟨S16x8x64x64, .f32⟩
  | 90 => ⟨S1x8x1x1, .f32⟩
  | 91 => ⟨S16x8x64x64, .f32⟩
  | 92 => ⟨S16x8x64x64, .f32⟩
  | 93 => ⟨S16x8x64x64, .f32⟩
  | 94 => ⟨S1x16x8x64x64, .f32⟩
  | 95 => ⟨S_, .i32⟩
  | 96 => ⟨S_, .i32⟩
  | 97 => ⟨S_, .i32⟩
  | 98 => ⟨S_, .i32⟩
  | 99 => ⟨S64x16x8x64x64, .f32⟩
  | 100 => ⟨S_, .i32⟩
  | 101 => ⟨S_, .i32⟩
  | 102 => ⟨S16x64x8x64x64, .f32⟩
  | 103 => ⟨S16x64x64x8x64, .f32⟩
  | 104 => ⟨S64x8, .f32⟩
  | 105 => ⟨S1x1x64x8x1, .f32⟩
  | 106 => ⟨S16x64x64x8x64, .f32⟩
  | 107 => ⟨S16x64x64x8x64, .f32⟩
  | 108 => ⟨S16x64x64x8x64, .f32⟩
  | 109 => ⟨S16x4096x8x64, .f32⟩
  | 110 => ⟨S_, .f32⟩
  | 111 => ⟨S16x4096x8, .f32⟩
  | 112 => ⟨S16x4096x8x1, .f32⟩
  | 113 => ⟨S_, .f32⟩
  | 114 => ⟨S16x4096x8x1, .f32⟩
  | 115 => ⟨S16x4096x8x1, .f32⟩
  | 116 => ⟨S16x4096x8x64, .f32⟩
  | 117 => ⟨S16x4096x8x64, .f32⟩
  | 118 => ⟨S16x4096x8x64, .f32⟩
  | 119 => ⟨S_, .f32⟩
  | 120 => ⟨S16x4096x8, .f32⟩
  | 121 => ⟨S16x4096x8x1, .f32⟩
  | 122 => ⟨S_, .f32⟩
  | 123 => ⟨S16x4096x8x1, .f32⟩
  | 124 => ⟨S16x4096x8x1, .f32⟩
  | 125 => ⟨S16x4096x8x64, .f32⟩
  | 126 => ⟨S16x4096x8x64, .f32⟩
  | 127 => ⟨S_, .f32⟩
  | _ => ⟨S65536x512, .bf16⟩

abbrev hbmTy0_1 (i : Nat) : BufTy := match i % 128 with
  | 0 => ⟨S16x4096x8x1, .f32⟩
  | 1 => ⟨S16x4096x8x1, .f32⟩
  | 2 => ⟨S16x4096x8x1, .f32⟩
  | 3 => ⟨S16x4096x8x64, .f32⟩
  | 4 => ⟨S16x4096x8x64, .f32⟩
  | 5 => ⟨S65536x512, .f32⟩
  | 6 => ⟨S65536x512, .f32⟩
  | 7 => ⟨S65536x512, .f32⟩
  | 8 => ⟨S65536x512, .f32⟩
  | 9 => ⟨S_, .f32⟩
  | 10 => ⟨S65536x512, .f32⟩
  | 11 => ⟨S65536x512, .f32⟩
  | 12 => ⟨S_, .f32⟩
  | 13 => ⟨S65536x512, .f32⟩
  | 14 => ⟨S65536x512, .f32⟩
  | 15 => ⟨S65536x512, .f32⟩
  | 16 => ⟨S65536x512, .f32⟩
  | 17 => ⟨S65536x512, .bf16⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_4 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_c : Ref sig .tc := ⟨.hbm, 76, rfl⟩
abbrev main_v65_0 : Ref sig .tc := ⟨.hbm, 77, rfl⟩
abbrev main_v65_1 : Ref sig .tc := ⟨.hbm, 78, rfl⟩
abbrev main_v65_2 : Ref sig .tc := ⟨.hbm, 79, rfl⟩
abbrev main_v65_3 : Ref sig .tc := ⟨.hbm, 80, rfl⟩
abbrev main_v65_4 : Ref sig .tc := ⟨.hbm, 81, rfl⟩
abbrev main_while0c_c_15 : Ref sig .tc := ⟨.hbm, 82, rfl⟩
abbrev main_while0c_v97 : Ref sig .tc := ⟨.hbm, 83, rfl⟩
abbrev main_while0b_call0_c : Ref sig .tc := ⟨.hbm, 84, rfl⟩
abbrev main_while0b_call0_c_0 : Ref sig .tc := ⟨.hbm, 85, rfl⟩
abbrev main_while0b_call0_c_1 : Ref sig .tc := ⟨.hbm, 86, rfl⟩
abbrev main_while0b_call0_c_2 : Ref sig .tc := ⟨.hbm, 87, rfl⟩
abbrev main_while0b_call0_v0 : Ref sig .tc := ⟨.hbm, 88, rfl⟩
abbrev main_while0b_v97 : Ref sig .tc := ⟨.hbm, 89, rfl⟩
abbrev main_while0b_v98 : Ref sig .tc := ⟨.hbm, 90, rfl⟩
abbrev main_while0b_v99 : Ref sig .tc := ⟨.hbm, 91, rfl⟩
abbrev main_while0b_v100 : Ref sig .tc := ⟨.hbm, 92, rfl⟩
abbrev main_while0b_v101 : Ref sig .tc := ⟨.hbm, 93, rfl⟩
abbrev main_while0b_call1_v0 : Ref sig .tc := ⟨.hbm, 94, rfl⟩
abbrev main_while0b_call1_c : Ref sig .tc := ⟨.hbm, 95, rfl⟩
abbrev main_while0b_call1_c_0 : Ref sig .tc := ⟨.hbm, 96, rfl⟩
abbrev main_while0b_call1_c_1 : Ref sig .tc := ⟨.hbm, 97, rfl⟩
abbrev main_while0b_call1_c_2 : Ref sig .tc := ⟨.hbm, 98, rfl⟩
abbrev main_while0b_v102 : Ref sig .tc := ⟨.hbm, 99, rfl⟩
abbrev main_while0b_c_15 : Ref sig .tc := ⟨.hbm, 100, rfl⟩
abbrev main_while0b_v103 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_6 : Ref sig .tc := ⟨.hbm, 110, rfl⟩
abbrev main_v74 : Ref sig .tc := ⟨.hbm, 111, rfl⟩
abbrev main_v75 : Ref sig .tc := ⟨.hbm, 112, rfl⟩
abbrev main_cst_7 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_8 : Ref sig .tc := ⟨.hbm, 119, rfl⟩
abbrev main_v81 : Ref sig .tc := ⟨.hbm, 120, rfl⟩
abbrev main_v82 : Ref sig .tc := ⟨.hbm, 121, rfl⟩
abbrev main_cst_9 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_10 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call2_v0 : Ref sig .tc := ⟨.hbm, 135, rfl⟩
abbrev main_call2_v1 : Ref sig .tc := ⟨.hbm, 136, rfl⟩
abbrev main_call2_cst : Ref sig .tc := ⟨.hbm, 137, rfl⟩
abbrev main_call2_v2 : Ref sig .tc := ⟨.hbm, 138, rfl⟩
abbrev main_call2_v3 : Ref sig .tc := ⟨.hbm, 139, rfl⟩
abbrev main_call2_cst_0 : Ref sig .tc := ⟨.hbm, 140, rfl⟩
abbrev main_call2_v4 : Ref sig .tc := ⟨.hbm, 141, rfl⟩
abbrev main_call2_v5 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩

abbrev nD : Nat := 1
abbrev τ : Topo := Topo.v7x

variable {F : FTy → Type} [FloatOps F]

abbrev main_while0_count : Scf.Loop 32 := ⟨0#32, 64#32, 1#32⟩
-- ==== Merge.lean ====
abbrev S65536x1024 : Shape := ⟨2, ![65536, 1024]⟩
abbrev S65536x512 : Shape := ⟨2, ![65536, 512]⟩
abbrev S65536x3072 : Shape := ⟨2, ![65536, 3072]⟩
abbrev S16x256x512 : Shape := ⟨3, ![16, 256, 512]⟩
abbrev S512x1024 : Shape := ⟨2, ![512, 1024]⟩
abbrev S1024x1024 : Shape := ⟨2, ![1024, 1024]⟩
abbrev S512x512 : Shape := ⟨2, ![512, 512]⟩
abbrev S512x3072 : Shape := ⟨2, ![512, 3072]⟩
abbrev S1x256x512 : Shape := ⟨3, ![1, 256, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x1024, .bf16⟩
  | .hbm, ⟨3, _⟩ => ⟨S65536x512, .bf16⟩
  | .hbm, ⟨4, _⟩ => ⟨S65536x3072, .bf16⟩
  | .hbm, ⟨5, _⟩ => ⟨S16x256x512, .bf16⟩
  | .hbm, ⟨6, _⟩ => ⟨S16x256x512, .bf16⟩
  | .hbm, ⟨7, _⟩ => ⟨S512x1024, .f32⟩
  | .hbm, ⟨8, _⟩ => ⟨S1024x1024, .bf16⟩
  | .hbm, ⟨9, _⟩ => ⟨S512x1024, .f32⟩
  | .hbm, ⟨10, _⟩ => ⟨S1024x1024, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S65536x1024 : Shape := ⟨2, ![65536, 1024]⟩
abbrev S65536x512 : Shape := ⟨2, ![65536, 512]⟩
abbrev S65536x3072 : Shape := ⟨2, ![65536, 3072]⟩
abbrev S16x256x512 : Shape := ⟨3, ![16, 256, 512]⟩
abbrev S512x1024 : Shape := ⟨2, ![512, 1024]⟩
abbrev S1024x1024 : Shape := ⟨2, ![1024, 1024]⟩
abbrev S16x4096x4x128 : Shape := ⟨4, ![16, 4096, 4, 128]⟩
abbrev S16x256x4x128 : Shape := ⟨4, ![16, 256, 4, 128]⟩
abbrev S16x4x4096x256 : Shape := ⟨4, ![16, 4, 4096, 256]⟩
abbrev S_ : Shape := ⟨0, ![]⟩
abbrev S16x4x4096 : Shape := ⟨3, ![16, 4, 4096]⟩
abbrev S16x4x4096x1 : Shape := ⟨4, ![16, 4, 4096, 1]⟩
abbrev S16x4x128x4096 : Shape := ⟨4, ![16, 4, 128, 4096]⟩
abbrev S65536x3x1024 : Shape := ⟨3, ![65536, 3, 1024]⟩
abbrev S65536x1x1024 : Shape := ⟨3, ![65536, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x1024, .bf16⟩
  | .hbm, ⟨3, _⟩ => ⟨S65536x512, .bf16⟩
  | .hbm, ⟨4, _⟩ => ⟨S65536x3072, .bf16⟩
  | .hbm, ⟨5, _⟩ => ⟨S16x256x512, .bf16⟩
  | .hbm, ⟨6, _⟩ => ⟨S16x256x512, .bf16⟩
  | .hbm, ⟨7, _⟩ => ⟨S512x1024, .f32⟩
  | .hbm, ⟨8, _⟩ => ⟨S1024x1024, .bf16⟩
  | .hbm, ⟨9, _⟩ => ⟨S512x1024, .f32⟩
  | .hbm, ⟨10, _⟩ => ⟨S1024x1024, .f32⟩
  | .hbm, ⟨11, _⟩ => ⟨S65536x512, .f32⟩
  | .hbm, ⟨12, _⟩ => ⟨S16x4096x4x128, .f32⟩
  | .hbm, ⟨13, _⟩ => ⟨S16x256x512, .f32⟩
  | .hbm, ⟨14, _⟩ => ⟨S16x256x4x128, .f32⟩
  | .hbm, ⟨15, _⟩ => ⟨S16x256x512, .f32⟩
  | .hbm, ⟨16, _⟩ => ⟨S16x256x4x128, .f32⟩
  | .hbm, ⟨17, _⟩ => ⟨S16x4x4096x256, .f32⟩
  | .hbm, ⟨18, _⟩ => ⟨S_, .f32⟩
  | .hbm, ⟨19, _⟩ => ⟨S16x4x4096x256, .f32⟩
  | .hbm, ⟨20, _⟩ => ⟨S16x4x4096x256, .f32⟩
  | .hbm, ⟨21, _⟩ => ⟨S_, .f32⟩
  | .hbm, ⟨22, _⟩ => ⟨S16x4x4096, .f32⟩
  | .hbm, ⟨23, _⟩ => ⟨S_, .f32⟩
  | .hbm, ⟨24, _⟩ => ⟨S16x4x4096, .f32⟩
  | .hbm, ⟨25, _⟩ => ⟨S16x4x4096, .f32⟩
  | .hbm, ⟨26, _⟩ => ⟨S16x4x4096x1, .f32⟩
  | .hbm, ⟨27, _⟩ => ⟨S16x4x4096x256, .f32⟩
  | .hbm, ⟨28, _⟩ => ⟨S16x4x4096x256, .f32⟩
  | .hbm, ⟨29, _⟩ => ⟨S16x4x4096x256, .f32⟩
  | .hbm, ⟨30, _⟩ => ⟨S_, .f32⟩
  | .hbm, ⟨31, _⟩ => ⟨S16x4x4096, .f32⟩
  | .hbm, ⟨32, _⟩ => ⟨S16x4x4096x1, .f32⟩
  | .hbm, ⟨33, _⟩ => ⟨S16x4x4096x256, .f32⟩
  | .hbm, ⟨34, _⟩ => ⟨S16x4x4096x256, .f32⟩
  | .hbm, ⟨35, _⟩ => ⟨S16x4x128x4096, .f32⟩
  | .hbm, ⟨36, _⟩ => ⟨S16x4096x4x128, .f32⟩
  | .hbm, ⟨37, _⟩ => ⟨S65536x512, .f32⟩
  | .hbm, ⟨38, _⟩ => ⟨S65536x3072, .f32⟩
  | .hbm, ⟨39, _⟩ => ⟨S65536x3072, .f32⟩
  | .hbm, ⟨40, _⟩ => ⟨S65536x3072, .f32⟩
  | .hbm, ⟨41, _⟩ => ⟨S_, .f32⟩
  | .hbm, ⟨42, _⟩ => ⟨S65536x3072, .f32⟩
  | .hbm, ⟨43, _⟩ => ⟨S65536x3072, .f32⟩
  | .hbm, ⟨44, _⟩ => ⟨S_, .f32⟩
  | .hbm, ⟨45, _⟩ => ⟨S65536x3072, .f32⟩
  | .hbm, ⟨46, _⟩ => ⟨S65536x3072, .f32⟩
  | .hbm, ⟨47, _⟩ => ⟨S65536x3x1024, .f32⟩
  | .hbm, ⟨48, _⟩ => ⟨S65536x512, .f32⟩
  | .hbm, ⟨49, _⟩ => ⟨S65536x1024, .f32⟩
  | .hbm, ⟨50, _⟩ => ⟨S65536x1024, .f32⟩
  | .hbm, ⟨51, _⟩ => ⟨S1024x1024, .f32⟩
  | .hbm, ⟨52, _⟩ => ⟨S65536x1024, .f32⟩
  | .hbm, ⟨53, _⟩ => ⟨S65536x1024, .f32⟩
  | .hbm, ⟨54, _⟩ => ⟨S65536x1x1024, .f32⟩
  | .hbm, ⟨55, _⟩ => ⟨S65536x1024, .f32⟩
  | .hbm, ⟨56, _⟩ => ⟨S65536x1024, .f32⟩
  | .hbm, ⟨57, _⟩ => ⟨S65536x1x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S65536x1x1024, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S65536x1024, .f32⟩
  | .hbm, ⟨66, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== In.lean ====
abbrev S65536x1024 : Shape := ⟨2, ![65536, 1024]⟩
abbrev S1024 : Shape := ⟨1, ![1024]⟩
abbrev S1024x6056 : Shape := ⟨2, ![1024, 6056]⟩
abbrev S256 : Shape := ⟨1, ![256]⟩
abbrev S128 : Shape := ⟨1, ![128]⟩
abbrev S256x8x32 : Shape := ⟨3, ![256, 8, 32]⟩
abbrev S256x1024 : Shape := ⟨2, ![256, 1024]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S1024x512 : Shape := ⟨2, ![1024, 512]⟩
abbrev S1024x8x2x32 : Shape := ⟨4, ![1024, 8, 2, 32]⟩
abbrev S1024x2x8x32 : Shape := ⟨4, ![1024, 2, 8, 32]⟩
abbrev S1024x3072 : Shape := ⟨2, ![1024, 3072]⟩
abbrev S1024x5632 : Shape := ⟨2, ![1024, 5632]⟩
abbrev S1024x120 : Shape := ⟨2, ![1024, 120]⟩
abbrev S1024x256 : Shape := ⟨2, ![1024, 256]⟩
abbrev S1024x128 : Shape := ⟨2, ![1024, 128]⟩
abbrev S1024x32 : Shape := ⟨2, ![1024, 32]⟩
abbrev S1x1024x1x32 : Shape := ⟨4, ![1, 1024, 1, 32]⟩
abbrev S1x1024x4x32 : Shape := ⟨4, ![1, 1024, 4, 32]⟩
abbrev S1024x8 : Shape := ⟨2, ![1024, 8]⟩
abbrev S1024x640 : Shape := ⟨2, ![1024, 640]⟩
abbrev S256x8x1x32 : Shape := ⟨4, ![256, 8, 1, 32]⟩
abbrev S1x256x1x8x1x1x1x32 : Shape := ⟨8, ![1, 256, 1, 8, 1, 1, 1, 32]⟩
abbrev S1x256x1x8x4x1x1x32 : Shape := ⟨8, ![1, 256, 1, 8, 4, 1, 1, 32]⟩
abbrev S256x8x4x32 : Shape := ⟨4, ![256, 8, 4, 32]⟩
abbrev S1x1024 : Shape := ⟨2, ![1, 1024]⟩
abbrev S1x256 : Shape := ⟨2, ![1, 256]⟩
abbrev S1x128 : Shape := ⟨2, ![1, 128]⟩
abbrev S65536x512 : Shape := ⟨2, ![65536, 512]⟩
abbrev S65536x3072 : Shape := ⟨2, ![65536, 3072]⟩
abbrev S256x8x256x128 : Shape := ⟨4, ![256, 8, 256, 128]⟩
abbrev S8x65536 : Shape := ⟨2, ![8, 65536]⟩
abbrev S256x256x128 : Shape := ⟨3, ![256, 256, 128]⟩
abbrev S256x128x256 : Shape := ⟨3, ![256, 128, 256]⟩
abbrev S256x256 : Shape := ⟨2, ![256, 256]⟩
abbrev S256x512 : Shape := ⟨2, ![256, 512]⟩
abbrev S256x3072 : Shape := ⟨2, ![256, 3072]⟩
abbrev S1x8x256x128 : Shape := ⟨4, ![1, 8, 256, 128]⟩
abbrev S8x256 : Shape := ⟨2, ![8, 256]⟩
abbrev S1x256x128 : Shape := ⟨3, ![1, 256, 128]⟩
abbrev S1x128x256 : Shape := ⟨3, ![1, 128, 256]⟩
abbrev S256x1 : Shape := ⟨2, ![256, 1]⟩
abbrev S256x640 : Shape := ⟨2, ![256, 640]⟩
abbrev S256x128 : Shape := ⟨2, ![256, 128]⟩
abbrev S1x1x256x128 : Shape := ⟨4, ![1, 1, 256, 128]⟩
abbrev S128x256 : Shape := ⟨2, ![128, 256]⟩

abbrev nBuf : Space → Nat
  | .hbm => 75
  | .vmem => 37
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6056, .f32⟩
  | .hbm, ⟨3, _⟩ => ⟨S256, .f32⟩
  | .hbm, ⟨4, _⟩ => ⟨S128, .f32⟩
  | .hbm, ⟨5, _⟩ => ⟨S256x8x32, .f32⟩
  | .hbm, ⟨6, _⟩ => ⟨S256x1024, .bf16⟩
  | .hbm, ⟨7, _⟩ => ⟨S4096, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096x1, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S1x4096x1x32, .f32⟩
  | .hbm, ⟨23, _⟩ => ⟨S1x4096x8x32, .f32⟩
  | .hbm, ⟨24, _⟩ => ⟨S4096x256, .f32⟩
  | .hbm, ⟨25, _⟩ => ⟨S4096x32, .f32⟩
  | .hbm, ⟨26, _⟩ => ⟨S1x4096x1x32, .f32⟩
  | .hbm, ⟨27, _⟩ => ⟨S1x4096x8x32, .f32⟩
  | .hbm, ⟨28, _⟩ => ⟨S4096x256, .f32⟩
  | .hbm, ⟨29, _⟩ => ⟨S1024x512, .f32⟩
  | .hbm, ⟨30, _⟩ => ⟨S1024x8x2x32, .f32⟩
  | .hbm, ⟨31, _⟩ => ⟨S1024x2x8x32, .f32⟩
  | .hbm, ⟨32, _⟩ => ⟨S1024x512, .f32⟩
  | .hbm, ⟨33, _⟩ => ⟨S1024x512, .f32⟩
  | .hbm, ⟨34, _⟩ => ⟨S1024x8x2x32, .f32⟩
  | .hbm, ⟨35, _⟩ => ⟨S1024x2x8x32, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x3072, .f32⟩
  | .hbm, ⟨41, _⟩ => ⟨S1024x5632, .f32⟩
  | .hbm, ⟨42, _⟩ => ⟨S1024x5632, .bf16⟩
  | .hbm, ⟨43, _⟩ => ⟨S_, .f32⟩
  | .hbm, ⟨44, _⟩ => ⟨S1024x120, .f32⟩
  | .hbm, ⟨45, _⟩ => ⟨S1024x256, .f32⟩
  | .hbm, ⟨46, _⟩ => ⟨S1024x128, .f32⟩
  | .hbm, ⟨47, _⟩ => ⟨S1024x32, .f32⟩
  | .hbm, ⟨48, _⟩ => ⟨S1x1024x1x32, .f32⟩
  | .hbm, ⟨49, _⟩ => ⟨S1x1024x4x32, .f32⟩
  | .hbm, ⟨50, _⟩ => ⟨S1024x128, .f32⟩
  | .hbm, ⟨51, _⟩ => ⟨S1024x8, .f32⟩
  | .hbm, ⟨52, _⟩ => ⟨S1024x640, .f32⟩
  | .hbm, ⟨53, _⟩ => ⟨S256x8x1x32, .f32⟩
  | .hbm, ⟨54, _⟩ => ⟨S1x256x1x8x1x1x1x32, .f32⟩
  | .hbm, ⟨55, _⟩ => ⟨S1x256x1x8x4x1x1x32, .f32⟩
  | .hbm, ⟨56, _⟩ => ⟨S256x8x4x32, .f32⟩
  | .hbm, ⟨57, _⟩ => ⟨S256x1024, .f32⟩
  | .hbm, ⟨58, _⟩ => ⟨S1024x640, .bf16⟩
  | .hbm, ⟨59, _⟩ => ⟨S256x1024, .bf16⟩
  | .hbm, ⟨60, _⟩ => ⟨S1x1024, .f32⟩
  | .hbm, ⟨61, _⟩ => ⟨S1x256, .f32⟩
  | .hbm, ⟨62, _⟩ => ⟨S1x128, .f32⟩
  | .hbm, ⟨63, _⟩ => ⟨S65536x512, .bf16⟩
  | .hbm, ⟨64, _⟩ => ⟨S65536x512, .bf16⟩
  | .hbm, ⟨65, _⟩ => ⟨S65536x512, .bf16⟩
  | .hbm, ⟨66, _⟩ => ⟨S65536x512, .bf16⟩
  | .hbm, ⟨67, _⟩ => ⟨S65536x512, .bf16⟩
  | .hbm, ⟨68, _⟩ => ⟨S65536x3072, .bf16⟩
  | .hbm, ⟨69, _⟩ => ⟨S256x8x256x128, .bf16⟩
  | .hbm, ⟨70, _⟩ => ⟨S256x8x256x128, .bf16⟩
  | .hbm, ⟨71, _⟩ => ⟨S8x65536, .f32⟩
  | .hbm, ⟨72, _⟩ => ⟨S256x256x128, .bf16⟩
  | .hbm, ⟨73, _⟩ => ⟨S256x128x256, .bf16⟩
  | .hbm, ⟨74, _⟩ => ⟨S256x256x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S1024x5632, .bf16⟩
  | .local _ .vmem, ⟨8, _⟩ => ⟨S1024x640, .bf16⟩
  | .local _ .vmem, ⟨9, _⟩ => ⟨S1x256, .f32⟩
  | .local _ .vmem, ⟨10, _⟩ => ⟨S1x128, .f32⟩
  | .local _ .vmem, ⟨11, _⟩ => ⟨S256x1024, .bf16⟩
  | .local _ .vmem, ⟨12, _⟩ => ⟨S256x1024, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x3072, .bf16⟩
  | .local _ .vmem, ⟨24, _⟩ => ⟨S256x3072, .bf16⟩
  | .local _ .vmem, ⟨25, _⟩ => ⟨S1x8x256x128, .bf16⟩
  | .local _ .vmem, ⟨26, _⟩ => ⟨S1x8x256x128, .bf16⟩
  | .local _ .vmem, ⟨27, _⟩ => ⟨S1x8x256x128, .bf16⟩
  | .local _ .vmem, ⟨28, _⟩ => ⟨S1x8x256x128, .bf16⟩
  | .local _ .vmem, ⟨29, _⟩ => ⟨S8x256, .f32⟩
  | .local _ .vmem, ⟨30, _⟩ => ⟨S8x256, .f32⟩
  | .local _ .vmem, ⟨31, _⟩ => ⟨S1x256x128, .bf16⟩
  | .local _ .vmem, ⟨32, _⟩ => ⟨S1x256x128, .bf16⟩
  | .local _ .vmem, ⟨33, _⟩ => ⟨S1x128x256, .bf16⟩
  | .local _ .vmem, ⟨34, _⟩ => ⟨S1x128x256, .bf16⟩
  | .local _ .vmem, ⟨35, _⟩ => ⟨S1x256x128, .bf16⟩
  | .local _ .vmem, ⟨36, _⟩ => ⟨S1x256x128, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53_0 : Ref sig .tc := ⟨.hbm, 63, rfl⟩
abbrev main_v53_1 : Ref sig .tc := ⟨.hbm, 64, rfl⟩
abbrev main_v53_2 : Ref sig .tc := ⟨.hbm, 65, rfl⟩
abbrev main_v53_3 : Ref sig .tc := ⟨.hbm, 66, rfl⟩
abbrev main_v53_4 : Ref sig .tc := ⟨.hbm, 67, rfl⟩
abbrev main_v53_5 : Ref sig .tc := ⟨.hbm, 68, rfl⟩
abbrev main_v53_6 : Ref sig .tc := ⟨.hbm, 69, rfl⟩
abbrev main_v53_7 : Ref sig .tc := ⟨.hbm, 70, rfl⟩
abbrev main_v53_8 : Ref sig .tc := ⟨.hbm, 71, rfl⟩
abbrev main_v53_9 : Ref sig .tc := ⟨.hbm, 72, rfl⟩
abbrev main_v53_10 : Ref sig .tc := ⟨.hbm, 73, rfl⟩
abbrev main_v53_11 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== InRefIdeal.lean ====
abbrev S65536x1024 : Shape := ⟨2, ![65536, 1024]⟩
abbrev S1024 : Shape := ⟨1, ![1024]⟩
abbrev S1024x6056 : Shape := ⟨2, ![1024, 6056]⟩
abbrev S256 : Shape := ⟨1, ![256]⟩
abbrev S128 : Shape := ⟨1, ![128]⟩
abbrev S256x8x32 : Shape := ⟨3, ![256, 8, 32]⟩
abbrev S256x1024 : Shape := ⟨2, ![256, 1024]⟩
abbrev S4096 : Shape := ⟨1, ![4096]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6056 : Shape := ⟨2, ![65536, 6056]⟩
abbrev S65536x512 : Shape := ⟨2, ![65536, 512]⟩
abbrev S65536x256 : Shape := ⟨2, ![65536, 256]⟩
abbrev S65536x128 : Shape := ⟨2, ![65536, 128]⟩
abbrev S65536x32 : Shape := ⟨2, ![65536, 32]⟩
abbrev S65536x8 : Shape := ⟨2, ![65536, 8]⟩
abbrev S65536x3072 : Shape := ⟨2, ![65536, 3072]⟩
abbrev S16x4096x8x64 : Shape := ⟨4, ![16, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S16x4096x8x32 : Shape := ⟨4, ![16, 4096, 8, 32]⟩
abbrev S65536x8x2x32 : Shape := ⟨4, ![65536, 8, 2, 32]⟩
abbrev S65536x2x8x32 : Shape := ⟨4, ![65536, 2, 8, 32]⟩
abbrev S1x256 : Shape := ⟨2, ![1, 256]⟩
abbrev S1x128 : Shape := ⟨2, ![1, 128]⟩
abbrev S256x256x128 : Shape := ⟨3, ![256, 256, 128]⟩
abbrev S256x256x8x128 : Shape := ⟨4, ![256, 256, 8, 128]⟩
abbrev S256x8x256x128 : Shape := ⟨4, ![256, 8, 256, 128]⟩
abbrev S65536x8x32 : Shape := ⟨3, ![65536, 8, 32]⟩
abbrev S65536x8x128 : Shape := ⟨3, ![65536, 8, 128]⟩
abbrev S8x65536 : Shape := ⟨2, ![8, 65536]⟩
abbrev S256x128x256 : Shape := ⟨3, ![256, 128, 256]⟩

abbrev nBuf : Space → Nat
  | .hbm => 177
  | .vmem => 0
  | .smem => 0
  | _ => 0

abbrev hbmTy0_0 (i : Nat) : BufTy := match i % 128 with
  | 0 => ⟨S65536x1024, .f32⟩
  | 1 => ⟨S1024, .f32⟩
  | 2 => ⟨S1024x6056, .f32⟩
  | 3 => ⟨S256, .f32⟩
  | 4 => ⟨S128, .f32⟩
  | 5 => ⟨S256x8x32, .f32⟩
  | 6 => ⟨S256x1024, .bf16⟩
  | 7 => ⟨S4096, .f32⟩
  | 8 => ⟨S65536x1024, .f32⟩
  | 9 => ⟨S_, .f32⟩
  | 10 => ⟨S65536, .f32⟩
  | 11 => ⟨S65536x1, .f32⟩
  | 12 => ⟨S_, .f32⟩
  | 13 => ⟨S65536x1, .f32⟩
  | 14 => ⟨S65536x1, .f32⟩
  | 15 => ⟨S_, .f32⟩
  | 16 => ⟨S65536x1, .f32⟩
  | 17 => ⟨S65536x1, .f32⟩
  | 18 => ⟨S65536x1, .f32⟩
  | 19 => ⟨S65536x1024, .f32⟩
  | 20 => ⟨S65536x1024, .f32⟩
  | 21 => ⟨S1x1024, .f32⟩
  | 22 => ⟨S65536x1024, .f32⟩
  | 23 => ⟨S65536x1024, .f32⟩
  | 24 => ⟨S65536x6056, .f32⟩
  | 25 => ⟨S65536x512, .f32⟩
  | 26 => ⟨S65536x512, .f32⟩
  | 27 => ⟨S65536x512, .f32⟩
  | 28 => ⟨S65536x512, .f32⟩
  | 29 => ⟨S65536x256, .f32⟩
  | 30 => ⟨S65536x128, .f32⟩
  | 31 => ⟨S65536x32, .f32⟩
  | 32 => ⟨S65536x8, .f32⟩
  | 33 => ⟨S65536x512, .f32⟩
  | 34 => ⟨S65536x3072, .f32⟩
  | 35 => ⟨S16x4096x8x64, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S4096x1, .f32⟩
  | 45 => ⟨S1x32, .f32⟩
  | 46 => ⟨S4096x32, .f32⟩
  | 47 => ⟨S4096x32, .f32⟩
  | 48 => ⟨S4096x32, .f32⟩
  | 49 => ⟨S4096x32, .f32⟩
  | 50 => ⟨S1x4096x1x32, .f32⟩
  | 51 => ⟨S4096x32, .f32⟩
  | 52 => ⟨S1x4096x1x32, .f32⟩
  | 53 => ⟨S16x4096x8x32, .f32⟩
  | 54 => ⟨S16x4096x8x32, .f32⟩
  | 55 => ⟨S16x4096x8x32, .f32⟩
  | 56 => ⟨S16x4096x8x32, .f32⟩
  | 57 => ⟨S16x4096x8x32, .f32⟩
  | 58 => ⟨S16x4096x8x32, .f32⟩
  | 59 => ⟨S16x4096x8x32, .f32⟩
  | 60 => ⟨S16x4096x8x32, .f32⟩
  | 61 => ⟨S16x4096x8x32, .f32⟩
  | 62 => ⟨S16x4096x8x32, .f32⟩
  | 63 => ⟨S16x4096x8x32, .f32⟩
  | 64 => ⟨S16x4096x8x32, .f32⟩
  | 65 => ⟨S16x4096x8x64, .f32⟩
  | 66 => ⟨S65536x8x2x32, .f32⟩
  | 67 => ⟨S65536x2x8x32, .f32⟩
  | 68 => ⟨S65536x512, .f32⟩
  | 69 => ⟨S65536x512, .bf16⟩
  | 70 => ⟨S16x4096x8x64, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S4096x1, .f32⟩
  | 80 => ⟨S1x32, .f32⟩
  | 81 => ⟨S4096x32, .f32⟩
  | 82 => ⟨S4096x32, .f32⟩
  | 83 => ⟨S4096x32, .f32⟩
  | 84 => ⟨S4096x32, .f32⟩
  | 85 => ⟨S1x4096x1x32, .f32⟩
  | 86 => ⟨S4096x32, .f32⟩
  | 87 => ⟨S1x4096x1x32, .f32⟩
  | 88 => ⟨S16x4096x8x32, .f32⟩
  | 89 => ⟨S16x4096x8x32, .f32⟩
  | 90 => ⟨S16x4096x8x32, .f32⟩
  | 91 => ⟨S16x4096x8x32, .f32⟩
  | 92 => ⟨S16x4096x8x32, .f32⟩
  | 93 => ⟨S16x4096x8x32, .f32⟩
  | 94 => ⟨S16x4096x8x32, .f32⟩
  | 95 => ⟨S16x4096x8x32, .f32⟩
  | 96 => ⟨S16x4096x8x32, .f32⟩
  | 97 => ⟨S16x4096x8x32, .f32⟩
  | 98 => ⟨S16x4096x8x32, .f32⟩
  | 99 => ⟨S16x4096x8x32, .f32⟩
  | 100 => ⟨S16x4096x8x64, .f32⟩
  | 101 => ⟨S_, .f32⟩
  | 102 => ⟨S16x4096x8x64, .f32⟩
  | 103 => ⟨S16x4096x8x64, .f32⟩
  | 104 => ⟨S65536x8x2x32, .f32⟩
  | 105 => ⟨S65536x2x8x32, .f32⟩
  | 106 => ⟨S65536x512, .f32⟩
  | 107 => ⟨S65536x512, .bf16⟩
  | 108 => ⟨S65536x256, .f32⟩
  | 109 => ⟨S_, .f32⟩
  | 110 => ⟨S65536, .f32⟩
  | 111 => ⟨S65536x1, .f32⟩
  | 112 => ⟨S_, .f32⟩
  | 113 => ⟨S65536x1, .f32⟩
  | 114 => ⟨S65536x1, .f32⟩
  | 115 => ⟨S_, .f32⟩
  | 116 => ⟨S65536x1, .f32⟩
  | 117 => ⟨S65536x1, .f32⟩
  | 118 => ⟨S65536x1, .f32⟩
  | 119 => ⟨S65536x256, .f32⟩
  | 120 => ⟨S65536x256, .f32⟩
  | 121 => ⟨S1x256, .f32⟩
  | 122 => ⟨S65536x256, .f32⟩
  | 123 => ⟨S65536x256, .f32⟩
  | 124 => ⟨S65536x128, .f32⟩
  | 125 => ⟨S_, .f32⟩
  | 126 => ⟨S65536, .f32⟩
  | 127 => ⟨S65536x1, .f32⟩
  | _ => ⟨S65536x1024, .f32⟩

abbrev hbmTy0_1 (i : Nat) : BufTy := match i % 128 with
  | 0 => ⟨S_, .f32⟩
  | 1 => ⟨S65536x1, .f32⟩
  | 2 => ⟨S65536x1, .f32⟩
  | 3 => ⟨S_, .f32⟩
  | 4 => ⟨S65536x1, .f32⟩
  | 5 => ⟨S65536x1, .f32⟩
  | 6 => ⟨S65536x1, .f32⟩
  | 7 => ⟨S65536x128, .f32⟩
  | 8 => ⟨S65536x128, .f32⟩
  | 9 => ⟨S1x128, .f32⟩
  | 10 => ⟨S65536x128, .f32⟩
  | 11 => ⟨S65536x128, .f32⟩
  | 12 => ⟨S256x256x128, .f32⟩
  | 13 => ⟨S256x1024, .f32⟩
  | 14 => ⟨S65536x1024, .f32⟩
  | 15 => ⟨S256x256x8x128, .f32⟩
  | 16 => ⟨S256x8x256x128, .f32⟩
  | 17 => ⟨S256x8x256x128, .bf16⟩
  | 18 => ⟨S65536x8x32, .f32⟩
  | 19 => ⟨S65536x8x32, .bf16⟩
  | 20 => ⟨S65536x8x32, .f32⟩
  | 21 => ⟨S65536x8x32, .f32⟩
  | 22 => ⟨S65536x8x32, .bf16⟩
  | 23 => ⟨S65536x8x32, .f32⟩
  | 24 => ⟨S65536x8x32, .f32⟩
  | 25 => ⟨S65536x8x128, .f32⟩
  | 26 => ⟨S256x256x8x128, .f32⟩
  | 27 => ⟨S256x8x256x128, .f32⟩
  | 28 => ⟨S256x8x256x128, .bf16⟩
  | 29 => ⟨S65536x32, .bf16⟩
  | 30 => ⟨S65536x32, .f32⟩
  | 31 => ⟨S65536x32, .f32⟩
  | 32 => ⟨S65536x32, .bf16⟩
  | 33 => ⟨S65536x32, .f32⟩
  | 34 => ⟨S65536x32, .f32⟩
  | 35 => ⟨S65536x128, .f32⟩
  | 36 => ⟨S256x256x128, .f32⟩
  | 37 => ⟨S256x256x128, .bf16⟩
  | 38 => ⟨S_, .f32⟩
  | 39 => ⟨S65536x8, .f32⟩
  | 40 => ⟨S65536x8, .f32⟩
  | 41 => ⟨S65536x512, .bf16⟩
  | 42 => ⟨S65536x512, .bf16⟩
  | 43 => ⟨S65536x512, .bf16⟩
  | 44 => ⟨S65536x3072, .bf16⟩
  | 45 => ⟨S8x65536, .f32⟩
  | 46 => ⟨S256x256x128, .bf16⟩
  | 47 => ⟨S256x128x256, .f32⟩
  | 48 => ⟨S256x128x256, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_4 : Ref sig .tc := ⟨.hbm, 73, rfl⟩
abbrev main_v61 : Ref sig .tc := ⟨.hbm, 74, rfl⟩
abbrev main_v62 : Ref sig .tc := ⟨.hbm, 75, rfl⟩
abbrev main_cst_5 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_cst_6 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_7 : Ref sig .tc := ⟨.hbm, 109, rfl⟩
abbrev main_v94 : Ref sig .tc := ⟨.hbm, 110, rfl⟩
abbrev main_v95 : Ref sig .tc := ⟨.hbm, 111, rfl⟩
abbrev main_cst_8 : Ref sig .tc := ⟨.hbm, 112, rfl⟩
abbrev main_v96 : Ref sig .tc := ⟨.hbm, 113, rfl⟩
abbrev main_v97 : Ref sig .tc := ⟨.hbm, 114, rfl⟩
abbrev main_cst_9 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_10 : Ref sig .tc := ⟨.hbm, 125, rfl⟩
abbrev main_v107 : Ref sig .tc := ⟨.hbm, 126, rfl⟩
abbrev main_v108 : Ref sig .tc := ⟨.hbm, 127, rfl⟩
abbrev main_cst_11 : Ref sig .tc := ⟨.hbm, 128, rfl⟩
abbrev main_v109 : Ref sig .tc := ⟨.hbm, 129, rfl⟩
abbrev main_v110 : Ref sig .tc := ⟨.hbm, 130, rfl⟩
abbrev main_cst_12 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_13 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩

abbrev nD : Nat := 1
abbrev τ : Topo := Topo.v7x

variable {F : FTy → Type} [FloatOps F]
-- ==== Memkv.lean ====
abbrev S16x256x1024 : Shape := ⟨3, ![16, 256, 1024]⟩
abbrev S1024 : Shape := ⟨1, ![1024]⟩
abbrev S1024x1024 : Shape := ⟨2, ![1024, 1024]⟩
abbrev S1x1024 : Shape := ⟨2, ![1, 1024]⟩
abbrev S16x256x512 : Shape := ⟨3, ![16, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S16x256x512, .bf16⟩
  | .hbm, ⟨6, _⟩ => ⟨S16x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvRefIdeal.lean ====
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x512 : Shape := ⟨3, ![16, 256, 512]⟩

abbrev nBuf : Space → Nat
  | .hbm => 24
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | .hbm, ⟨20, _⟩ => ⟨S16x256x512, .f32⟩
  | .hbm, ⟨21, _⟩ => ⟨S16x256x512, .f32⟩
  | .hbm, ⟨22, _⟩ => ⟨S16x256x512, .bf16⟩
  | .hbm, ⟨23, _⟩ => ⟨S16x256x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.MlpBlock.lean ====
/- One row of the feed-forward layer as a function of the extended reals, and the proof that the kernel's block computes it. -/
module

public import proofs.«01_k».proof.Defs
public import proofs.«01_k».proof.Proof.Gen.MlpIdeal.Value
public import Idealize.ShloMosaic.Lib.Pointwise
public import Idealize.ShloMosaic.PureOps.Ideal
public import Idealize.ShloMosaic.Lib.Pipeline.Value

@[expose] public section

noncomputable section

namespace Cert.Proof.Mlp

open Idealize.ShloMosaic
open scoped BigOperators

/-- A row of 1024 entries divided by its root mean square (with the two constants as the programs print them) and scaled. -/
def rms (x w : Fin 1024 → EReal) (c : Fin 1024) : EReal :=
  x c * Ideal.rsqrt (Ideal.div (∑ k, x k * x k) (Ideal.ofBits FTy.f32 0x44800000#32) + Ideal.ofBits FTy.f32 0x358637BD#32) * w c

/-- The squared rectifier of one hidden unit. -/
def hid (h : Fin 1024 → EReal) (w1 : Fin 1024 → Fin 4096 → EReal) (k : Fin 4096) : EReal :=
  max (∑ d, h d * w1 d k) 0 * max (∑ d, h d * w1 d k) 0

/-- The row plus the feed-forward layer of its normalization. -/
def res (x w : Fin 1024 → EReal) (w1 : Fin 1024 → Fin 4096 → EReal) (w2 : Fin 4096 → Fin 1024 → EReal) (c : Fin 1024) : EReal :=
  x c + ∑ k, hid (rms x w) w1 k * w2 k c

/-- The result row. -/
def row (x w : Fin 1024 → EReal) (w1 : Fin 1024 → Fin 4096 → EReal) (w2 : Fin 4096 → Fin 1024 → EReal) (wf : Fin 1024 → EReal) :
    Fin 1024 → EReal :=
  rms (res x w w1 w2) wf

/-- A sum over 4096 terms in four consecutive pieces of 1024. -/
theorem sum_four {M : Type*} [AddCommMonoid M] (f : Fin 4096 → M) :
    ∑ k, f k = ∑ k : Fin 1024, f ⟨k, by omega⟩ + ∑ k : Fin 1024, f ⟨1024 + k, by omega⟩ + ∑ k : Fin 1024, f ⟨2048 + k, by omega⟩
      + ∑ k : Fin 1024, f ⟨3072 + k, by omega⟩ := by
  have h1 := Fin.sum_univ_add (a := 3072) (b := 1024) f
  have h2 := Fin.sum_univ_add (a := 2048) (b := 1024) (fun i => f (Fin.castAdd 1024 i))
  have h3 := Fin.sum_univ_add (a := 1024) (b := 1024) (fun i => f (Fin.castAdd 1024 (Fin.castAdd 1024 i)))
  rw [h1, h2, h3]; rfl

/-- The row with the hidden units taken in four consecutive pieces. -/
theorem res_eq (x w : Fin 1024 → EReal) (w1 : Fin 1024 → Fin 4096 → EReal) (w2 : Fin 4096 → Fin 1024 → EReal) :
    res x w w1 w2 = fun c => x c + (∑ k : Fin 1024, hid (rms x w) w1 ⟨k, by omega⟩ * w2 ⟨k, by omega⟩ c
      + ∑ k : Fin 1024, hid (rms x w) w1 ⟨1024 + k, by omega⟩ * w2 ⟨1024 + k, by omega⟩ c
      + ∑ k : Fin 1024, hid (rms x w) w1 ⟨2048 + k, by omega⟩ * w2 ⟨2048 + k, by omega⟩ c
      + ∑ k : Fin 1024, hid (rms x w) w1 ⟨3072 + k, by omega⟩ * w2 ⟨3072 + k, by omega⟩ c) :=
  funext fun c => congrArg (x c + ·) (sum_four _)

end Cert.Proof.Mlp

namespace Cert.MlpIdeal.Spec

open Idealize.ShloMosaic Idealize.ShloMosaic.TcCoe Idealize.SL.Sem Cert.MlpIdeal Cert.MlpIdeal.Gen Cert.Proof.Mlp

set_option maxRecDepth 16384

theorem pay1_apply (x : FVec Ideal S512x1024 .f32) (w : FVec Ideal S1x1024 .f32) (r : Fin 512) (c : Fin 1024) :
    k0_pay1 (F := Ideal) x w (ix2 r c) = rms (fun k => x (ix2 r k)) (fun k => w (ix2 0 k)) c := by
  pointwise [k0_pay1, rms]

theorem hz : (![0, 0] : Fin 2 → Nat) = fun _ => 0 := funext fun a => by fin_cases a <;> rfl

/-- What the body leaves at row `r`, column `c` of its block. -/
theorem out_apply (x0 : FVec Ideal S512x1024 .f32) (x1 : FVec Ideal S1x1024 .f32) (x2 : FVec Ideal S1024x4096 .bf16)
    (x3 : FVec Ideal S4096x1024 .bf16) (x4 : FVec Ideal S1x1024 .f32) (r : Fin 512) (c : Fin 1024) :
    out0_5 (F := Ideal) x0 x1 x2 x3 x4 (ix2 r c)
      = row (fun k => x0 (ix2 r k)) (fun k => x1 (ix2 0 k)) (fun d k => x2 (ix2 d k)) (fun k e => x3 (ix2 k e)) (fun k => x4 (ix2 0 k)) c := by
  unfold out0_5
  rw [View.canon_unit_zero hz, View.ld_unit_zero hz, View.ld_unit_zero hz, View.ld_unit_zero hz]
  pointwise [k0_pay2, k0_pay3, k0_pay4, k0_pay5]
  simp only [pay1_apply, row, res_eq, hid]
  rfl

variable (m : (ℓ : Loc nD τ sig) → Buf (Elt Ideal) ℓ)

/-- The result array as a function of the argument arrays, row by row. -/
def result (a0 : FVec Ideal S65536x1024 .f32) (a1 : FVec Ideal S1024 .f32) (a2 : FVec Ideal S1024x4096 .f32)
    (a3 : FVec Ideal S4096x1024 .f32) (a4 : FVec Ideal S1024 .f32) : FVec Ideal S65536x1024 .f32 :=
  fun i => row (fun k => a0 (ix2 (i 0) k)) (fun k => a1 (ix1 k)) (fun d k => a2 (ix2 d k)) (fun k e => a3 (ix2 k e)) (fun k => a4 (ix1 k)) (i 1)

/-- The block indices of the windows that are cut out of an array: block `t` on the rows, the whole of the columns. -/
theorem idx_rows : ∀ t : Fin cfg0.N, win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

/-- The windows that hold a whole array stand at its first entry. -/
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem lt_points (t : Fin cfg0.N) : t.val < 128 := by
  have h : cfg0.N = 128 := N_0
  have := t.isLt; omega

/-- Row `r` of block `t` is row `512 t + r` of the array. -/
def rowAt (t : Fin cfg0.N) (r : Fin 512) : Fin 65536 := ⟨512 * t.val + r.val, by have := lt_points t; omega⟩

theorem blk0 (c : Dev nD) (t : Fin cfg0.N) (r : Fin 512) (k : Fin 1024) :
    iblk m c 0 t (ix2 r k) = m ((c : Thread nD τ).loc main_arg0) (ix2 (rowAt t r) k) := by
  rw [← V_main_arg0 m c]
  show V m c main_arg0 (((cfg0.win 0).blk t).view.emb (ix2 r k)) = _
  congr 1
  obtain ⟨e0, e1, -, -⟩ := idx_rows t
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (c : Dev nD) (t : Fin cfg0.N) (k : Fin 1024) :
    iblk m c 1 t (ix2 0 k) = m ((c : Thread nD τ).loc main_arg1) (ix1 k) := by
  show V m c main_v0 (((cfg0.win 1).blk t).view.emb (ix2 0 k)) = _
  have h : ((cfg0.win 1).blk t).view.emb (ix2 0 k) = ix2 0 k := by
    obtain ⟨⟨e0, e1⟩, -⟩ := idx_whole t
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  rw [h]
  entry_read
  pointwise

theorem blk2 (c : Dev nD) (t : Fin cfg0.N) (d : Fin 1024) (k : Fin 4096) :
    iblk m c 2 t (ix2 d k) = m ((c : Thread nD τ).loc main_arg2) (ix2 d k) := by
  show V m c main_v1 (((cfg0.win 2).blk t).view.emb (ix2 d k)) = _
  have h : ((cfg0.win 2).blk t).view.emb (ix2 d k) = ix2 d k := by
    obtain ⟨-, ⟨e0, e1⟩, -⟩ := idx_whole t
    funext a; apply Fin.ext
    match a with
    | ⟨0, _⟩ => show win0_2.index t (0 : Fin 2) * 1024 + 1 * d.val = d.val; omega
    | ⟨1, _⟩ => show win0_2.index t (1 : Fin 2) * 4096 + 1 * k.val = k.val; omega
  rw [h]
  entry_read
  pointwise

theorem blk3 (c : Dev nD) (t : Fin cfg0.N) (d : Fin 4096) (k : Fin 1024) :
    iblk m c 3 t (ix2 d k) = m ((c : Thread nD τ).loc main_arg3) (ix2 d k) := by
  show V m c main_v2 (((cfg0.win 3).blk t).view.emb (ix2 d k)) = _
  have h : ((cfg0.win 3).blk t).view.emb (ix2 d k) = ix2 d k := by
    obtain ⟨-, -, ⟨e0, e1⟩, -⟩ := idx_whole t
    funext a; apply Fin.ext
    match a with
    | ⟨0, _⟩ => show win0_3.index t (0 : Fin 2) * 4096 + 1 * d.val = d.val; omega
    | ⟨1, _⟩ => show win0_3.index t (1 : Fin 2) * 1024 + 1 * k.val = k.val; omega
  rw [h]
  entry_read
  pointwise

theorem blk4 (c : Dev nD) (t : Fin cfg0.N) (k : Fin 1024) :
    iblk m c 4 t (ix2 0 k) = m ((c : Thread nD τ).loc main_arg4) (ix1 k) := by
  show V m c main_v3 (((cfg0.win 4).blk t).view.emb (ix2 0 k)) = _
  have h : ((cfg0.win 4).blk t).view.emb (ix2 0 k) = ix2 0 k := by
    obtain ⟨-, -, -, ⟨e0, e1⟩⟩ := idx_whole t
    funext a; apply Fin.ext
    match a with
    | ⟨0, _⟩ => show win0_4.index t (0 : Fin 2) * 1 + 1 * 0 = 0; omega
    | ⟨1, _⟩ => show win0_4.index t (1 : Fin 2) * 1024 + 1 * k.val = k.val; omega
  rw [h]
  entry_read
  pointwise

/-- The result array of the launch memory `m`. -/
abbrev resultOf (c : Dev nD) : FVec Ideal S65536x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4))

theorem emb5 (t : Fin cfg0.N) (r : Fin 512) (k : Fin 1024) :
    ((cfg0.win 5).blk t).view.emb (ix2 r k) = ix2 (rowAt t r) k := by
  obtain ⟨-, -, e0, e1⟩ := idx_rows t
  funext a; apply Fin.ext
  match a with
  | ⟨0, _⟩ => show win0_5.index t (0 : Fin 2) * 512 + 1 * r.val = 512 * t.val + r.val; omega
  | ⟨1, _⟩ => show win0_5.index t (1 : Fin 2) * 1024 + 1 * k.val = k.val; omega

/-- What point `t` writes back is its block of the result. -/
theorem flushed_eq (c : Dev nD) (t : Fin cfg0.N) :
    (dats m 0 c).flushed 5 t = ((cfg0.win 5).blk t).view.read (Elt Ideal) (resultOf m c) := by
  rw [Value.flushed5]
  funext j
  obtain ⟨r, k, rfl⟩ : ∃ (r : Fin 512) (k : Fin 1024), j = ix2 r k := ⟨j 0, j 1, eq_ix2 j⟩
  show out0_5 (iblk m c 0 t) (iblk m c 1 t) (iblk m c 2 t) (iblk m c 3 t) (iblk m c 4 t) (ix2 r k)
    = resultOf m c (((cfg0.win 5).blk t).view.emb (ix2 r k))
  rw [emb5, out_apply]
  simp only [blk0, blk1, blk2, blk3, blk4]
  rfl

/-- Every index of the result array lies in the block of one of the points. -/
theorem covered (i : S65536x1024.Idx) : ∃ t : Fin cfg0.N, (cfg0.win 5).flush t = true ∧ i ∈ ((cfg0.win 5).blk t).view.set := by
  obtain ⟨a, b, rfl⟩ : ∃ (a : Fin 65536) (b : Fin 1024), i = ix2 a b := ⟨i 0, i 1, eq_ix2 i⟩
  let t : Fin cfg0.N := ⟨a.val / 512, by rw [show cfg0.N = 128 from N_0]; omega⟩
  refine ⟨t, flush0_5 _, ?_⟩
  have h := ((cfg0.win 5).blk t).view.emb_mem_set (ix2 (⟨a.val % 512, Nat.mod_lt _ (by decide)⟩ : Fin 512) b)
  have e : rowAt t ⟨a.val % 512, Nat.mod_lt _ (by decide)⟩ = a := Fin.ext (by
    show 512 * (a.val / 512) + a.val % 512 = a.val
    omega)
  have h5 := emb5 t ⟨a.val % 512, Nat.mod_lt _ (by decide)⟩ b
  rw [e] at h5
  exact h5 ▸ h

/-- The result array after the run. -/
theorem final (c : Dev nD) : (dats m 0 c).arrAt 5 cfg0.N = resultOf m c :=
  (dats m 0 c).arrAt_eq_of_cover 5 (resultOf m c) (fun t _ => flushed_eq m c t) covered

end Cert.MlpIdeal.Spec
end
-- ==== Proof.MlpRef.lean ====
/- The plain feed-forward layer computes the same rows. -/
module

public import proofs.«01_k».proof.Proof.MlpBlock
public import proofs.«01_k».proof.Proof.Gen.MlpRefIdeal.Run
public import proofs.«01_k».proof.Proof.Gen.MlpRefIdeal.Read

@[expose] public section

noncomputable section

namespace Cert.MlpRefIdeal.Spec

open Idealize.ShloMosaic Cert.MlpRefIdeal Cert.MlpRefIdeal.Gen Cert.MlpRefIdeal.Read Cert.Proof.Mlp

set_option maxRecDepth 16384

variable (x0 : FVec Ideal S65536x1024 .f32) (x1 : FVec Ideal S1024 .f32) (x2 : FVec Ideal S1024x4096 .f32)
    (x3 : FVec Ideal S4096x1024 .f32) (x4 : FVec Ideal S1024 .f32)

theorem v12_apply (r : Fin 65536) (c : Fin 1024) :
    val_main_v12 (F := Ideal) x0 x1 (ix2 r c) = rms (fun k => x0 (ix2 r k)) (fun k => x1 (ix1 k)) c := by
  unfold val_main_v12 val_main_v9 val_main_v8 val_main_v7 val_main_v6 val_main_v5 val_main_v4 val_main_v3 val_main_v2 val_main_v1 val_main_v0 val_main_v11 val_main_v10
    val_main_cst val_main_cst_0 val_main_cst_1
  pointwise [rms]

theorem v17_apply (r : Fin 65536) (c : Fin 1024) :
    val_main_v17 (F := Ideal) x0 x1 x2 x3 (ix2 r c)
      = res (fun k => x0 (ix2 r k)) (fun k => x1 (ix1 k)) (fun d k => x2 (ix2 d k)) (fun k e => x3 (ix2 k e)) c := by
  unfold val_main_v17 val_main_v16 val_main_v15 val_main_v14 val_main_v13 val_main_call0_v0 val_main_call0_cst
  pointwise
  simp only [v12_apply, res, hid]

theorem v30_apply (r : Fin 65536) (c : Fin 1024) :
    val_main_v30 (F := Ideal) x0 x1 x2 x3 x4 (ix2 r c)
      = row (fun k => x0 (ix2 r k)) (fun k => x1 (ix1 k)) (fun d k => x2 (ix2 d k)) (fun k e => x3 (ix2 k e)) (fun k => x4 (ix1 k)) c := by
  unfold val_main_v30 val_main_v27 val_main_v26 val_main_v25 val_main_v24 val_main_v23 val_main_v22 val_main_v21 val_main_v20 val_main_v19 val_main_v18 val_main_v29 val_main_v28
    val_main_cst_2 val_main_cst_3 val_main_cst_4
  pointwise
  simp only [v17_apply]
  rfl

/-- The reference's result is the same function of the arguments as the kernel's. -/
theorem result_eq : val_main_v30 (F := Ideal) x0 x1 x2 x3 x4 = Cert.MlpIdeal.Spec.result x0 x1 x2 x3 x4 := by
  funext i
  obtain ⟨r, k, rfl⟩ : ∃ (r : Fin 65536) (k : Fin 1024), i = ix2 r k := ⟨i 0, i 1, eq_ix2 i⟩
  rw [v30_apply]; rfl

end Cert.MlpRefIdeal.Spec
end
-- ==== Proof.MlpClaim.lean ====
/- The claims about the feed-forward layer: the runs of the kernel and of the plain computation, and the equality of their results. -/
module

public import proofs.«01_k».proof.Proof.MlpRef
public import proofs.«01_k».proof.Proof.Gen.Mlp.Frame

@[expose] public section

noncomputable section

namespace Cert.Proof.Mlp

open Idealize.ShloMosaic Idealize.SL.Sem

theorem frame_ref : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem algebraic : Cert.algebraic_MlpIdeal_MlpRefIdeal := by
  intro m g m' g' _ hagree
  refine ⟨fun c => Cert.MlpIdeal.Spec.resultOf m c, ?_, ?_⟩
  · exact (θ_run Cert.MlpIdeal.defs _ _).mono (fun _ h c => ⟨(h c).1.trans (Cert.MlpIdeal.Spec.final m c), (h c).2⟩)
      (Cert.MlpIdeal.Value.run_blocks (F := Ideal) m g)
  · refine (θ_run Cert.MlpRefIdeal.defs _ _).mono (fun _ h c => ⟨(h c).1.trans ?_, (h c).2⟩) (Cert.MlpRefIdeal.Value.run (F := Ideal) m' g')
    obtain ⟨e0, e1, e2, e3, e4⟩ := hagree c
    rw [Cert.MlpRefIdeal.Read.val_main_v30_eq, e0, e1, e2, e3, e4]
    exact Cert.MlpRefIdeal.Spec.result_eq _ _ _ _ _

end Cert.Proof.Mlp
end
-- ==== Proof.RetReal.lean ====
/- The retention layer over the real numbers: decay weights, the running state and the weighted sum it computes. -/
module

public import Idealize.ShloMosaic.Lib.Pointwise
public import Idealize.ShloMosaic.Lib.IdealHost
public import Idealize.ShloMosaic.PureOps.Ideal

@[expose] public section

noncomputable section

namespace Cert.Proof.Ret

open Idealize.ShloMosaic
open scoped BigOperators

/-- The logarithm of 2, rounded as the programs print it. -/
def ln2 : ℝ := 11629080 / 2 ^ 24

/-- The logarithm of head `h`'s decay. -/
def lg (h : ℕ) : ℝ := Real.log (1 - Real.exp (ln2 * (-5 - h)))

theorem bits_ln2 : Ideal.ofBits FTy.f32 1060205080#32 = ((ln2 : ℝ) : EReal) := by
  simp [Ideal.ofBits, Ideal.ieee, ln2, -EReal.coe_mul]; norm_num

theorem bits_m5 : Ideal.ofBits FTy.f32 3231711232#32 = ((-5 : ℝ) : EReal) := by
  simp [Ideal.ofBits, Ideal.ieee, -EReal.coe_mul, -EReal.coe_neg]; norm_num

theorem bits_255 : Ideal.ofBits FTy.f32 1132396544#32 = ((255 : ℝ) : EReal) := by
  simp [Ideal.ofBits, Ideal.ieee, -EReal.coe_mul]; norm_num

theorem bits_256 : Ideal.ofBits FTy.f32 1132462080#32 = ((256 : ℝ) : EReal) := by
  simp [Ideal.ofBits, Ideal.ieee, -EReal.coe_mul]; norm_num

theorem bits_64 : Ideal.ofBits FTy.f32 1115684864#32 = ((64 : ℝ) : EReal) := by
  simp [Ideal.ofBits, Ideal.ieee, -EReal.coe_mul]; norm_num

theorem bits_63 : Ideal.ofBits FTy.f32 1115422720#32 = ((63 : ℝ) : EReal) := by
  simp [Ideal.ofBits, Ideal.ieee, -EReal.coe_mul]; norm_num

/-- The programs' expression for a head's logarithm is the real number `lg h`. -/
theorem lg_eq (h : ℕ) : Ideal.log1p (-Ideal.exp (Ideal.ofBits FTy.f32 1060205080#32 * (Ideal.ofBits FTy.f32 3231711232#32 - ((h : ℝ) : EReal))))
    = ((lg h : ℝ) : EReal) := by
  have hlt : Real.exp (ln2 * (-5 - h)) < 1 := by
    rw [Real.exp_lt_one_iff]
    have : (0 : ℝ) ≤ h := Nat.cast_nonneg h
    have : (0 : ℝ) < ln2 := by unfold ln2; norm_num
    nlinarith
  rw [bits_ln2, bits_m5, ← EReal.coe_sub, ← EReal.coe_mul, Ideal.exp_coe, ← EReal.coe_neg]
  show Ideal.log (1 + _) = _
  rw [← EReal.coe_one, ← EReal.coe_add, Ideal.log_coe, if_neg (by linarith)]
  rfl

/-- The head of a query or key lane, and of a value lane. -/
def hk (l : ℕ) : ℕ := l % 256 / 32
def hv (e : ℕ) : ℕ := e / 64

/-- The lane of entry `d` of head `h`'s query. -/
def lane (h : Fin 8) (d : Fin 64) : Fin 512 := ⟨d.val / 32 * 256 + 32 * h.val + d.val % 32, by omega⟩

theorem sum_lane (h : Fin 8) (f : Fin 512 → ℝ) : ∑ d : Fin 64, f (lane h d) = ∑ l : Fin 512, if hk l = h.val then f l else 0 := by
  rw [← Finset.sum_filter]
  refine Finset.sum_bij (fun d _ => lane h d) ?_ ?_ ?_ ?_
  · intro d _
    rw [Finset.mem_filter]
    refine ⟨Finset.mem_univ _, ?_⟩
    simp only [hk, lane]; omega
  · intro a _ b _ hab
    have := congrArg Fin.val hab
    simp only [lane] at this
    apply Fin.ext; omega
  · intro l hl
    have hl := (Finset.mem_filter.mp hl).2
    simp only [hk] at hl
    exact ⟨⟨l.val / 256 * 32 + l.val % 32, by omega⟩, Finset.mem_univ _, Fin.ext (by simp only [lane]; omega)⟩
  · intros; rfl

variable (Q K V : ℕ → ℕ → ℝ)

/-- Head `h`'s product of the query at position `t` and the key at position `s`. -/
def qk (t s h : ℕ) : ℝ := ∑ l : Fin 512, if hk l = h then Q t l * K s l else 0

/-- The retention at position `t`, lane `e`: the positions up to the end of the query's chunk of 64, weighted by the decay over their distance. -/
def ret (t e : ℕ) : ℝ :=
  ∑ s ∈ Finset.range (64 * (t / 64) + 64), Real.exp (lg (hv e) * |(t : ℝ) - s|) * qk Q K t s (hv e) * V s e

/-- The state after the first `n` positions. -/
def state (n l e : ℕ) : ℝ := ∑ s ∈ Finset.range n, Real.exp (lg (hv e) * ((n : ℝ) - 1 - s)) * K s l * V s e

theorem state_zero (l e : ℕ) : state K V 0 l e = 0 := by simp [state]

/-- `p` further positions. -/
theorem state_add (n p l e : ℕ) : state K V (n + p) l e
    = Real.exp (lg (hv e) * p) * state K V n l e
      + ∑ j : Fin p, Real.exp (lg (hv e) * ((p : ℝ) - 1 - (j : ℕ))) * K (n + j) l * V (n + j) e := by
  unfold state
  rw [Finset.sum_range_add, Finset.mul_sum]
  congr 1
  · refine Finset.sum_congr rfl fun s _ => ?_
    rw [← mul_assoc, ← mul_assoc, ← Real.exp_add]
    congr 3
    push_cast; ring_nf
  · rw [Finset.sum_range]
    refine Finset.sum_congr rfl fun j _ => ?_
    congr 3
    push_cast; ring_nf

/-- What the positions before `n` give the query at position `n + i`, read off the state. -/
theorem cross_eq (n i e : ℕ) :
    (∑ l : Fin 512, if hk l = hv e then Q (n + i) l * Real.exp (lg (hv e) * ((i : ℝ) + 1)) * state K V n l e else 0)
      = ∑ s ∈ Finset.range n, Real.exp (lg (hv e) * |((n + i : ℕ) : ℝ) - s|) * qk Q K (n + i) s (hv e) * V s e := by
  have h1 : ∀ s ∈ Finset.range n, Real.exp (lg (hv e) * |((n + i : ℕ) : ℝ) - s|) * qk Q K (n + i) s (hv e) * V s e
      = ∑ l : Fin 512, if hk l = hv e then Q (n + i) l * Real.exp (lg (hv e) * ((i : ℝ) + 1))
          * (Real.exp (lg (hv e) * ((n : ℝ) - 1 - s)) * K s l * V s e) else 0 := by
    intro s hs
    have hs : s < n := Finset.mem_range.mp hs
    have hd : |((n + i : ℕ) : ℝ) - s| = (i + 1 : ℝ) + (n - 1 - s) := by
      rw [abs_of_nonneg]
      · push_cast; ring
      · have : (s : ℝ) ≤ n := by exact_mod_cast hs.le
        have : (0 : ℝ) ≤ i := Nat.cast_nonneg i
        push_cast; linarith
    rw [hd, mul_add, Real.exp_add]
    unfold qk
    rw [Finset.mul_sum, Finset.sum_mul]
    refine Finset.sum_congr rfl fun l _ => ?_
    split_ifs
    · ring
    · ring
  rw [Finset.sum_congr rfl h1, Finset.sum_comm]
  refine Finset.sum_congr rfl fun l _ => ?_
  split_ifs
  · unfold state; rw [Finset.mul_sum]
  · simp

/-- The retention as what lies before position `n`, a multiple of 64, and what lies in the `p` positions from there, masked past the query's chunk. -/
theorem ret_split (a n p i e : ℕ) (hn : n = 64 * a) (hi : i < p) (hp : 64 ∣ p) :
    ret Q K V (n + i) e
      = (∑ j : Fin p, (if j.val / 64 ≤ i / 64 then Real.exp (lg (hv e) * |(i : ℝ) - (j : ℕ)|) else 0) * qk Q K (n + i) (n + j) (hv e) * V (n + j) e)
        + ∑ s ∈ Finset.range n, Real.exp (lg (hv e) * |((n + i : ℕ) : ℝ) - s|) * qk Q K (n + i) s (hv e) * V s e := by
  unfold ret
  have h0 : 64 * ((n + i) / 64) + 64 = n + (64 * (i / 64) + 64) := by omega
  rw [h0, Finset.sum_range_add, add_comm]
  congr 1
  rw [← Finset.sum_range (fun j => (if j / 64 ≤ i / 64 then Real.exp (lg (hv e) * |(i : ℝ) - (j : ℕ)|) else 0) * qk Q K (n + i) (n + j) (hv e) * V (n + j) e)]
  have hle : 64 * (i / 64) + 64 ≤ p := by omega
  rw [← Finset.sum_subset (Finset.range_subset_range.mpr hle)]
  · refine Finset.sum_congr rfl fun j hj => ?_
    have hj := Finset.mem_range.mp hj
    rw [if_pos (by omega)]
    congr 5
    push_cast; ring
  · intro j _ hj
    have : ¬ j / 64 ≤ i / 64 := by
      intro h; exact hj (Finset.mem_range.mpr (by omega))
    rw [if_neg this, zero_mul, zero_mul]

/-- The group mean and variance over the 64 lanes of lane `e`'s head. -/
def mean (o : ℕ → ℝ) (e : ℕ) : ℝ := (∑ d : Fin 64, o (64 * (e / 64) + d)) / 64

theorem sum_group (f : Fin 512 → ℝ) (g : Fin 8) : (∑ l : Fin 512, if l.val / 64 = g.val then f l else 0) = ∑ d : Fin 64, f ⟨64 * g.val + d.val, by omega⟩ := by
  rw [← Finset.sum_filter]
  symm
  refine Finset.sum_bij (fun d _ => (⟨64 * g.val + d.val, by omega⟩ : Fin 512)) ?_ ?_ ?_ ?_
  · intro d _
    rw [Finset.mem_filter]
    refine ⟨Finset.mem_univ _, ?_⟩
    show (64 * g.val + d.val) / 64 = g.val; omega
  · intro a _ b _ hab
    have := congrArg Fin.val hab
    simp only at this
    apply Fin.ext; omega
  · intro l hl
    have hl := (Finset.mem_filter.mp hl).2
    exact ⟨⟨l.val % 64, by omega⟩, Finset.mem_univ _, Fin.ext (by show 64 * g.val + l.val % 64 = l.val; omega)⟩
  · intros; rfl

end Cert.Proof.Ret
end
-- ==== Proof.RetTable.lean ====
/- The constant tables of the retention call, as real numbers: decay weights, head indicators, the averaging matrix. -/
module

public import proofs.«01_k».proof.Defs
public import proofs.«01_k».proof.Proof.RetReal
public import proofs.«01_k».proof.Proof.Gen.RetIdeal.Value
public import Idealize.ShloMosaic.Lib.StableHlo.ReadAt

@[expose] public section

noncomputable section

namespace Cert.RetIdeal.Spec

open Idealize.ShloMosaic Idealize.ShloMosaic.TcCoe Idealize.SL.Sem Cert.RetIdeal Cert.RetIdeal.Gen Cert.Proof.Ret

set_option maxRecDepth 16384

/-- Floor division of words as the host line spells it. -/
def fdivW (x d : BitVec 32) : BitVec 32 :=
  Scalar.select
    (IntOp.andi (IntOp.cmpi CmpIPredicate.ne (if x = 0 then 0 else if x.msb = true then -1 else 1 : BitVec 32) (if d = 0 then 0 else if d.msb = true then -1 else 1 : BitVec 32))
      (IntOp.cmpi CmpIPredicate.ne (IntOp.remsi ArithUnit.host x d) 0#32))
    (IntOp.subi (IntOp.divsi ArithUnit.host x d) 1#32) (IntOp.divsi ArithUnit.host x d)

/-- The divisor of a remainder as the host line spells it. -/
def divisorW (d : BitVec 32) : BitVec 32 := Scalar.select (IntOp.cmpi CmpIPredicate.eq d 0#32) (1#32) d

/-- The remainder of words as the host line spells it. -/
def remW (x d : BitVec 32) : BitVec 32 :=
  Scalar.select
    (IntOp.andi (IntOp.cmpi CmpIPredicate.ne (IntOp.cmpi CmpIPredicate.slt (IntOp.remsi ArithUnit.host x (divisorW d)) 0#32)
        (IntOp.cmpi CmpIPredicate.slt (divisorW d) 0#32))
      (IntOp.cmpi CmpIPredicate.ne (IntOp.remsi ArithUnit.host x (divisorW d)) 0#32))
    (IntOp.addi (IntOp.remsi ArithUnit.host x (divisorW d)) (divisorW d)) (IntOp.remsi ArithUnit.host x (divisorW d))

/-- The chunk of a row within a tile of 256, as the host line computes it. -/
def rowW (t : ℕ) : BitVec 32 := fdivW (BitVec.ofNat 32 t) (id (constantI S_ 32 64#32) ix0)

/-- The value head of a lane, as the host line computes it. -/
def hvW (l : ℕ) : BitVec 32 := fdivW (BitVec.ofNat 32 l) (id (constantI S_ 32 64#32) ix0)

/-- The key head of a lane, as the host line computes it. -/
def hkW (l : ℕ) : BitVec 32 :=
  fdivW (remW (BitVec.ofNat 32 l) (id (constantI S_ 32 256#32) ix0)) (id (constantI S_ 32 32#32) ix0)

theorem word_row : ∀ t : Fin 256, rowW t = BitVec.ofNat 32 (t / 64) := by decide +kernel

theorem word_hv : ∀ l : Fin 512, hvW l = BitVec.ofNat 32 (hv l) := by decide +kernel

theorem word_hk : ∀ l : Fin 512, hkW l = BitVec.ofNat 32 (hk l) := by decide +kernel

theorem hk_lt (l : ℕ) : hk l < 8 := by unfold hk; omega

theorem hv_lt (l : Fin 512) : hv l < 8 := by unfold hv; omega

/-- Two small words compared and read as a number. -/
theorem eq_word {a b : ℕ} (ha : a < 8) (hb : b < 8) :
    (FloatOps.uitofp FTy.f32 (IntOp.cmpi CmpIPredicate.eq (BitVec.ofNat 32 a) (BitVec.ofNat 32 b)) : Ideal FTy.f32) = (((if a = b then 1 else 0 : ℝ)) : EReal) := by
  have h : ∀ a b : Fin 8, (IntOp.cmpi CmpIPredicate.eq (BitVec.ofNat 32 a) (BitVec.ofNat 32 b)).toNat = if a.val = b.val then 1 else 0 := by decide +kernel
  show (((IntOp.cmpi CmpIPredicate.eq (BitVec.ofNat 32 a) (BitVec.ofNat 32 b)).toNat : ℝ) : EReal) = _
  have h' := h ⟨a, ha⟩ ⟨b, hb⟩
  simp only at h'
  rw [h']
  split_ifs <;> norm_num

/-- The number a signed word stands for. -/
def num (w : BitVec 32) : EReal := ((w.toInt : ℝ) : EReal)

/-- A small word read as a number. -/
theorem toInt_word {a : ℕ} (ha : a < 2 ^ 31) : num (BitVec.ofNat 32 a) = ((a : ℝ) : EReal) := by
  show (((BitVec.ofNat 32 a).toInt : ℝ) : EReal) = _
  rw [BitVec.toInt_ofNat', Int.bmod_eq_of_le (by omega) (by omega)]
  norm_num

variable (m : (ℓ : Loc nD τ sig) → Buf (Elt Ideal) ℓ) (c : Dev nD)

theorem tab_hv (h : Fin 8) (l : Fin 512) : (V m c main_v80 : FVec Ideal S8x1x512 .f32) (ix3 h 0 l) = ((if hv l = h.val then 1 else 0 : ℝ) : EReal) := by
  after_reads_at
  show (FloatOps.uitofp FTy.f32 (IntOp.cmpi CmpIPredicate.eq (hvW l) (BitVec.ofNat 32 h)) : Ideal FTy.f32) = _
  rw [word_hv, eq_word (hv_lt l) h.isLt]

theorem tab_hk (h : Fin 8) (l : Fin 512) : (V m c main_v100 : FVec Ideal S8x1x512 .bf16) (ix3 h 0 l) = ((if hk l = h.val then 1 else 0 : ℝ) : EReal) := by
  after_reads_at
  show (FloatOps.uitofp FTy.f32 (IntOp.cmpi CmpIPredicate.eq (hkW l) (BitVec.ofNat 32 h)) : Ideal FTy.f32) = _
  rw [word_hk, eq_word (hk_lt l) h.isLt]

theorem tab_mean (l e : Fin 512) : (V m c main_v101 : FVec Ideal S512x512 .bf16) (ix2 l e) = (((if hv l = hv e then 1 else 0) * (1 / 64) : ℝ) : EReal) := by
  after_reads_at
  show Ideal.div (FloatOps.uitofp FTy.f32 (IntOp.cmpi CmpIPredicate.eq (hvW l) (hvW e)) : Ideal FTy.f32) (Ideal.ofBits FTy.f32 1115684864#32) = _
  rw [word_hv, word_hv, eq_word (hv_lt l) (hv_lt e), bits_64, Ideal.div_coe (by norm_num), ← EReal.coe_mul]

theorem tab_block (l e : Fin 512) : (V m c main_v86 : FVec Ideal S512x512 .f32) (ix2 l e) = ((if hk l = hv e then 1 else 0 : ℝ) : EReal) := by
  after_reads_at
  show (FloatOps.uitofp FTy.f32 (IntOp.cmpi CmpIPredicate.eq (hkW l) (hvW e)) : Ideal FTy.f32) = _
  rw [word_hk, word_hv, eq_word (hk_lt l) (hv_lt e)]

theorem tab_query (t : Fin 256) (l : Fin 512) : (V m c main_v57 : FVec Ideal S256x512 .f32) (ix2 t l) = ((Real.exp (lg (hk l) * (t.val + 1)) : ℝ) : EReal) := by
  after_reads_at
  show Ideal.exp (Ideal.log1p (-Ideal.exp (Ideal.ofBits FTy.f32 1060205080#32 * (Ideal.ofBits FTy.f32 3231711232#32 - num (hkW l)))) * (num (BitVec.ofNat 32 t) + 1)) = _
  rw [word_hk, toInt_word (lt_trans (hk_lt l) (by norm_num)), lg_eq, toInt_word (by omega)]
  rw [← EReal.coe_one, ← EReal.coe_add, ← EReal.coe_mul, Ideal.exp_coe]

theorem tab_key (t : Fin 256) (l : Fin 512) : (V m c main_v65 : FVec Ideal S256x512 .f32) (ix2 t l) = ((Real.exp (lg (hk l) * (255 - t.val)) : ℝ) : EReal) := by
  after_reads_at
  show Ideal.exp (Ideal.log1p (-Ideal.exp (Ideal.ofBits FTy.f32 1060205080#32 * (Ideal.ofBits FTy.f32 3231711232#32 - num (hkW l)))) * (Ideal.ofBits FTy.f32 1132396544#32 - num (BitVec.ofNat 32 t))) = _
  rw [word_hk, toInt_word (lt_trans (hk_lt l) (by norm_num)), lg_eq, toInt_word (by omega)]
  rw [bits_255, ← EReal.coe_sub, ← EReal.coe_mul, Ideal.exp_coe]

theorem tab_step (l e : Fin 512) : (V m c main_v91 : FVec Ideal S512x512 .f32) (ix2 l e) = ((Real.exp (lg (hk l) * 256) : ℝ) : EReal) := by
  after_reads_at
  show Ideal.exp (Ideal.log1p (-Ideal.exp (Ideal.ofBits FTy.f32 1060205080#32 * (Ideal.ofBits FTy.f32 3231711232#32 - num (hkW l)))) * Ideal.ofBits FTy.f32 1132462080#32) = _
  rw [word_hk, toInt_word (lt_trans (hk_lt l) (by norm_num)), lg_eq, bits_256, ← EReal.coe_mul, Ideal.exp_coe]

theorem mask_word : ∀ a b : Fin 4, IntOp.ori (IntOp.cmpi CmpIPredicate.eq (BitVec.ofNat 32 a) (BitVec.ofNat 32 b))
    (IntOp.cmpi CmpIPredicate.slt (BitVec.ofNat 32 b) (BitVec.ofNat 32 a)) = if b.val ≤ a.val then 1#1 else 0#1 := by decide +kernel

theorem same_word : ∀ a b : Fin 4, IntOp.cmpi CmpIPredicate.eq (BitVec.ofNat 32 a) (BitVec.ofNat 32 b) = if a.val = b.val then 1#1 else 0#1 := by decide +kernel

theorem toInt_sub (t s : Fin 256) : num (IntOp.subi (BitVec.ofNat 32 t) (BitVec.ofNat 32 s)) = (((t.val : ℝ) - s.val : ℝ) : EReal) := by
  have h : (IntOp.subi (BitVec.ofNat 32 t) (BitVec.ofNat 32 s)).toInt = (t.val : ℤ) - s.val := by
    show (BitVec.ofNat 32 t - BitVec.ofNat 32 s).toInt = _
    rw [BitVec.toInt_sub, BitVec.toInt_ofNat', BitVec.toInt_ofNat', Int.bmod_eq_of_le (n := (t.val : ℤ)) (by omega) (by omega),
      Int.bmod_eq_of_le (n := (s.val : ℤ)) (by omega) (by omega), Int.bmod_eq_of_le (by omega) (by omega)]
  show (((IntOp.subi (BitVec.ofNat 32 t) (BitVec.ofNat 32 s)).toInt : ℝ) : EReal) = _
  rw [h]; push_cast; rfl

/-- The absolute value. -/
def absE (x : Ideal FTy.f32) : Ideal FTy.f32 := FloatOps.absf x

theorem tab_decay (h : Fin 8) (t s : Fin 256) : (V m c main_v36 : FVec Ideal S8x256x256 .f32) (ix3 h t s)
    = ((if s.val / 64 ≤ t.val / 64 then Real.exp (lg h * |(t.val : ℝ) - s.val|) else 0 : ℝ) : EReal) := by
  after_reads_at
  refine Eq.trans (b := (Scalar.select (IntOp.ori (IntOp.cmpi CmpIPredicate.eq (rowW t) (rowW s)) (IntOp.cmpi CmpIPredicate.slt (rowW s) (rowW t)))
    (Ideal.exp (Ideal.log1p (-Ideal.exp (Ideal.ofBits FTy.f32 1060205080#32 * (Ideal.ofBits FTy.f32 3231711232#32 - num (BitVec.ofNat 32 h)))) * Scalar.select (α := EReal) (IntOp.cmpi CmpIPredicate.eq (rowW t) (rowW s))
      (absE (num (IntOp.subi (BitVec.ofNat 32 t) (BitVec.ofNat 32 s))))
      (num (IntOp.subi (BitVec.ofNat 32 t) (BitVec.ofNat 32 s))))) (Ideal.ofBits FTy.f32 0#32) : EReal)) ?_ ?_
  · rfl
  have h1 := mask_word ⟨t.val / 64, by omega⟩ ⟨s.val / 64, by omega⟩
  have h2 := same_word ⟨t.val / 64, by omega⟩ ⟨s.val / 64, by omega⟩
  simp only at h1 h2
  rw [word_row, word_row, h1, h2, toInt_word (lt_trans h.isLt (by norm_num)), lg_eq, toInt_sub]
  have habs : absE (((t.val : ℝ) - s.val : ℝ) : EReal) = ((|(t.val : ℝ) - s.val| : ℝ) : EReal) := rfl
  by_cases hle : s.val / 64 ≤ t.val / 64
  · rw [if_pos hle, if_pos hle, Scalar.select, if_pos (by decide)]
    by_cases heq : t.val / 64 = s.val / 64
    · rw [if_pos heq, Scalar.select, if_pos (by decide)]
      show Ideal.exp (_ * absE (((t.val : ℝ) - s.val : ℝ) : EReal)) = _
      rw [habs, ← EReal.coe_mul, Ideal.exp_coe]
    · rw [if_neg heq, Scalar.select, if_neg (by decide)]
      show Ideal.exp (_ * (((t.val : ℝ) - s.val : ℝ) : EReal)) = _
      rw [abs_of_nonneg, ← EReal.coe_mul, Ideal.exp_coe]
      have : s.val ≤ t.val := by omega
      have : (s.val : ℝ) ≤ t.val := by exact_mod_cast this
      linarith
  · rw [if_neg hle, if_neg hle]
    show Ideal.ofBits FTy.f32 0#32 = _
    simp

end Cert.RetIdeal.Spec
end
-- ==== Proof.RetBlock.lean ====
/- One tile of the retention kernel over the real numbers: the weighted sums within the tile, the state it hands on,
   the group norm and the gate. -/
module

public import proofs.«01_k».proof.Defs
public import proofs.«01_k».proof.Proof.RetReal
public import proofs.«01_k».proof.Proof.Gen.RetIdeal.Value
public import Idealize.ShloMosaic.Lib.Pointwise
public import Idealize.ShloMosaic.Lib.Pipeline.ValueKit

@[expose] public section

noncomputable section

namespace Cert.RetIdeal.Spec

open Idealize.ShloMosaic Idealize.ShloMosaic.TcCoe Idealize.SL.Sem Cert.RetIdeal Cert.RetIdeal.Gen Cert.Proof.Ret
open scoped BigOperators

set_option maxRecDepth 16384

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The weight of row `x` in row `r` of one tile, for head `h`. -/
def dec (h r x : ℕ) : ℝ := if x / 64 ≤ r / 64 then Real.exp (lg h * |(r : ℝ) - x|) else 0

/-- Head `h`'s weighted sum within a tile, on the lanes of that head alone. -/
def headR (Q K W : ℕ → ℕ → ℝ) (h r e : ℕ) : ℝ :=
  (∑ x : Fin 256, qk Q K r x h * dec h r x * W x e) * (if hv e = h then 1 else 0)

/-- The weighted sum within a tile. -/
def intraR (Q K W : ℕ → ℕ → ℝ) (r e : ℕ) : ℝ := ∑ x : Fin 256, qk Q K r x (hv e) * dec (hv e) r x * W x e

theorem headR_pair (Q K W : ℕ → ℕ → ℝ) (h r e : ℕ) (he : hv e = h ∨ hv e = h + 1) :
    headR Q K W h r e + headR Q K W (h + 1) r e = intraR Q K W r e := by
  unfold headR intraR
  rcases he with he | he
  · rw [if_pos he, if_neg (by omega), he]; ring
  · rw [if_neg (by omega), if_pos he, he]; ring

theorem sum_four (f : ℕ → ℝ) : ∑ l : Fin 512, f l
    = ((∑ j : Fin 128, f j) + ∑ j : Fin 128, f (128 + j)) + ((∑ j : Fin 128, f (256 + j)) + ∑ j : Fin 128, f (384 + j)) := by
  rw [← Finset.sum_range f, ← Finset.sum_range f, ← Finset.sum_range (fun j => f (128 + j)), ← Finset.sum_range (fun j => f (256 + j)),
    ← Finset.sum_range (fun j => f (384 + j)), ← Finset.sum_range_add f 128 128]
  have h2 : (∑ j ∈ Finset.range 128, f (256 + j)) + ∑ j ∈ Finset.range 128, f (384 + j) = ∑ j ∈ Finset.range 256, f (256 + j) := by
    rw [show (256 : ℕ) = 128 + 128 from rfl, Finset.sum_range_add (fun j => f (128 + 128 + j)) 128 128]
    refine congrArg₂ (· + ·) rfl (Finset.sum_congr rfl fun j _ => ?_)
    rw [show 384 + j = 128 + 128 + (128 + j) by omega]
  rw [h2, ← Finset.sum_range_add f 256 256]

theorem qk_low (Q K : ℕ → ℕ → ℝ) (r x h : ℕ) (hh : h < 4) :
    (∑ j : Fin 128, Q r j * (if hk j = h then 1 else 0) * K x j) + ∑ j : Fin 128, Q r (256 + j) * (if hk (256 + j) = h then 1 else 0) * K x (256 + j)
      = qk Q K r x h := by
  unfold qk
  rw [sum_four (fun l => if hk l = h then Q r l * K x l else 0)]
  have z1 : (∑ j : Fin 128, if hk (128 + j) = h then Q r (128 + j) * K x (128 + j) else 0) = 0 :=
    Finset.sum_eq_zero fun j _ => if_neg (by unfold hk; omega)
  have z2 : (∑ j : Fin 128, if hk (384 + j) = h then Q r (384 + j) * K x (384 + j) else 0) = 0 :=
    Finset.sum_eq_zero fun j _ => if_neg (by unfold hk; omega)
  rw [z1, z2, add_zero, add_zero]
  refine congrArg₂ (· + ·) (Finset.sum_congr rfl fun j _ => ?_) (Finset.sum_congr rfl fun j _ => ?_) <;> split_ifs <;> ring

theorem qk_high (Q K : ℕ → ℕ → ℝ) (r x h : ℕ) (hh : 4 ≤ h) :
    (∑ j : Fin 128, Q r (128 + j) * (if hk (128 + j) = h then 1 else 0) * K x (128 + j)) + ∑ j : Fin 128, Q r (384 + j) * (if hk (384 + j) = h then 1 else 0) * K x (384 + j)
      = qk Q K r x h := by
  unfold qk
  rw [sum_four (fun l => if hk l = h then Q r l * K x l else 0)]
  have z1 : (∑ j : Fin 128, if hk j = h then Q r j * K x j else 0) = 0 :=
    Finset.sum_eq_zero fun j _ => if_neg (by unfold hk; omega)
  have z2 : (∑ j : Fin 128, if hk (256 + j) = h then Q r (256 + j) * K x (256 + j) else 0) = 0 :=
    Finset.sum_eq_zero fun j _ => if_neg (by unfold hk; omega)
  rw [z1, z2, zero_add, zero_add]
  refine congrArg₂ (· + ·) (Finset.sum_congr rfl fun j _ => ?_) (Finset.sum_congr rfl fun j _ => ?_) <;> split_ifs <;> ring

/-- The three input tiles hold the reals `Q`, `K`, `W`. -/
structure Tile (q k v : Vec Ideal S256x512 .bf16) (Q K W : ℕ → ℕ → ℝ) : Prop where
  q : ∀ (r : Fin 256) (l : Fin 512), q (ix2 r l) = ((Q r l : ℝ) : EReal)
  k : ∀ (r : Fin 256) (l : Fin 512), k (ix2 r l) = ((K r l : ℝ) : EReal)
  v : ∀ (r : Fin 256) (l : Fin 512), v (ix2 r l) = ((W r l : ℝ) : EReal)

/-- The three table rows of head `h`: key lanes, weights, value lanes. -/
structure HeadTab (h : ℕ) (a : Vec Ideal S1x1x512 .bf16) (b : Vec Ideal S1x256x256 .f32) (d : Vec Ideal S1x1x512 .f32) : Prop where
  a : ∀ l : Fin 512, a (ix3 0 0 l) = ((if hk l = h then 1 else 0 : ℝ) : EReal)
  b : ∀ r x : Fin 256, b (ix3 0 r x) = ((dec h r x : ℝ) : EReal)
  d : ∀ l : Fin 512, d (ix3 0 0 l) = ((if hv l = h then 1 else 0 : ℝ) : EReal)

section heads

variable {q k v : Vec Ideal S256x512 .bf16} {Q K W : ℕ → ℕ → ℝ} (T : Tile q k v Q K W)
variable {a : Vec Ideal S1x1x512 .bf16} {b : Vec Ideal S1x256x256 .f32} {d : Vec Ideal S1x1x512 .f32} {h : ℕ} (H : HeadTab h a b d)

include T H in
theorem inner_low (hh : h < 4) (r x : Fin 256) {p1 : ∀ j : Fin 128, j.val < 512} {p2 : ∀ j : Fin 128, 256 + j.val < 512} :
    (∑ j : Fin 128, (q (ix2 r ⟨j, p1 j⟩) * a (ix3 0 0 ⟨j, p1 j⟩) * k (ix2 x ⟨j, p1 j⟩) : EReal))
      + ∑ j : Fin 128, (q (ix2 r ⟨256 + j, p2 j⟩) * a (ix3 0 0 ⟨256 + j, p2 j⟩) * k (ix2 x ⟨256 + j, p2 j⟩) : EReal) = ((qk Q K r x h : ℝ) : EReal) := by
  rw [← qk_low Q K r x h hh, EReal.coe_add, coe_sum, coe_sum]
  simp only [T.q, T.k, H.a, EReal.coe_mul]

include T H in
theorem inner_high (hh : 4 ≤ h) (r x : Fin 256) {p1 : ∀ j : Fin 128, 128 + j.val < 512} {p2 : ∀ j : Fin 128, 384 + j.val < 512} :
    (∑ j : Fin 128, (q (ix2 r ⟨128 + j, p1 j⟩) * a (ix3 0 0 ⟨128 + j, p1 j⟩) * k (ix2 x ⟨128 + j, p1 j⟩) : EReal))
      + ∑ j : Fin 128, (q (ix2 r ⟨384 + j, p2 j⟩) * a (ix3 0 0 ⟨384 + j, p2 j⟩) * k (ix2 x ⟨384 + j, p2 j⟩) : EReal) = ((qk Q K r x h : ℝ) : EReal) := by
  rw [← qk_high Q K r x h hh, EReal.coe_add, coe_sum, coe_sum]
  simp only [T.q, T.k, H.a, EReal.coe_mul]

include T H in
theorem head_low (hh : h < 4) (r : Fin 256) (e : ℕ) (he : e < 512) {p1 : ∀ j : Fin 128, j.val < 512} {p2 : ∀ j : Fin 128, 256 + j.val < 512} :
    (∑ x : Fin 256, ((∑ j : Fin 128, q (ix2 r ⟨j, p1 j⟩) * a (ix3 0 0 ⟨j, p1 j⟩) * k (ix2 x ⟨j, p1 j⟩))
      + ∑ j : Fin 128, q (ix2 r ⟨256 + j, p2 j⟩) * a (ix3 0 0 ⟨256 + j, p2 j⟩) * k (ix2 x ⟨256 + j, p2 j⟩)) * b (ix3 0 r x) * v (ix2 x ⟨e, he⟩) : EReal)
      * d (ix3 0 0 ⟨e, he⟩) = ((headR Q K W h r e : ℝ) : EReal) := by
  unfold headR
  rw [H.d, EReal.coe_mul, coe_sum]
  refine congrArg₂ (· * ·) (Finset.sum_congr rfl fun x _ => ?_) rfl
  rw [inner_low T H hh r x, H.b, T.v, EReal.coe_mul, EReal.coe_mul]

include T H in
theorem head_high (hh : 4 ≤ h) (r : Fin 256) (e : ℕ) (he : e < 512) {p1 : ∀ j : Fin 128, 128 + j.val < 512} {p2 : ∀ j : Fin 128, 384 + j.val < 512} :
    (∑ x : Fin 256, ((∑ j : Fin 128, q (ix2 r ⟨128 + j, p1 j⟩) * a (ix3 0 0 ⟨128 + j, p1 j⟩) * k (ix2 x ⟨128 + j, p1 j⟩))
      + ∑ j : Fin 128, q (ix2 r ⟨384 + j, p2 j⟩) * a (ix3 0 0 ⟨384 + j, p2 j⟩) * k (ix2 x ⟨384 + j, p2 j⟩)) * b (ix3 0 r x) * v (ix2 x ⟨e, he⟩) : EReal)
      * d (ix3 0 0 ⟨e, he⟩) = ((headR Q K W h r e : ℝ) : EReal) := by
  unfold headR
  rw [H.d, EReal.coe_mul, coe_sum]
  refine congrArg₂ (· * ·) (Finset.sum_congr rfl fun x _ => ?_) rfl
  rw [inner_high T H hh r x, H.b, T.v, EReal.coe_mul, EReal.coe_mul]

variable {a' : Vec Ideal S1x1x512 .bf16} {b' : Vec Ideal S1x256x256 .f32} {d' : Vec Ideal S1x1x512 .f32}

include T in
theorem lanes0 (H : HeadTab 0 a b d) (H' : HeadTab 1 a' b' d') (r : Fin 256) (c : Fin 128) :
    k0_pay5 k v (k0_pay3 q k v a b d) (k0_pay4 q a') b' d' (ix2 r c) = ((intraR Q K W r c : ℝ) : EReal) := by
  rw [← headR_pair Q K W 0 r c (by unfold hv; omega), EReal.coe_add]
  pointwise [k0_pay5, k0_pay3, k0_pay4]
  exact congrArg₂ (· + ·) (head_low T H (by omega) r c (by omega)) (head_low T H' (by omega) r c (by omega))

include T in
theorem lanes1 (H : HeadTab 2 a b d) (H' : HeadTab 3 a' b' d') (r : Fin 256) (c : Fin 128) :
    k0_pay9 q k v k0_pay6 (k0_pay7 q k v a b) (k0_pay8 d) a' b' d' (ix2 r c) = ((intraR Q K W r (128 + c) : ℝ) : EReal) := by
  rw [← headR_pair Q K W 2 r (128 + c) (by unfold hv; omega), EReal.coe_add]
  pointwise [k0_pay9, k0_pay6, k0_pay7, k0_pay8]
  exact congrArg₂ (· + ·) (head_low T H (by omega) r (128 + c) (by omega)) (head_low T H' (by omega) r (128 + c) (by omega))

include T in
theorem lanes2 (H : HeadTab 4 a b d) (H' : HeadTab 5 a' b' d') (r : Fin 256) (c : Fin 128) :
    k0_pay12 q k v k0_pay10 (k0_pay11 q k a b) d a' b' d' (ix2 r c) = ((intraR Q K W r (256 + c) : ℝ) : EReal) := by
  rw [← headR_pair Q K W 4 r (256 + c) (by unfold hv; omega), EReal.coe_add]
  pointwise [k0_pay12, k0_pay10, k0_pay11]
  exact congrArg₂ (· + ·) (head_high T H (by omega) r (256 + c) (by omega)) (head_high T H' (by omega) r (256 + c) (by omega))

include T in
theorem lanes (H : HeadTab 6 a b d) (H' : HeadTab 7 a' b' d') (o0 o1 o2 : FVec Ideal S256x128 .f32)
    (h0 : ∀ (r : Fin 256) (c : Fin 128), o0 (ix2 r c) = ((intraR Q K W r c : ℝ) : EReal))
    (h1 : ∀ (r : Fin 256) (c : Fin 128), o1 (ix2 r c) = ((intraR Q K W r (128 + c) : ℝ) : EReal))
    (h2 : ∀ (r : Fin 256) (c : Fin 128), o2 (ix2 r c) = ((intraR Q K W r (256 + c) : ℝ) : EReal)) (r : Fin 256) (e : Fin 512) :
    k0_pay16 q k v o0 o1 o2 k0_pay13 (k0_pay14 q a) (k0_pay15 k) b d a' b' d' (ix2 r e) = ((intraR Q K W r e : ℝ) : EReal) := by
  pointwise [k0_pay16, k0_pay13, k0_pay14, k0_pay15]
  by_cases c0 : e.val < 128
  · exact (dif_pos c0).trans (h0 r _)
  refine (dif_neg c0).trans ?_
  by_cases c1 : e.val - 128 < 128
  · refine ((dif_pos c1).trans (h1 r _)).trans ?_
    show ((intraR Q K W r (128 + (e.val - 128)) : ℝ) : EReal) = _
    rw [show 128 + (e.val - 128) = e.val by omega]
  refine (dif_neg c1).trans ?_
  by_cases c2 : e.val - 128 - 128 < 128
  · refine ((dif_pos c2).trans (h2 r _)).trans ?_
    show ((intraR Q K W r (256 + (e.val - 128 - 128)) : ℝ) : EReal) = _
    rw [show 256 + (e.val - 128 - 128) = e.val by omega]
  refine (dif_neg c2).trans ?_
  have hx : 384 + (e.val - 128 - 128 - 128) = e.val := by omega
  refine (congrArg₂ (· + ·) (head_high T H (by omega) r (384 + (e.val - 128 - 128 - 128)) (by omega))
    (head_high T H' (by omega) r (384 + (e.val - 128 - 128 - 128)) (by omega))).trans ?_
  rw [hx, ← headR_pair Q K W 6 r e (by unfold hv; omega), EReal.coe_add]

end heads

section rest

variable {q k v : Vec Ideal S256x512 .bf16} {Q K W : ℕ → ℕ → ℝ} (T : Tile q k v Q K W)
variable (S : ℕ → ℕ → ℝ) (s : Vec Ideal S512x512 .f32) (hs : ∀ l e : Fin 512, s (ix2 l e) = ((if hk l = hv e then S l e else 0 : ℝ) : EReal))

/-- The state after one tile, from the state before it. -/
def stepR (K W S : ℕ → ℕ → ℝ) (l e : ℕ) : ℝ :=
  S l e * Real.exp (lg (hk l) * 256) + ∑ x : Fin 256, K x l * Real.exp (lg (hk l) * (255 - (x : ℕ))) * W x e

include T hs in
theorem next_state (kd : Vec Ideal S256x512 .f32) (cd bd : Vec Ideal S512x512 .f32)
    (hkd : ∀ (t : Fin 256) (l : Fin 512), kd (ix2 t l) = ((Real.exp (lg (hk l) * (255 - t.val)) : ℝ) : EReal))
    (hcd : ∀ l e : Fin 512, cd (ix2 l e) = ((Real.exp (lg (hk l) * 256) : ℝ) : EReal))
    (hbd : ∀ l e : Fin 512, bd (ix2 l e) = ((if hk l = hv e then 1 else 0 : ℝ) : EReal)) (l e : Fin 512) :
    k0_pay17 k v s kd cd bd (ix2 l e) = ((if hk l = hv e then stepR K W S l e else 0 : ℝ) : EReal) := by
  pointwise [k0_pay17]
  rw [hs, hcd, hbd]
  simp only [T.k, T.v, hkd, ← EReal.coe_mul, ← coe_sum, ← EReal.coe_add]
  unfold stepR
  split_ifs <;> simp

/-- The weighted sum of the tile and of the state before it. -/
def totalR (Q K W S : ℕ → ℕ → ℝ) (r e : ℕ) : ℝ :=
  intraR Q K W r e + ∑ l : Fin 512, if hk l = hv e then Q r l * Real.exp (lg (hk l) * ((r : ℝ) + 1)) * S l e else 0

theorem mean_sum (f : ℕ → ℝ) (e : Fin 512) : ∑ x : Fin 512, f x * ((if hv x = hv e then 1 else 0) * (1 / 64)) = mean f e := by
  unfold mean
  have h := sum_group (fun l => f l) ⟨hv e, by unfold hv; omega⟩
  simp only at h
  rw [show e.val / 64 = hv e from rfl, ← h, Finset.sum_div]
  refine Finset.sum_congr rfl fun x _ => ?_
  rw [show hv x = x.val / 64 from rfl]
  split_ifs <;> ring

variable (o : FVec Ideal S256x512 .f32) (ho : ∀ (r : Fin 256) (e : Fin 512), o (ix2 r e) = ((intraR Q K W r e : ℝ) : EReal))
variable (qd : Vec Ideal S256x512 .f32) (hqd : ∀ (t : Fin 256) (l : Fin 512), qd (ix2 t l) = ((Real.exp (lg (hk l) * (t.val + 1)) : ℝ) : EReal))
variable (p : Vec Ideal S512x512 .bf16) (hp : ∀ l e : Fin 512, p (ix2 l e) = (((if hv l = hv e then 1 else 0) * (1 / 64) : ℝ) : EReal))

include T hs ho hqd in
theorem total_eq (r : Fin 256) (e : Fin 512) :
    (o (ix2 r e) + ∑ x : Fin 512, q (ix2 r x) * qd (ix2 r x) * s (ix2 x e) : EReal) = ((totalR Q K W S r e : ℝ) : EReal) := by
  unfold totalR
  rw [ho, EReal.coe_add, coe_sum]
  refine congrArg₂ (· + ·) rfl (Finset.sum_congr rfl fun l _ => ?_)
  rw [T.q, hqd, hs, ← EReal.coe_mul, ← EReal.coe_mul]
  split_ifs <;> simp

include T hs ho hqd hp in
theorem centred_eq (r : Fin 256) (e : Fin 512) :
    k0_pay19 q o s qd p (ix2 r e) = ((totalR Q K W S r e - mean (totalR Q K W S r) e : ℝ) : EReal) := by
  pointwise [k0_pay19, k0_pay18]
  simp only [total_eq T S s hs o ho qd hqd, hp, ← EReal.coe_sub, ← EReal.coe_mul, ← coe_sum, ← EReal.coe_add, mean_sum]
  simp

include T hs ho hqd hp in
theorem spread_eq (r : Fin 256) (e : Fin 512) :
    k0_pay20 q o s qd p (ix2 r e)
      = ((mean (fun x => (totalR Q K W S r x - mean (totalR Q K W S r) x) * (totalR Q K W S r x - mean (totalR Q K W S r) x)) e : ℝ) : EReal)
        + Ideal.ofBits FTy.f32 925353388#32 := by
  pointwise [k0_pay20, k0_pay18]
  refine congrArg₂ (· + ·) ?_ rfl
  rw [← mean_sum, coe_sum]
  refine Finset.sum_congr rfl fun x _ => ?_
  rw [centred_eq T S s hs o ho qd hqd p hp, hp, ← EReal.coe_mul, ← EReal.coe_mul]

/-- The group norm of a row `o`, gated by `g`. -/
def gated (o : ℕ → ℝ) (e : ℕ) (g : EReal) : EReal :=
  g * Ideal.logistic g * (((o e - mean o e : ℝ) : EReal)
    * Ideal.rsqrt (((mean (fun x => (o x - mean o x) * (o x - mean o x)) e : ℝ) : EReal) + Ideal.ofBits FTy.f32 925353388#32))

include T hs ho hqd hp in
theorem out_eq (g : Vec Ideal S256x512 .bf16) (r : Fin 256) (e : Fin 512) :
    k0_pay1 (k0_pay19 q o s qd p) (k0_pay20 q o s qd p) g (ix2 r e) = gated (totalR Q K W S r) e (g (ix2 r e)) := by
  pointwise [k0_pay1]
  rw [centred_eq T S s hs o ho qd hqd p hp, spread_eq T S s hs o ho qd hqd p hp]
  rfl

end rest

end Cert.RetIdeal.Spec
end
-- ==== Proof.RetKernel.lean ====
/- The retention kernel's run: the state carried over the tiles of a batch, and the result array. -/
module

public import Idealize.ShloMosaic.Lib.Pipeline.ReadBack
public import proofs.«01_k».proof.Proof.RetTable
public import proofs.«01_k».proof.Proof.RetBlock

@[expose] public section

noncomputable section

namespace Cert.Proof.Ret

open Idealize.ShloMosaic

/-- Row `t` of batch `b` of an argument array, as real numbers. -/
def realOf (a : Shape.Idx ⟨2, ![65536, 512]⟩ → EReal) (b t l : ℕ) : ℝ :=
  (a (ix2 ⟨(4096 * b + t) % 65536, Nat.mod_lt _ (by decide)⟩ ⟨l % 512, Nat.mod_lt _ (by decide)⟩)).toReal

/-- No entry of the array is infinite. -/
def Fin' (a : Shape.Idx ⟨2, ![65536, 512]⟩ → EReal) : Prop := ∀ i, a i = ((a i).toReal : EReal)

end Cert.Proof.Ret

namespace Cert.RetIdeal.Spec

open Idealize.ShloMosaic Idealize.ShloMosaic.TcCoe Idealize.SL.Sem Cert.RetIdeal Cert.RetIdeal.Gen Cert.Proof.Ret
open scoped BigOperators

set_option maxRecDepth 16384

/-- The weighted sums within a tile as the kernel's payloads compose them. -/
def intraOf (x0 x1 x2 : Vec Ideal S256x512 .bf16) (x4 : Vec Ideal S8x256x256 .f32) (x7 : Vec Ideal S8x1x512 .bf16) (x8 : Vec Ideal S8x1x512 .f32) :
    FVec Ideal S256x512 .f32 :=
  k0_pay16 x0 x1 x2
    (k0_pay5 x1 x2 (k0_pay3 x0 x1 x2 (View.ld x7 (Rect.unit ![0, 0, 0] ![1, 1, 512] inb_S8x1x512_S1x1x512_0_0_0)) (View.ld x4 (Rect.unit ![0, 0, 0] ![1, 256, 256] inb_S8x256x256_S1x256x256_0_0_0)) (View.ld x8 (Rect.unit ![0, 0, 0] ![1, 1, 512] inb_S8x1x512_S1x1x512_0_0_0)))
      (k0_pay4 x0 (View.ld x7 (Rect.unit ![1, 0, 0] ![1, 1, 512] inb_S8x1x512_S1x1x512_1_0_0))) (View.ld x4 (Rect.unit ![1, 0, 0] ![1, 256, 256] inb_S8x256x256_S1x256x256_1_0_0)) (View.ld x8 (Rect.unit ![1, 0, 0] ![1, 1, 512] inb_S8x1x512_S1x1x512_1_0_0)))
    (k0_pay9 x0 x1 x2 k0_pay6 (k0_pay7 x0 x1 x2 (View.ld x7 (Rect.unit ![2, 0, 0] ![1, 1, 512] inb_S8x1x512_S1x1x512_2_0_0)) (View.ld x4 (Rect.unit ![2, 0, 0] ![1, 256, 256] inb_S8x256x256_S1x256x256_2_0_0)))
      (k0_pay8 (View.ld x8 (Rect.unit ![2, 0, 0] ![1, 1, 512] inb_S8x1x512_S1x1x512_2_0_0))) (View.ld x7 (Rect.unit ![3, 0, 0] ![1, 1, 512] inb_S8x1x512_S1x1x512_3_0_0)) (View.ld x4 (Rect.unit ![3, 0, 0] ![1, 256, 256] inb_S8x256x256_S1x256x256_3_0_0)) (View.ld x8 (Rect.unit ![3, 0, 0] ![1, 1, 512] inb_S8x1x512_S1x1x512_3_0_0)))
    (k0_pay12 x0 x1 x2 k0_pay10 (k0_pay11 x0 x1 (View.ld x7 (Rect.unit ![4, 0, 0] ![1, 1, 512] inb_S8x1x512_S1x1x512_4_0_0)) (View.ld x4 (Rect.unit ![4, 0, 0] ![1, 256, 256] inb_S8x256x256_S1x256x256_4_0_0)))
      (View.ld x8 (Rect.unit ![4, 0, 0] ![1, 1, 512] inb_S8x1x512_S1x1x512_4_0_0)) (View.ld x7 (Rect.unit ![5, 0, 0] ![1, 1, 512] inb_S8x1x512_S1x1x512_5_0_0)) (View.ld x4 (Rect.unit ![5, 0, 0] ![1, 256, 256] inb_S8x256x256_S1x256x256_5_0_0)) (View.ld x8 (Rect.unit ![5, 0, 0] ![1, 1, 512] inb_S8x1x512_S1x1x512_5_0_0)))
    k0_pay13 (k0_pay14 x0 (View.ld x7 (Rect.unit ![6, 0, 0] ![1, 1, 512] inb_S8x1x512_S1x1x512_6_0_0))) (k0_pay15 x1)
    (View.ld x4 (Rect.unit ![6, 0, 0] ![1, 256, 256] inb_S8x256x256_S1x256x256_6_0_0)) (View.ld x8 (Rect.unit ![6, 0, 0] ![1, 1, 512] inb_S8x1x512_S1x1x512_6_0_0)) (View.ld x7 (Rect.unit ![7, 0, 0] ![1, 1, 512] inb_S8x1x512_S1x1x512_7_0_0)) (View.ld x4 (Rect.unit ![7, 0, 0] ![1, 256, 256] inb_S8x256x256_S1x256x256_7_0_0)) (View.ld x8 (Rect.unit ![7, 0, 0] ![1, 1, 512] inb_S8x1x512_S1x1x512_7_0_0))

variable (m : (ℓ : Loc nD τ sig) → Buf (Elt Ideal) ℓ) (c : Dev nD)

theorem lt_points (t : Fin cfg0.N) : t.val < 256 := by
  have h : cfg0.N = 256 := N_0
  have := t.isLt; omega

/-- Row `r` of tile `t` is row `256 t + r` of the array. -/
def rowAt (t : Fin cfg0.N) (r : Fin 256) : Fin 65536 := ⟨256 * t.val + r.val, by have := lt_points t; omega⟩

theorem idx_rows0 : ∀ t : Fin cfg0.N, win0_0.index t (0 : Fin 2) = t.val ∧ win0_0.index t (1 : Fin 2) = 0 :=
  (by decide +kernel : ∀ t : Fin grid0.N, _)

theorem idx_rows1 : ∀ t : Fin cfg0.N, win0_1.index t (0 : Fin 2) = t.val ∧ win0_1.index t (1 : Fin 2) = 0 :=
  (by decide +kernel : ∀ t : Fin grid0.N, _)

theorem idx_rows2 : ∀ t : Fin cfg0.N, win0_2.index t (0 : Fin 2) = t.val ∧ win0_2.index t (1 : Fin 2) = 0 :=
  (by decide +kernel : ∀ t : Fin grid0.N, _)

theorem idx_rows3 : ∀ t : Fin cfg0.N, win0_3.index t (0 : Fin 2) = t.val ∧ win0_3.index t (1 : Fin 2) = 0 :=
  (by decide +kernel : ∀ t : Fin grid0.N, _)

theorem idx_rows12 : ∀ t : Fin cfg0.N, win0_12.index t (0 : Fin 2) = t.val ∧ win0_12.index t (1 : Fin 2) = 0 :=
  (by decide +kernel : ∀ t : Fin grid0.N, _)

theorem tile0 (t : Fin cfg0.N) (r : Fin 256) (l : Fin 512) : (iblk m c 0 t : FVec Ideal S256x512 .bf16) (ix2 r l) = m ((c : Thread nD τ).loc main_arg0) (ix2 (rowAt t r) l) := by
  rw [← V_main_arg0 m c]
  show V m c main_arg0 (((cfg0.win 0).blk t).view.emb (ix2 r l)) = _
  refine congrArg (V m c main_arg0) ?_
  obtain ⟨e0, e1⟩ := idx_rows0 t
  funext a; apply Fin.ext
  match a with
  | ⟨0, _⟩ => show win0_0.index t (0 : Fin 2) * 256 + 1 * r.val = 256 * t.val + r.val; omega
  | ⟨1, _⟩ => show win0_0.index t (1 : Fin 2) * 512 + 1 * l.val = l.val; omega

theorem tile1 (t : Fin cfg0.N) (r : Fin 256) (l : Fin 512) : (iblk m c 1 t : FVec Ideal S256x512 .bf16) (ix2 r l) = m ((c : Thread nD τ).loc main_arg1) (ix2 (rowAt t r) l) := by
  rw [← V_main_arg1 m c]
  show V m c main_arg1 (((cfg0.win 1).blk t).view.emb (ix2 r l)) = _
  refine congrArg (V m c main_arg1) ?_
  obtain ⟨e0, e1⟩ := idx_rows1 t
  funext a; apply Fin.ext
  match a with
  | ⟨0, _⟩ => show win0_1.index t (0 : Fin 2) * 256 + 1 * r.val = 256 * t.val + r.val; omega
  | ⟨1, _⟩ => show win0_1.index t (1 : Fin 2) * 512 + 1 * l.val = l.val; omega

theorem tile2 (t : Fin cfg0.N) (r : Fin 256) (l : Fin 512) : (iblk m c 2 t : FVec Ideal S256x512 .bf16) (ix2 r l) = m ((c : Thread nD τ).loc main_arg2) (ix2 (rowAt t r) l) := by
  rw [← V_main_arg2 m c]
  show V m c main_arg2 (((cfg0.win 2).blk t).view.emb (ix2 r l)) = _
  refine congrArg (V m c main_arg2) ?_
  obtain ⟨e0, e1⟩ := idx_rows2 t
  funext a; apply Fin.ext
  match a with
  | ⟨0, _⟩ => show win0_2.index t (0 : Fin 2) * 256 + 1 * r.val = 256 * t.val + r.val; omega
  | ⟨1, _⟩ => show win0_2.index t (1 : Fin 2) * 512 + 1 * l.val = l.val; omega

theorem tile3 (t : Fin cfg0.N) (r : Fin 256) (l : Fin 512) : (iblk m c 3 t : FVec Ideal S256x512 .bf16) (ix2 r l) = m ((c : Thread nD τ).loc main_arg3) (ix2 (rowAt t r) l) := by
  rw [← V_main_arg3 m c]
  show V m c main_arg3 (((cfg0.win 3).blk t).view.emb (ix2 r l)) = _
  refine congrArg (V m c main_arg3) ?_
  obtain ⟨e0, e1⟩ := idx_rows3 t
  funext a; apply Fin.ext
  match a with
  | ⟨0, _⟩ => show win0_3.index t (0 : Fin 2) * 256 + 1 * r.val = 256 * t.val + r.val; omega
  | ⟨1, _⟩ => show win0_3.index t (1 : Fin 2) * 512 + 1 * l.val = l.val; omega

theorem tile4 (t : Fin cfg0.N) (i0 : Fin 8) (i1 : Fin 256) (i2 : Fin 256) : (iblk m c 4 t : FVec Ideal S8x256x256 .f32) (ix3 i0 i1 i2) = (V m c main_v36 : FVec Ideal S8x256x256 .f32) (ix3 i0 i1 i2) := by
  show V m c main_v36 (((cfg0.win 4).blk t).view.emb (ix3 i0 i1 i2)) = _
  refine congrArg (V m c main_v36) ?_
  have h : ∀ t : Fin cfg0.N, win0_4.index t (0 : Fin 3) = 0 ∧ win0_4.index t (1 : Fin 3) = 0 ∧ win0_4.index t (2 : Fin 3) = 0 := (by decide +kernel : ∀ t : Fin grid0.N, _)
  obtain ⟨e0, e1, e2⟩ := h t
  funext a; apply Fin.ext
  match a with
  | ⟨0, _⟩ => show win0_4.index t (0 : Fin 3) * 8 + 1 * i0.val = i0.val; omega
  | ⟨1, _⟩ => show win0_4.index t (1 : Fin 3) * 256 + 1 * i1.val = i1.val; omega
  | ⟨2, _⟩ => show win0_4.index t (2 : Fin 3) * 256 + 1 * i2.val = i2.val; omega

theorem tile5 (t : Fin cfg0.N) (i0 : Fin 256) (i1 : Fin 512) : (iblk m c 5 t : FVec Ideal S256x512 .f32) (ix2 i0 i1) = (V m c main_v57 : FVec Ideal S256x512 .f32) (ix2 i0 i1) := by
  show V m c main_v57 (((cfg0.win 5).blk t).view.emb (ix2 i0 i1)) = _
  refine congrArg (V m c main_v57) ?_
  have h : ∀ t : Fin cfg0.N, win0_5.index t (0 : Fin 2) = 0 ∧ win0_5.index t (1 : Fin 2) = 0 := (by decide +kernel : ∀ t : Fin grid0.N, _)
  obtain ⟨e0, e1⟩ := h t
  funext a; apply Fin.ext
  match a with
  | ⟨0, _⟩ => show win0_5.index t (0 : Fin 2) * 256 + 1 * i0.val = i0.val; omega
  | ⟨1, _⟩ => show win0_5.index t (1 : Fin 2) * 512 + 1 * i1.val = i1.val; omega

theorem tile6 (t : Fin cfg0.N) (i0 : Fin 256) (i1 : Fin 512) : (iblk m c 6 t : FVec Ideal S256x512 .f32) (ix2 i0 i1) = (V m c main_v65 : FVec Ideal S256x512 .f32) (ix2 i0 i1) := by
  show V m c main_v65 (((cfg0.win 6).blk t).view.emb (ix2 i0 i1)) = _
  refine congrArg (V m c main_v65) ?_
  have h : ∀ t : Fin cfg0.N, win0_6.index t (0 : Fin 2) = 0 ∧ win0_6.index t (1 : Fin 2) = 0 := (by decide +kernel : ∀ t : Fin grid0.N, _)
  obtain ⟨e0, e1⟩ := h t
  funext a; apply Fin.ext
  match a with
  | ⟨0, _⟩ => show win0_6.index t (0 : Fin 2) * 256 + 1 * i0.val = i0.val; omega
  | ⟨1, _⟩ => show win0_6.index t (1 : Fin 2) * 512 + 1 * i1.val = i1.val; omega

theorem tile7 (t : Fin cfg0.N) (i0 : Fin 8) (i1 : Fin 1) (i2 : Fin 512) : (iblk m c 7 t : FVec Ideal S8x1x512 .bf16) (ix3 i0 i1 i2) = (V m c main_v100 : FVec Ideal S8x1x512 .bf16) (ix3 i0 i1 i2) := by
  show V m c main_v100 (((cfg0.win 7).blk t).view.emb (ix3 i0 i1 i2)) = _
  refine congrArg (V m c main_v100) ?_
  have h : ∀ t : Fin cfg0.N, win0_7.index t (0 : Fin 3) = 0 ∧ win0_7.index t (1 : Fin 3) = 0 ∧ win0_7.index t (2 : Fin 3) = 0 := (by decide +kernel : ∀ t : Fin grid0.N, _)
  obtain ⟨e0, e1, e2⟩ := h t
  funext a; apply Fin.ext
  match a with
  | ⟨0, _⟩ => show win0_7.index t (0 : Fin 3) * 8 + 1 * i0.val = i0.val; omega
  | ⟨1, _⟩ => show win0_7.index t (1 : Fin 3) * 1 + 1 * i1.val = i1.val; omega
  | ⟨2, _⟩ => show win0_7.index t (2 : Fin 3) * 512 + 1 * i2.val = i2.val; omega

theorem tile8 (t : Fin cfg0.N) (i0 : Fin 8) (i1 : Fin 1) (i2 : Fin 512) : (iblk m c 8 t : FVec Ideal S8x1x512 .f32) (ix3 i0 i1 i2) = (V m c main_v80 : FVec Ideal S8x1x512 .f32) (ix3 i0 i1 i2) := by
  show V m c main_v80 (((cfg0.win 8).blk t).view.emb (ix3 i0 i1 i2)) = _
  refine congrArg (V m c main_v80) ?_
  have h : ∀ t : Fin cfg0.N, win0_8.index t (0 : Fin 3) = 0 ∧ win0_8.index t (1 : Fin 3) = 0 ∧ win0_8.index t (2 : Fin 3) = 0 := (by decide +kernel : ∀ t : Fin grid0.N, _)
  obtain ⟨e0, e1, e2⟩ := h t
  funext a; apply Fin.ext
  match a with
  | ⟨0, _⟩ => show win0_8.index t (0 : Fin 3) * 8 + 1 * i0.val = i0.val; omega
  | ⟨1, _⟩ => show win0_8.index t (1 : Fin 3) * 1 + 1 * i1.val = i1.val; omega
  | ⟨2, _⟩ => show win0_8.index t (2 : Fin 3) * 512 + 1 * i2.val = i2.val; omega

theorem tile9 (t : Fin cfg0.N) (i0 : Fin 512) (i1 : Fin 512) : (iblk m c 9 t : FVec Ideal S512x512 .f32) (ix2 i0 i1) = (V m c main_v91 : FVec Ideal S512x512 .f32) (ix2 i0 i1) := by
  show V m c main_v91 (((cfg0.win 9).blk t).view.emb (ix2 i0 i1)) = _
  refine congrArg (V m c main_v91) ?_
  have h : ∀ t : Fin cfg0.N, win0_9.index t (0 : Fin 2) = 0 ∧ win0_9.index t (1 : Fin 2) = 0 := (by decide +kernel : ∀ t : Fin grid0.N, _)
  obtain ⟨e0, e1⟩ := h t
  funext a; apply Fin.ext
  match a with
  | ⟨0, _⟩ => show win0_9.index t (0 : Fin 2) * 512 + 1 * i0.val = i0.val; omega
  | ⟨1, _⟩ => show win0_9.index t (1 : Fin 2) * 512 + 1 * i1.val = i1.val; omega

theorem tile10 (t : Fin cfg0.N) (i0 : Fin 512) (i1 : Fin 512) : (iblk m c 10 t : FVec Ideal S512x512 .f32) (ix2 i0 i1) = (V m c main_v86 : FVec Ideal S512x512 .f32) (ix2 i0 i1) := by
  show V m c main_v86 (((cfg0.win 10).blk t).view.emb (ix2 i0 i1)) = _
  refine congrArg (V m c main_v86) ?_
  have h : ∀ t : Fin cfg0.N, win0_10.index t (0 : Fin 2) = 0 ∧ win0_10.index t (1 : Fin 2) = 0 := (by decide +kernel : ∀ t : Fin grid0.N, _)
  obtain ⟨e0, e1⟩ := h t
  funext a; apply Fin.ext
  match a with
  | ⟨0, _⟩ => show win0_10.index t (0 : Fin 2) * 512 + 1 * i0.val = i0.val; omega
  | ⟨1, _⟩ => show win0_10.index t (1 : Fin 2) * 512 + 1 * i1.val = i1.val; omega

theorem tile11 (t : Fin cfg0.N) (i0 : Fin 512) (i1 : Fin 512) : (iblk m c 11 t : FVec Ideal S512x512 .bf16) (ix2 i0 i1) = (V m c main_v101 : FVec Ideal S512x512 .bf16) (ix2 i0 i1) := by
  show V m c main_v101 (((cfg0.win 11).blk t).view.emb (ix2 i0 i1)) = _
  refine congrArg (V m c main_v101) ?_
  have h : ∀ t : Fin cfg0.N, win0_11.index t (0 : Fin 2) = 0 ∧ win0_11.index t (1 : Fin 2) = 0 := (by decide +kernel : ∀ t : Fin grid0.N, _)
  obtain ⟨e0, e1⟩ := h t
  funext a; apply Fin.ext
  match a with
  | ⟨0, _⟩ => show win0_11.index t (0 : Fin 2) * 512 + 1 * i0.val = i0.val; omega
  | ⟨1, _⟩ => show win0_11.index t (1 : Fin 2) * 512 + 1 * i1.val = i1.val; omega

theorem outs_A (t : Fin cfg0.N) (h0 : t.val % 16 = 0) : outsAt0 m c t.val t.isLt
    = (k0_pay1 (k0_pay19 (iblk m c 0 t) (intraOf (iblk m c 0 t) (iblk m c 1 t) (iblk m c 2 t) (iblk m c 4 t) (iblk m c 7 t) (iblk m c 8 t)) (k0_pay2 (F := Ideal)) (iblk m c 5 t) (iblk m c 11 t))
        (k0_pay20 (iblk m c 0 t) (intraOf (iblk m c 0 t) (iblk m c 1 t) (iblk m c 2 t) (iblk m c 4 t) (iblk m c 7 t) (iblk m c 8 t)) (k0_pay2 (F := Ideal)) (iblk m c 5 t) (iblk m c 11 t)) (iblk m c 3 t),
      k0_pay17 (iblk m c 1 t) (iblk m c 2 t) (k0_pay2 (F := Ideal)) (iblk m c 6 t) (iblk m c 9 t) (iblk m c 10 t)) := by
  rw [outsAt0_A m c t h0]
  refine Prod.ext ?_ ?_
  · frame_out
    rfl
  · frame_out

theorem outs_B (t : Fin cfg0.N) (h0 : ¬ t.val % 16 = 0) : outsAt0 m c t.val t.isLt
    = (k0_pay1 (k0_pay19 (iblk m c 0 t) (intraOf (iblk m c 0 t) (iblk m c 1 t) (iblk m c 2 t) (iblk m c 4 t) (iblk m c 7 t) (iblk m c 8 t)) (outsAt0 m c (t.val - 1) (by omega)).2 (iblk m c 5 t) (iblk m c 11 t))
        (k0_pay20 (iblk m c 0 t) (intraOf (iblk m c 0 t) (iblk m c 1 t) (iblk m c 2 t) (iblk m c 4 t) (iblk m c 7 t) (iblk m c 8 t)) (outsAt0 m c (t.val - 1) (by omega)).2 (iblk m c 5 t) (iblk m c 11 t)) (iblk m c 3 t),
      k0_pay17 (iblk m c 1 t) (iblk m c 2 t) (outsAt0 m c (t.val - 1) (by omega)).2 (iblk m c 6 t) (iblk m c 9 t) (iblk m c 10 t)) := by
  rw [outsAt0_B m c t h0]
  refine Prod.ext ?_ ?_
  · frame_out
    generalize (outsAt0 m c (t.val - 1) _).2 = S
    rw [read_unread_whole]
    rfl
  · frame_out
    generalize (outsAt0 m c (t.val - 1) _).2 = S
    rw [read_unread_whole]

theorem ld_row {e : EltTy} (x : S8x1x512.Idx → Elt Ideal e) (h : Fin 8) (inb : ∀ a : Fin 3, ![h.val, 0, 0] a + ![1, 1, 512] a ≤ S8x1x512.size a) (l : Fin 512) :
    (View.ld x (Rect.unit ![h.val, 0, 0] ![1, 1, 512] inb) : S1x1x512.Idx → Elt Ideal e) (ix3 0 0 l) = x (ix3 h 0 l) := by
  refine congrArg x (funext fun a => Fin.ext ?_)
  match a with
  | ⟨0, _⟩ => show h.val + 1 * 0 = h.val; omega
  | ⟨1, _⟩ => rfl
  | ⟨2, _⟩ => show 0 + 1 * l.val = l.val; omega

theorem ld_square (x : S8x256x256.Idx → Elt Ideal .f32) (h : Fin 8) (inb : ∀ a : Fin 3, ![h.val, 0, 0] a + ![1, 256, 256] a ≤ S8x256x256.size a) (r s : Fin 256) :
    (View.ld x (Rect.unit ![h.val, 0, 0] ![1, 256, 256] inb) : S1x256x256.Idx → Elt Ideal .f32) (ix3 0 r s) = x (ix3 h r s) := by
  refine congrArg x (funext fun a => Fin.ext ?_)
  match a with
  | ⟨0, _⟩ => show h.val + 1 * 0 = h.val; omega
  | ⟨1, _⟩ => show 0 + 1 * r.val = r.val; omega
  | ⟨2, _⟩ => show 0 + 1 * s.val = s.val; omega

theorem headTab (t : Fin cfg0.N) (h : Fin 8) (i7 i4 i8) :
    HeadTab h.val (View.ld (iblk m c 7 t : Vec Ideal S8x1x512 .bf16) (Rect.unit ![h.val, 0, 0] ![1, 1, 512] i7))
      (View.ld (iblk m c 4 t : Vec Ideal S8x256x256 .f32) (Rect.unit ![h.val, 0, 0] ![1, 256, 256] i4))
      (View.ld (iblk m c 8 t : Vec Ideal S8x1x512 .f32) (Rect.unit ![h.val, 0, 0] ![1, 1, 512] i8)) where
  a l := (ld_row _ h i7 l).trans ((tile7 m c t h 0 l).trans (tab_hk m c h l))
  b r x := (ld_square _ h i4 r x).trans ((tile4 m c t h r x).trans (tab_decay m c h r x))
  d l := (ld_row _ h i8 l).trans ((tile8 m c t h 0 l).trans (tab_hv m c h l))

theorem intra_eq (t : Fin cfg0.N) (Q K W : ℕ → ℕ → ℝ) (T : Tile (iblk m c 0 t) (iblk m c 1 t) (iblk m c 2 t) Q K W) (r : Fin 256) (e : Fin 512) :
    intraOf (iblk m c 0 t) (iblk m c 1 t) (iblk m c 2 t) (iblk m c 4 t) (iblk m c 7 t) (iblk m c 8 t) (ix2 r e) = ((intraR Q K W r e : ℝ) : EReal) :=
  lanes T (headTab m c t 6 _ _ _) (headTab m c t 7 _ _ _) _ _ _
    (lanes0 T (headTab m c t 0 _ _ _) (headTab m c t 1 _ _ _)) (lanes1 T (headTab m c t 2 _ _ _) (headTab m c t 3 _ _ _))
    (lanes2 T (headTab m c t 4 _ _ _) (headTab m c t 5 _ _ _)) r e

section values

variable (f0 : Fin' (m ((c : Thread nD τ).loc main_arg0))) (f1 : Fin' (m ((c : Thread nD τ).loc main_arg1))) (f2 : Fin' (m ((c : Thread nD τ).loc main_arg2)))

/-- Queries, keys and values of batch `b`. -/
abbrev Qb (b : ℕ) := realOf (m ((c : Thread nD τ).loc main_arg0)) b
abbrev Kb (b : ℕ) := realOf (m ((c : Thread nD τ).loc main_arg1)) b
abbrev Vb (b : ℕ) := realOf (m ((c : Thread nD τ).loc main_arg2)) b

theorem real_row (a : Shape.Idx ⟨2, ![65536, 512]⟩ → EReal) (ha : Fin' a) (t : Fin cfg0.N) (r : Fin 256) (l : Fin 512) :
    a (ix2 (rowAt t r) l) = ((realOf a (t.val / 16) (256 * (t.val % 16) + r) l : ℝ) : EReal) := by
  have h1 : (⟨(4096 * (t.val / 16) + (256 * (t.val % 16) + r)) % 65536, Nat.mod_lt _ (by decide)⟩ : Fin 65536) = rowAt t r :=
    Fin.ext (by have := lt_points t; show (4096 * (t.val / 16) + (256 * (t.val % 16) + r)) % 65536 = 256 * t.val + r.val; omega)
  have h2 : (⟨l.val % 512, Nat.mod_lt _ (by decide)⟩ : Fin 512) = l := Fin.ext (Nat.mod_eq_of_lt l.isLt)
  unfold realOf
  rw [h1, h2]
  exact ha _

include f0 f1 f2 in
theorem tile (t : Fin cfg0.N) : Tile (iblk m c 0 t) (iblk m c 1 t) (iblk m c 2 t)
    (fun r => Qb m c (t.val / 16) (256 * (t.val % 16) + r)) (fun r => Kb m c (t.val / 16) (256 * (t.val % 16) + r))
    (fun r => Vb m c (t.val / 16) (256 * (t.val % 16) + r)) where
  q r l := (tile0 m c t r l).trans (real_row _ f0 t r l)
  k r l := (tile1 m c t r l).trans (real_row _ f1 t r l)
  v r l := (tile2 m c t r l).trans (real_row _ f2 t r l)

theorem step_eq (K W : ℕ → ℕ → ℝ) (n l e : ℕ) (h : hk l = hv e) :
    stepR (fun r => K (n + r)) (fun r => W (n + r)) (state K W n) l e = state K W (n + 256) l e := by
  rw [state_add, stepR, h]
  refine congrArg₂ (· + ·) (by push_cast; ring) (Finset.sum_congr rfl fun x _ => ?_)
  rw [show ((256 : ℕ) : ℝ) - 1 - (x : ℕ) = 255 - (x : ℕ) by push_cast; ring]
  ring

theorem total_ret (Q K W : ℕ → ℕ → ℝ) (J r e : ℕ) (hr : r < 256) :
    totalR (fun r => Q (256 * J + r)) (fun r => K (256 * J + r)) (fun r => W (256 * J + r)) (state K W (256 * J)) r e = ret Q K W (256 * J + r) e := by
  rw [ret_split Q K W (4 * J) (256 * J) 256 r e (by ring) hr (by norm_num), ← cross_eq]
  unfold totalR intraR
  refine congrArg₂ (· + ·) (Finset.sum_congr rfl fun x _ => ?_) (Finset.sum_congr rfl fun l _ => ?_)
  · unfold dec qk; ring
  · split_ifs with h
    · rw [h]
    · rfl

theorem total_row (Q K W : ℕ → ℕ → ℝ) (J r : ℕ) (hr : r < 256) :
    totalR (fun r => Q (256 * J + r)) (fun r => K (256 * J + r)) (fun r => W (256 * J + r)) (state K W (256 * J)) r = ret Q K W (256 * J + r) :=
  funext fun e => total_ret Q K W J r e hr

theorem zero_state (K W : ℕ → ℕ → ℝ) (l e : Fin 512) : (k0_pay2 (F := Ideal)) (ix2 l e) = ((if hk l = hv e then state K W 0 l e else 0 : ℝ) : EReal) := by
  pointwise [k0_pay2]
  rw [state_zero]
  simp

/-- The state before tile `t`, as an array. -/
def before (t : Fin cfg0.N) : Vec Ideal S512x512 .f32 :=
  if h : t.val % 16 = 0 then k0_pay2 (F := Ideal) else (outsAt0 m c (t.val - 1) (by omega)).2

theorem outs_eq (t : Fin cfg0.N) : outsAt0 m c t.val t.isLt
    = (k0_pay1 (k0_pay19 (iblk m c 0 t) (intraOf (iblk m c 0 t) (iblk m c 1 t) (iblk m c 2 t) (iblk m c 4 t) (iblk m c 7 t) (iblk m c 8 t)) (before m c t) (iblk m c 5 t) (iblk m c 11 t))
        (k0_pay20 (iblk m c 0 t) (intraOf (iblk m c 0 t) (iblk m c 1 t) (iblk m c 2 t) (iblk m c 4 t) (iblk m c 7 t) (iblk m c 8 t)) (before m c t) (iblk m c 5 t) (iblk m c 11 t)) (iblk m c 3 t),
      k0_pay17 (iblk m c 1 t) (iblk m c 2 t) (before m c t) (iblk m c 6 t) (iblk m c 9 t) (iblk m c 10 t)) := by
  by_cases h : t.val % 16 = 0
  · rw [before, dif_pos h, outs_A m c t h]
  · rw [before, dif_neg h, outs_B m c t h]

include f0 f1 f2 in
theorem after_of_before (t : Fin cfg0.N)
    (hb : ∀ l e : Fin 512, before m c t (ix2 l e)
      = ((if hk l = hv e then state (Kb m c (t.val / 16)) (Vb m c (t.val / 16)) (256 * (t.val % 16)) l e else 0 : ℝ) : EReal)) (l e : Fin 512) :
    (outsAt0 m c t.val t.isLt).2 (ix2 l e)
      = ((if hk l = hv e then state (Kb m c (t.val / 16)) (Vb m c (t.val / 16)) (256 * (t.val % 16) + 256) l e else 0 : ℝ) : EReal) := by
  rw [outs_eq m c t]
  refine (next_state (tile m c f0 f1 f2 t) _ _ hb _ _ _ (fun r l => (tile6 m c t r l).trans (tab_key m c r l))
    (fun l e => (tile9 m c t l e).trans (tab_step m c l e)) (fun l e => (tile10 m c t l e).trans (tab_block m c l e)) l e).trans ?_
  split_ifs with h
  · rw [step_eq _ _ _ _ _ h]
  · rfl

include f0 f1 f2 in
theorem before_eq : ∀ (n : ℕ) (t : Fin cfg0.N), t.val = n → ∀ l e : Fin 512, before m c t (ix2 l e)
      = ((if hk l = hv e then state (Kb m c (t.val / 16)) (Vb m c (t.val / 16)) (256 * (t.val % 16)) l e else 0 : ℝ) : EReal) := by
  intro n
  induction n with
  | zero =>
    intro t ht l e
    have h : t.val % 16 = 0 := by omega
    rw [before, dif_pos h, h]
    exact zero_state _ _ l e
  | succ n ih =>
    intro t ht l e
    by_cases h : t.val % 16 = 0
    · rw [before, dif_pos h, h]
      exact zero_state _ _ l e
    · rw [before, dif_neg h]
      have h2 : t.val - 1 < cfg0.N := by have := t.isLt; omega
      have h3 := after_of_before m c f0 f1 f2 ⟨t.val - 1, h2⟩ (ih ⟨t.val - 1, h2⟩ (by show t.val - 1 = n; omega)) l e
      simp only at h3
      rw [show (t.val - 1) / 16 = t.val / 16 by omega, show 256 * ((t.val - 1) % 16) + 256 = 256 * (t.val % 16) by omega] at h3
      exact h3

/-- The result array. -/
def resultOf : FVec Ideal S65536x512 .bf16 := fun i =>
  gated (ret (Qb m c ((i 0).val / 4096)) (Kb m c ((i 0).val / 4096)) (Vb m c ((i 0).val / 4096)) ((i 0).val % 4096)) (i 1).val (m ((c : Thread nD τ).loc main_arg3) i)

include f0 f1 f2 in
theorem block_out (t : Fin cfg0.N) (r : Fin 256) (e : Fin 512) :
    (outsAt0 m c t.val t.isLt).1 (ix2 r e) = resultOf m c (ix2 (rowAt t r) e) := by
  rw [outs_eq m c t]
  have T := tile m c f0 f1 f2 t
  refine (out_eq T _ _ (before_eq m c f0 f1 f2 _ t rfl) _ (intra_eq m c t _ _ _ T) _ (fun r l => (tile5 m c t r l).trans (tab_query m c r l))
    _ (fun l e => (tile11 m c t l e).trans (tab_mean m c l e)) _ r e).trans ?_
  rw [total_row _ _ _ _ _ r.isLt]
  unfold resultOf
  have h1 : (rowAt t r).val / 4096 = t.val / 16 := by show (256 * t.val + r.val) / 4096 = t.val / 16; omega
  have h2 : (rowAt t r).val % 4096 = 256 * (t.val % 16) + r := by show (256 * t.val + r.val) % 4096 = 256 * (t.val % 16) + r.val; omega
  show _ = gated (ret (Qb m c ((rowAt t r).val / 4096)) (Kb m c ((rowAt t r).val / 4096)) (Vb m c ((rowAt t r).val / 4096)) ((rowAt t r).val % 4096)) e.val (m ((c : Thread nD τ).loc main_arg3) (ix2 (rowAt t r) e))
  rw [h1, h2, ← tile3 m c t r e]

theorem emb12 (t : Fin cfg0.N) (r : Fin 256) (k : Fin 512) : ((cfg0.win 12).blk t).view.emb (ix2 r k) = ix2 (rowAt t r) k := by
  obtain ⟨e0, e1⟩ := idx_rows12 t
  funext a; apply Fin.ext
  match a with
  | ⟨0, _⟩ => show win0_12.index t (0 : Fin 2) * 256 + 1 * r.val = 256 * t.val + r.val; omega
  | ⟨1, _⟩ => show win0_12.index t (1 : Fin 2) * 512 + 1 * k.val = k.val; omega

include f0 f1 f2 in
theorem flushed_eq (t : Fin cfg0.N) : (dats m 0 c).flushed 12 t = ((cfg0.win 12).blk t).view.read (Elt Ideal) (resultOf m c) := by
  rw [Value.flushed12]
  funext j
  obtain ⟨r, k, rfl⟩ : ∃ (r : Fin 256) (k : Fin 512), j = ix2 r k := ⟨j 0, j 1, eq_ix2 j⟩
  show (outsAt0 m c t.val t.isLt).1 (ix2 r k) = resultOf m c (((cfg0.win 12).blk t).view.emb (ix2 r k))
  rw [emb12]
  exact block_out m c f0 f1 f2 t r k

/-- Every index of the result array lies in the tile of one of the points. -/
theorem covered (i : S65536x512.Idx) : ∃ t : Fin cfg0.N, (cfg0.win 12).flush t = true ∧ i ∈ ((cfg0.win 12).blk t).view.set :=
  (Value.covered_iff12 i).2 (by
    have h0 : (i 0).val < 65536 := (i 0).isLt; have h1 : (i 1).val < 512 := (i 1).isLt; omega)

include f0 f1 f2 in
/-- The result array after the run. -/
theorem final : (dats m 0 c).arrAt 12 cfg0.N = resultOf m c :=
  (dats m 0 c).arrAt_eq_of_cover 12 (resultOf m c) (fun t _ => flushed_eq m c f0 f1 f2 t) covered

end values

end Cert.RetIdeal.Spec
end
-- ==== Proof.RetRefStage.lean ====
/- The reference retention, stage by stage, and its stages as real numbers. -/
module

public import Idealize.ShloMosaic.Lib.StableHlo.ReadAt
public import Idealize.ShloMosaic.Lib.Pointwise
public import proofs.«01_k».proof.Proof.RetKernel
public import proofs.«01_k».proof.Proof.Gen.RetRefIdeal.Run

@[expose] public section

set_option maxRecDepth 65536
set_option maxHeartbeats 4000000

noncomputable section

namespace Cert.RetRefIdeal.Spec

open Idealize.ShloMosaic Idealize.ShloMosaic.TcCoe Idealize.SL.Sem Cert.Proof.Ret
open Idealize.ShloMosaic.StableHlo
open Cert.RetIdeal.Spec (num toInt_word absE coe_sum gated)
open scoped BigOperators
open Cert.RetRefIdeal Cert.RetRefIdeal.Gen Cert.RetRefIdeal.Value

/-- Queries or keys by batch, chunk, row, head and dimension. -/
def headsOf (a : FVec Ideal S65536x512 .bf16) : FVec Ideal S16x64x64x8x64 .f32 :=
  shapeCast S16x64x64x8x64 (shapeCast S16x4096x8x64 (transpose S16x4096x8x2x32 [0, 1, 3, 2, 4]
    (shapeCast S16x4096x2x8x32 (extf .f32 a bitsLt_bf16_f32) shapeCasts_S65536x512_S16x4096x2x8x32)
    transposes_S16x4096x2x8x32_S16x4096x8x2x32_0_1_3_2_4) shapeCasts_S16x4096x8x2x32_S16x4096x8x64) shapeCasts_S16x4096x8x64_S16x64x64x8x64

/-- Values by batch, chunk, row, head and dimension. -/
def valsOf (a : FVec Ideal S65536x512 .bf16) : FVec Ideal S16x64x64x8x64 .f32 :=
  shapeCast S16x64x64x8x64 (extf .f32 a bitsLt_bf16_f32) shapeCasts_S65536x512_S16x64x64x8x64

/-- The logarithms of the heads' decays. -/
def lgT : FVec Ideal S8 .f32 :=
  Host.log1p (Host.negf (Host.exp (mulf (broadcastInDim S8 ![] bcast_S_S8 (constant S_ .f32 0x3F317218#32))
    (subf (broadcastInDim S8 ![] bcast_S_S8 (constant S_ .f32 0xC0A00000#32)) (sitofp .f32 (iotaInDim S8 32 0))))))

/-- The rows of a chunk. -/
def rowT : FVec Ideal S64 .f32 := sitofp .f32 (iotaInDim S64 32 0)

/-- The decay within a chunk. -/
def withinT : FVec Ideal S8x64x64 .f32 :=
  Host.exp (mulf (broadcastInDim S8x64x64 ![0, 1, 2] bcast_S8x1x1_S8x64x64_0_1_2 (broadcastInDim S8x1x1 ![0] bcast_S8_S8x1x1_0 lgT))
    (broadcastInDim S8x64x64 ![0, 1, 2] bcast_S1x64x64_S8x64x64_0_1_2 (broadcastInDim S1x64x64 ![1, 2] bcast_S64x64_S1x64x64_1_2
      (Host.absf (subf (broadcastInDim S64x64 ![0, 1] bcast_S64x1_S64x64_0_1 (broadcastInDim S64x1 ![0] bcast_S64_S64x1_0 rowT))
        (broadcastInDim S64x64 ![0, 1] bcast_S1x64_S64x64_0_1 (broadcastInDim S1x64 ![1] bcast_S64_S1x64_1 rowT)))))))

/-- A head's decay to the number of positions in `x`. -/
def decayT (x : FVec Ideal S64 .f32) : FVec Ideal S8x64 .f32 :=
  Host.exp (mulf (broadcastInDim S8x64 ![0, 1] bcast_S8x1_S8x64_0_1 (broadcastInDim S8x1 ![0] bcast_S8_S8x1_0 lgT))
    (broadcastInDim S8x64 ![0, 1] bcast_S1x64_S8x64_0_1 (broadcastInDim S1x64 ![1] bcast_S64_S1x64_1 x)))

/-- The keys' decay to the end of their chunk. -/
def keyT : FVec Ideal S8x64 .f32 := decayT (subf (broadcastInDim S64 ![] bcast_S_S64 (constant S_ .f32 0x427C0000#32)) rowT)

/-- The queries' decay from the chunk before. -/
def queryT : FVec Ideal S8x64 .f32 := decayT (addf rowT (broadcastInDim S64 ![] bcast_S_S64 (constant S_ .f32 0x3F800000#32)))

/-- The decay over a chunk. -/
def chunkT : FVec Ideal S8 .f32 := Host.exp (mulf lgT (broadcastInDim S8 ![] bcast_S_S8 (constant S_ .f32 0x42800000#32)))

/-- Rows weighted by head and row. -/
def rowsBy (x : FVec Ideal S16x64x64x8x64 .f32) (w : FVec Ideal S8x64 .f32) : FVec Ideal S16x64x64x8x64 .f32 :=
  mulf x (broadcastInDim S16x64x64x8x64 ![0, 1, 2, 3, 4] bcast_S1x1x64x8x1_S16x64x64x8x64_0_1_2_3_4
    (broadcastInDim S1x1x64x8x1 ![2, 3] bcast_S64x8_S1x1x64x8x1_2_3 (transpose S64x8 [1, 0] w transposes_S8x64_S64x8_1_0)))

/-- What a chunk adds to the state. -/
def kvT (k v : FVec Ideal S65536x512 .bf16) : FVec Ideal S64x16x8x64x64 .f32 :=
  Host.dotGeneral dot_S16x64x64x8x64_S16x64x64x8x64_S64x16x8x64x64_2_2_4_4_103_103 none (rowsBy (headsOf k) keyT) (valsOf v)

/-- The weighted scores within a chunk. -/
def scoresT (q k : FVec Ideal S65536x512 .bf16) : FVec Ideal S16x64x8x64x64 .f32 :=
  mulf (Host.dotGeneral dot_S16x64x64x8x64_S16x64x64x8x64_S16x64x8x64x64_4_4_2_2_013_013 none (headsOf q) (headsOf k))
    (broadcastInDim S16x64x8x64x64 ![0, 1, 2, 3, 4] bcast_S1x1x8x64x64_S16x64x8x64x64_0_1_2_3_4 (broadcastInDim S1x1x8x64x64 ![2, 3, 4] bcast_S8x64x64_S1x1x8x64x64_2_3_4 withinT))

/-- The retention within a chunk. -/
def intraT (q k v : FVec Ideal S65536x512 .bf16) : FVec Ideal S16x64x64x8x64 .f32 :=
  transpose S16x64x64x8x64 [0, 1, 4, 2, 3]
    (Host.dotGeneral dot_S16x64x64x8x64_S16x64x8x64x64_S16x64x8x64x64_2_4_4_3_013_012 none (valsOf v) (scoresT q k))
    transposes_S16x64x8x64x64_S16x64x64x8x64_0_1_4_2_3

/-- The retention, of the states before the chunks and the retention within them. -/
def totalT (s : FVec Ideal S64x16x8x64x64 .f32) (q : FVec Ideal S16x64x64x8x64 .f32) (o : FVec Ideal S16x64x64x8x64 .f32) (w : FVec Ideal S8x64 .f32) :
    FVec Ideal S16x64x64x8x64 .f32 :=
  addf o (rowsBy (transpose S16x64x64x8x64 [0, 1, 4, 2, 3]
    (Host.dotGeneral dot_S64x16x8x64x64_S16x64x64x8x64_S16x64x8x64x64_3_4_4_2_102_013 none s q) transposes_S16x64x8x64x64_S16x64x64x8x64_0_1_4_2_3) w)

/-- The mean over a head. -/
def meanT (x : FVec Ideal S16x4096x8x64 .f32) : FVec Ideal S16x4096x8x1 .f32 :=
  Host.divf (broadcastInDim S16x4096x8x1 ![0, 1, 2] bcast_S16x4096x8_S16x4096x8x1_0_1_2
    (Host.reduceAdd x (constant S_ .f32 0x00000000#32) reducesTo_S16x4096x8x64_S16x4096x8_d3 h_S_))
    (broadcastInDim S16x4096x8x1 ![] bcast_S_S16x4096x8x1 (constant S_ .f32 0x42800000#32))

/-- The difference from the mean over the head. -/
def centreT (x : FVec Ideal S16x4096x8x64 .f32) : FVec Ideal S16x4096x8x64 .f32 :=
  subf x (broadcastInDim S16x4096x8x64 ![0, 1, 2, 3] bcast_S16x4096x8x1_S16x4096x8x64_0_1_2_3 (meanT x))

/-- The normalised retention. -/
def normT (x : FVec Ideal S16x4096x8x64 .f32) : FVec Ideal S16x4096x8x64 .f32 :=
  mulf (centreT x) (broadcastInDim S16x4096x8x64 ![0, 1, 2, 3] bcast_S16x4096x8x1_S16x4096x8x64_0_1_2_3
    (Host.rsqrt (addf (meanT (mulf (centreT x) (centreT x))) (broadcastInDim S16x4096x8x1 ![] bcast_S_S16x4096x8x1 (constant S_ .f32 0x3727C5AC#32)))))

/-- The gate. -/
def gateT (a : FVec Ideal S65536x512 .bf16) : FVec Ideal S65536x512 .f32 :=
  mulf (extf .f32 a bitsLt_bf16_f32) (Host.divf (broadcastInDim S65536x512 ![] bcast_S_S65536x512 (constant S_ .f32 0x3F800000#32))
    (addf (broadcastInDim S65536x512 ![] bcast_S_S65536x512 (constant S_ .f32 0x3F800000#32)) (Host.exp (Host.negf (extf .f32 a bitsLt_bf16_f32)))))

/-- The result, of the retention by batch, chunk and row. -/
def outT (x : FVec Ideal S16x64x64x8x64 .f32) (a : FVec Ideal S65536x512 .bf16) : FVec Ideal S65536x512 .bf16 :=
  truncf .bf16 (mulf (gateT a) (shapeCast S65536x512 (normT (shapeCast S16x4096x8x64 x shapeCasts_S16x64x64x8x64_S16x4096x8x64)) shapeCasts_S16x4096x8x64_S65536x512)) bitsLt_bf16_f32

theorem lg_at (h : Fin 8) : (lgT (ix1 h) : EReal) = ((lg h.val : ℝ) : EReal) := by
  unfold lgT
  pointwise
  show Ideal.log1p (-Ideal.exp (Ideal.ofBits FTy.f32 1060205080#32 * (Ideal.ofBits FTy.f32 3231711232#32 - num (BitVec.ofNat 32 h)))) = _
  rw [toInt_word (by omega), lg_eq]

theorem within_at (h : Fin 8) (i j : Fin 64) : (withinT (ix3 h i j) : EReal) = ((Real.exp (lg h * |(i.val : ℝ) - j.val|) : ℝ) : EReal) := by
  unfold withinT rowT
  pointwise
  rw [lg_at]
  show Ideal.exp (_ * absE (num (BitVec.ofNat 32 i) - num (BitVec.ofNat 32 j))) = _
  rw [toInt_word (by omega), toInt_word (by omega), ← EReal.coe_sub]
  show Ideal.exp (_ * ((|(i.val : ℝ) - j.val| : ℝ) : EReal)) = _
  rw [← EReal.coe_mul, Ideal.exp_coe]

theorem key_at (h : Fin 8) (i : Fin 64) : (keyT (ix2 h i) : EReal) = ((Real.exp (lg h * (63 - i.val)) : ℝ) : EReal) := by
  unfold keyT decayT rowT
  pointwise
  show Ideal.exp (_ * (_ - num (BitVec.ofNat 32 i))) = _
  rw [lg_at, toInt_word (by omega), bits_63, ← EReal.coe_sub, ← EReal.coe_mul, Ideal.exp_coe]

theorem query_at (h : Fin 8) (i : Fin 64) : (queryT (ix2 h i) : EReal) = ((Real.exp (lg h * (i.val + 1)) : ℝ) : EReal) := by
  unfold queryT decayT rowT
  pointwise
  show Ideal.exp (_ * (num (BitVec.ofNat 32 i) + ((1 : ℝ) : EReal))) = _
  rw [lg_at, toInt_word (by omega), ← EReal.coe_add, ← EReal.coe_mul, Ideal.exp_coe]

theorem chunk_at (h : Fin 8) : (chunkT (ix1 h) : EReal) = ((Real.exp (lg h * 64) : ℝ) : EReal) := by
  unfold chunkT
  pointwise
  rw [lg_at, bits_64, ← EReal.coe_mul, Ideal.exp_coe]

theorem real_at (a : FVec Ideal S65536x512 .bf16) (ha : Fin' a) {b t l : ℕ} (x : Fin 65536) (y : Fin 512) (hx : x.val = 4096 * b + t) (hy : y.val = l) :
    (a (ix2 x y) : EReal) = ((realOf a b t l : ℝ) : EReal) := by
  subst hy
  have h1 : x = ⟨(4096 * b + t) % 65536, Nat.mod_lt _ (by decide)⟩ := Fin.ext (by show x.val = (4096 * b + t) % 65536; omega)
  have h2 : y = ⟨y.val % 512, Nat.mod_lt _ (by decide)⟩ := Fin.ext (by show y.val = y.val % 512; omega)
  rw [ha]
  unfold realOf
  rw [← h1, ← h2]

theorem heads_at (a : FVec Ideal S65536x512 .bf16) (ha : Fin' a) (b : Fin 16) (n i : Fin 64) (h : Fin 8) (d : Fin 64) :
    (headsOf a (ix5 b n i h d) : EReal) = ((realOf a b (64 * n.val + i.val) (lane h d).val : ℝ) : EReal) := by
  unfold headsOf
  pointwise
  exact real_at a ha _ _ (by show b.val * 4096 + (n.val * 64 + i.val) = _; omega) (by show d.val / 32 * 256 + h.val * 32 + d.val % 32 = d.val / 32 * 256 + 32 * h.val + d.val % 32; omega)

theorem vals_at (a : FVec Ideal S65536x512 .bf16) (ha : Fin' a) (b : Fin 16) (n i : Fin 64) (h : Fin 8) (d : Fin 64) :
    (valsOf a (ix5 b n i h d) : EReal) = ((realOf a b (64 * n.val + i.val) (64 * h.val + d.val) : ℝ) : EReal) := by
  unfold valsOf
  pointwise
  exact real_at a ha _ _ (by show b.val * 4096 + n.val * 64 + i.val = _; omega) (by show h.val * 64 + d.val = _; omega)

theorem hv_of (h : Fin 8) (e : Fin 64) : hv (64 * h.val + e.val) = h.val := by unfold hv; omega

theorem kv_at (k v : FVec Ideal S65536x512 .bf16) (hk : Fin' k) (hv' : Fin' v) (n : Fin 64) (b : Fin 16) (h : Fin 8) (d e : Fin 64) :
    (kvT k v (ix5 n b h d e) : EReal) = ((∑ j : Fin 64, Real.exp (lg (hv (64 * h.val + e.val)) * (((64 : ℕ) : ℝ) - 1 - (j : ℕ)))
      * realOf k b (64 * n.val + j) (lane h d).val * realOf v b (64 * n.val + j) (64 * h.val + e.val) : ℝ) : EReal) := by
  unfold kvT rowsBy
  pointwise
  rw [coe_sum]
  refine Finset.sum_congr rfl fun j _ => ?_
  rw [heads_at k hk, key_at, vals_at v hv', ← EReal.coe_mul, ← EReal.coe_mul, hv_of, mul_comm (realOf k _ _ _)]
  norm_num

theorem scores_at (q k : FVec Ideal S65536x512 .bf16) (hq : Fin' q) (hk' : Fin' k) (b : Fin 16) (n : Fin 64) (h : Fin 8) (i j : Fin 64) :
    (scoresT q k (ix5 b n h i j) : EReal) = ((qk (realOf q b) (realOf k b) (64 * n.val + i.val) (64 * n.val + j.val) h.val * Real.exp (lg h * |(i.val : ℝ) - j.val|) : ℝ) : EReal) := by
  unfold scoresT
  pointwise
  rw [within_at, EReal.coe_mul]
  refine congrArg₂ (· * ·) ?_ rfl
  unfold qk
  rw [← sum_lane h (fun l => realOf q b (64 * n.val + i.val) l * realOf k b (64 * n.val + j.val) l), coe_sum]
  refine Finset.sum_congr rfl fun d _ => ?_
  rw [heads_at q hq, heads_at k hk', ← EReal.coe_mul]

theorem intra_at (q k v : FVec Ideal S65536x512 .bf16) (hq : Fin' q) (hk' : Fin' k) (hv' : Fin' v) (b : Fin 16) (n i : Fin 64) (h : Fin 8) (e : Fin 64) :
    (intraT q k v (ix5 b n i h e) : EReal) = ((∑ j : Fin 64, Real.exp (lg h * |(i.val : ℝ) - j.val|)
      * qk (realOf q b) (realOf k b) (64 * n.val + i.val) (64 * n.val + j.val) h.val * realOf v b (64 * n.val + j.val) (64 * h.val + e.val) : ℝ) : EReal) := by
  unfold intraT
  pointwise
  rw [coe_sum]
  refine Finset.sum_congr rfl fun j _ => ?_
  rw [vals_at v hv', scores_at q k hq hk', ← EReal.coe_mul]
  exact congrArg _ (by ring)

/-- Where chunk `i` starts in an array over the chunks. -/
def start (i : IVec S_ 32) (k : Fin 5) : Int :=
  (((![i, constantI S_ 32 0#32, constantI S_ 32 0#32, constantI S_ 32 0#32, constantI S_ 32 0#32] : Fin 5 → IVec S_ 32)) k (Shape.Idx.first h_S_)).toInt

/-- The state after one more chunk. -/
def stepT (g : FVec Ideal S8 .f32) (s : FVec Ideal S16x8x64x64 .f32) (a : FVec Ideal S64x16x8x64x64 .f32) (i : IVec S_ 32) : FVec Ideal S16x8x64x64 .f32 :=
  addf (mulf (broadcastInDim S16x8x64x64 ![0, 1, 2, 3] bcast_S1x8x1x1_S16x8x64x64_0_1_2_3 (broadcastInDim S1x8x1x1 ![1] bcast_S8_S1x8x1x1_1 g)) s)
    (shapeCast S16x8x64x64 (Host.dynamicSlice S1x16x8x64x64 a (start i) sliceFits_S64x16x8x64x64_S1x16x8x64x64) shapeCasts_S1x16x8x64x64_S16x8x64x64)

/-- The states before the chunks, with one more written. -/
def writeT (t : FVec Ideal S64x16x8x64x64 .f32) (s : FVec Ideal S16x8x64x64 .f32) (i : IVec S_ 32) : FVec Ideal S64x16x8x64x64 .f32 :=
  Host.dynamicUpdateSlice t (broadcastInDim S1x16x8x64x64 ![1, 2, 3, 4] bcast_S16x8x64x64_S1x16x8x64x64_1_2_3_4 s)
    (start i) updateFits_S64x16x8x64x64_S1x16x8x64x64

theorem step_s (X : Valuation τ sig (Elt Ideal)) : STEP X (Proc.devRef .tc main_v65_3)
    = stepT (X (Proc.devRef .tc main_v65_1)) (X (Proc.devRef .tc main_v65_3)) (X (Proc.devRef .tc main_v65_0)) (X (Proc.devRef .tc main_v65_2)) := STEP_main_v65_3 X

theorem step_t (X : Valuation τ sig (Elt Ideal)) : STEP X (Proc.devRef .tc main_v65_4)
    = writeT (X (Proc.devRef .tc main_v65_4)) (X (Proc.devRef .tc main_v65_3)) (X (Proc.devRef .tc main_v65_2)) := STEP_main_v65_4 X

/-- Trip `k` of the loop. -/
def trip (k : Fin 64) : IVec S_ 32 := fun _ => Scf.iv 0#32 1#32 k.val

theorem clamp_at (k : Fin 64) :
    Host.clampedStart S64x16x8x64x64 S1x16x8x64x64 rfl (start (trip k)) 0 = k.val ∧ Host.clampedStart S64x16x8x64x64 S1x16x8x64x64 rfl (start (trip k)) 1 = 0
    ∧ Host.clampedStart S64x16x8x64x64 S1x16x8x64x64 rfl (start (trip k)) 2 = 0 ∧ Host.clampedStart S64x16x8x64x64 S1x16x8x64x64 rfl (start (trip k)) 3 = 0
    ∧ Host.clampedStart S64x16x8x64x64 S1x16x8x64x64 rfl (start (trip k)) 4 = 0 := by
  have e : (start (trip k)) = ![(k.val : Int), 0, 0, 0, 0] := by
    have hk : (Scf.iv 0#32 1#32 k.val).toInt = (k.val : ℤ) := (by decide +kernel : ∀ k : Fin 64, (Scf.iv 0#32 1#32 k.val).toInt = (k.val : ℤ)) k
    funext a
    fin_cases a
    · exact hk
    all_goals rfl
  rw [e]
  clear e
  revert k
  decide +kernel

theorem step_at (g : FVec Ideal S8 .f32) (s : FVec Ideal S16x8x64x64 .f32) (a : FVec Ideal S64x16x8x64x64 .f32) (k : Fin 64) (b : Fin 16) (h : Fin 8) (d e : Fin 64) :
    (stepT g s a (trip k) (ix4 b h d e) : EReal) = g (ix1 h) * s (ix4 b h d e) + a (ix5 k b h d e) := by
  unfold stepT
  pointwise
  obtain ⟨h0, h1, h2, h3, h4⟩ := clamp_at k
  simp only [h0, h1, h2, h3, h4, Nat.zero_add]

theorem write_at (t : FVec Ideal S64x16x8x64x64 .f32) (s : FVec Ideal S16x8x64x64 .f32) (k n : Fin 64) (b : Fin 16) (h : Fin 8) (d e : Fin 64) :
    (writeT t s (trip k) (ix5 n b h d e) : EReal) = if n = k then s (ix4 b h d e) else t (ix5 n b h d e) := by
  unfold writeT
  pointwise
  obtain ⟨h0, h1, h2, h3, h4⟩ := clamp_at k
  simp only [h0, h1, h2, h3, h4, Nat.zero_add, Nat.sub_zero]
  by_cases hn : n = k
  · subst hn
    exact (dif_pos (by omega)).trans (if_pos rfl).symm
  · exact (dif_neg (fun h => hn (Fin.ext (by omega)))).trans (if_neg hn).symm

theorem total_at (s : FVec Ideal S64x16x8x64x64 .f32) (q k v : FVec Ideal S65536x512 .bf16) (hq : Fin' q) (hk' : Fin' k) (hv' : Fin' v) (b : Fin 16)
    (hs : ∀ (n : Fin 64) (h : Fin 8) (d e : Fin 64), (s (ix5 n b h d e) : EReal) = ((state (realOf k b) (realOf v b) (64 * n.val) (lane h d).val (64 * h.val + e.val) : ℝ) : EReal))
    (n i : Fin 64) (h : Fin 8) (e : Fin 64) :
    (totalT s (headsOf q) (intraT q k v) queryT (ix5 b n i h e) : EReal)
      = ((ret (realOf q b) (realOf k b) (realOf v b) (64 * n.val + i.val) (64 * h.val + e.val) : ℝ) : EReal) := by
  unfold totalT rowsBy
  pointwise
  rw [ret_split _ _ _ n.val (64 * n.val) 64 i.val _ rfl i.isLt (dvd_refl 64), ← cross_eq, EReal.coe_add, intra_at q k v hq hk' hv', hv_of]
  refine congrArg₂ (· + ·) (congrArg _ (Finset.sum_congr rfl fun j _ => ?_)) ?_
  · rw [if_pos (by omega)]
  · rw [← sum_lane h (fun l => realOf q b (64 * n.val + i.val) l * Real.exp (lg h.val * ((i.val : ℝ) + 1)) * state (realOf k b) (realOf v b) (64 * n.val) l (64 * h.val + e.val)),
      query_at, show (∑ x : Fin 64, s (ix5 n b h x e) * headsOf q (ix5 b n i h x) : EReal)
        = ((∑ x : Fin 64, state (realOf k b) (realOf v b) (64 * n.val) (lane h x).val (64 * h.val + e.val) * realOf q b (64 * n.val + i.val) (lane h x).val : ℝ) : EReal) from by
          rw [coe_sum]
          refine Finset.sum_congr rfl fun x _ => ?_
          rw [hs, heads_at q hq, ← EReal.coe_mul], ← EReal.coe_mul, Finset.sum_mul]
    exact congrArg _ (Finset.sum_congr rfl fun x _ => by ring)

section heads
variable (x : FVec Ideal S16x4096x8x64 .f32) (b : Fin 16) (r : Fin 4096) (h : Fin 8) (f : ℕ → ℝ)
  (hx : ∀ d : Fin 64, (x (ix4 b r h d) : EReal) = ((f (64 * h.val + d.val) : ℝ) : EReal))

include hx in
theorem mean_at (e : Fin 64) : (meanT x (ix4 b r h 0) : EReal) = ((mean f (64 * h.val + e.val) : ℝ) : EReal) := by
  unfold meanT
  pointwise
  have hs : (∑ d : Fin 64, x (ix4 b r h d) : EReal) = ((∑ d : Fin 64, f (64 * h.val + d.val) : ℝ) : EReal) := by
    rw [coe_sum]
    exact Finset.sum_congr rfl fun d _ => hx d
  unfold mean
  rw [hs, bits_64, Ideal.div_coe (by norm_num), ← EReal.coe_mul, show (64 * h.val + e.val) / 64 = h.val from hv_of h e]
  exact congrArg _ (by ring)

include hx in
theorem centre_at (e : Fin 64) : (centreT x (ix4 b r h e) : EReal) = ((f (64 * h.val + e.val) - mean f (64 * h.val + e.val) : ℝ) : EReal) := by
  unfold centreT
  pointwise
  rw [hx, mean_at x b r h f hx e, ← EReal.coe_sub]

include hx in
theorem norm_at (e : Fin 64) : (normT x (ix4 b r h e) : EReal) = ((f (64 * h.val + e.val) - mean f (64 * h.val + e.val) : ℝ) : EReal)
    * Ideal.rsqrt (((mean (fun y => (f y - mean f y) * (f y - mean f y)) (64 * h.val + e.val) : ℝ) : EReal) + Ideal.ofBits FTy.f32 925353388#32) := by
  unfold normT
  pointwise
  rw [centre_at x b r h f hx e, mean_at (mulf (centreT x) (centreT x)) b r h (fun y => (f y - mean f y) * (f y - mean f y)) ?_ e]
  intro d
  pointwise
  rw [centre_at x b r h f hx d, ← EReal.coe_mul]

end heads

theorem out_at (x : FVec Ideal S16x64x64x8x64 .f32) (a : FVec Ideal S65536x512 .bf16) (r : Fin 65536) (y : Fin 512) (f : ℕ → ℝ)
    (hx : ∀ d : Fin 64, (x (ix5 ⟨r.val / 4096, by omega⟩ ⟨r.val % 4096 / 64, by omega⟩ ⟨r.val % 4096 % 64, by omega⟩ ⟨y.val / 64, by omega⟩ d) : EReal) = ((f (64 * (y.val / 64) + d.val) : ℝ) : EReal)) :
    (outT x a (ix2 r y) : EReal) = gated f y.val (a (ix2 r y)) := by
  unfold outT gateT
  pointwise
  rw [norm_at _ _ _ _ f ?_]
  · show _ * (((f (64 * (y.val / 64) + y.val % 64) - mean f (64 * (y.val / 64) + y.val % 64) : ℝ) : EReal)
      * Ideal.rsqrt (((mean (fun y => (f y - mean f y) * (f y - mean f y)) (64 * (y.val / 64) + y.val % 64) : ℝ) : EReal) + Ideal.ofBits FTy.f32 925353388#32)) = _
    rw [Nat.div_add_mod]
    rfl
  · intro d
    refine Eq.trans ?_ (hx d)
    pointwise

end Cert.RetRefIdeal.Spec
-- ==== Proof.RetRef.lean ====
module

public import Idealize.ShloMosaic.Lib.StableHlo.ReadAt
public import Idealize.ShloMosaic.Lib.Pointwise
public import proofs.«01_k».proof.Proof.RetRefStage

@[expose] public section

set_option maxRecDepth 65536
set_option maxHeartbeats 4000000

noncomputable section

namespace Cert.RetRefIdeal.Spec

open Idealize.ShloMosaic Idealize.ShloMosaic.TcCoe Idealize.SL.Sem Cert.Proof.Ret
open Idealize.ShloMosaic.StableHlo
open Cert.RetIdeal.Spec (num toInt_word absE coe_sum gated)
open scoped BigOperators
open Cert.RetRefIdeal Cert.RetRefIdeal.Gen Cert.RetRefIdeal.Value

theorem read_q (W : Valuation τ sig (Elt Ideal)) : after hostOps0 W (Proc.devRef .tc main_v48) = headsOf (W (Proc.devRef .tc main_arg0)) := by
  after_reads_simp
  rfl

theorem read_kv (W : Valuation τ sig (Elt Ideal)) : after hostOps0 W (Proc.devRef .tc main_v65_0) = kvT (W (Proc.devRef .tc main_arg1)) (W (Proc.devRef .tc main_arg2)) := by
  after_reads_simp
  rfl

theorem read_chunk (W : Valuation τ sig (Elt Ideal)) : after hostOps0 W (Proc.devRef .tc main_v65_1) = chunkT := by
  after_reads_simp
  rfl

theorem read_state (W : Valuation τ sig (Elt Ideal)) :
    after hostOps0 W (Proc.devRef .tc main_v65_3) = broadcastInDim S16x8x64x64 ![] bcast_S_S16x8x64x64 (constant (F := Ideal) S_ .f32 0x00000000#32) := by
  after_reads_simp
  rfl

theorem read_intra (W : Valuation τ sig (Elt Ideal)) : after hostOps0 W (Proc.devRef .tc main_v57)
    = intraT (W (Proc.devRef .tc main_arg0)) (W (Proc.devRef .tc main_arg1)) (W (Proc.devRef .tc main_arg2)) := by
  after_reads_simp
  rfl

theorem read_query (W : Valuation τ sig (Elt Ideal)) : after hostOps0 W (Proc.devRef .tc main_v44) = queryT := by
  after_reads_simp
  rfl

theorem read_out (X : Valuation τ sig (Elt Ideal)) : after hostOps0_3 (after hostOps0_2 (after hostOps0_1 X)) (Proc.devRef .tc main_v96)
    = outT (totalT (X (Proc.devRef .tc main_v65_4)) (X (Proc.devRef .tc main_v48)) (X (Proc.devRef .tc main_v57)) (X (Proc.devRef .tc main_v44))) (X (Proc.devRef .tc main_arg3)) := by
  after_reads_simp
  rfl

section trips
variable (m : (ℓ : Loc nD τ sig) → Buf (Elt Ideal) ℓ) (c : Dev nD)

/-- The carried buffers before trip `k`. -/
def carried (k : ℕ) : Valuation τ sig (Elt Ideal) := STEP^[k] (entryContents preI m c)

theorem carried_succ (k : ℕ) : carried m c (k + 1) = STEP (carried m c k) := Function.iterate_succ_apply' ..

theorem carried_kv (k : ℕ) : carried m c k (Proc.devRef .tc main_v65_0) = kvT (m (c.tc.loc main_arg1)) (m (c.tc.loc main_arg2)) := by
  induction k with
  | zero => exact read_kv (launchContents m c)
  | succ k ih => rw [carried_succ]; exact (STEP_main_v65_0 _).trans ih

theorem carried_chunk (k : ℕ) : carried m c k (Proc.devRef .tc main_v65_1) = chunkT := by
  induction k with
  | zero => exact read_chunk (launchContents m c)
  | succ k ih => rw [carried_succ]; exact (STEP_main_v65_1 _).trans ih

theorem carried_trip (k : Fin 64) : carried m c k.val (Proc.devRef .tc main_v65_2) = trip k :=
  (atK_agree m c k.val main_v65_2 (by decide)).symm.trans (atK_ctr m c k.val)

variable (hk : Fin' (m (c.tc.loc main_arg1))) (hv' : Fin' (m (c.tc.loc main_arg2)))

include hk hv' in
theorem carried_state (k : ℕ) (hle : k ≤ 64) (b : Fin 16) (h : Fin 8) (d e : Fin 64) : ((carried m c k (Proc.devRef .tc main_v65_3) : FVec Ideal S16x8x64x64 .f32) (ix4 b h d e) : EReal)
    = ((state (realOf (m (c.tc.loc main_arg1)) b) (realOf (m (c.tc.loc main_arg2)) b) (64 * k) (lane h d).val (64 * h.val + e.val) : ℝ) : EReal) := by
  induction k with
  | zero =>
    rw [Nat.mul_zero, state_zero]
    refine (congrFun (read_state (launchContents m c)) (ix4 b h d e)).trans ?_
    pointwise
    norm_num
  | succ k ih =>
    rw [carried_succ, step_s, carried_kv, carried_chunk, carried_trip m c ⟨k, by omega⟩]
    refine (step_at _ _ _ ⟨k, by omega⟩ b h d e).trans ?_
    rw [ih (by omega), kv_at _ _ hk hv', chunk_at, ← EReal.coe_mul, ← EReal.coe_add, Nat.mul_succ, state_add, hv_of]
    norm_num

include hk hv' in
theorem carried_stack (k : ℕ) (hle : k ≤ 64) (n : Fin 64) (hn : n.val < k) (b : Fin 16) (h : Fin 8) (d e : Fin 64) :
    ((carried m c k (Proc.devRef .tc main_v65_4) : FVec Ideal S64x16x8x64x64 .f32) (ix5 n b h d e) : EReal)
    = ((state (realOf (m (c.tc.loc main_arg1)) b) (realOf (m (c.tc.loc main_arg2)) b) (64 * n.val) (lane h d).val (64 * h.val + e.val) : ℝ) : EReal) := by
  induction k with
  | zero => omega
  | succ k ih =>
    rw [carried_succ, step_t, carried_trip m c ⟨k, by omega⟩]
    refine (write_at _ _ ⟨k, by omega⟩ n b h d e).trans ?_
    by_cases he : n = ⟨k, by omega⟩
    · rw [if_pos he, he]
      exact carried_state m c hk hv' k (by omega) b h d e
    · rw [if_neg he]
      exact ih (by omega) (by have : n.val ≠ k := fun h => he (Fin.ext h); omega)

end trips

/-- The buffers a trip writes. -/
def tripW : List (Ref sig .tc) := condOps_W ++ (while0Ops0_W ++ (while0Ops0_1_W ++ (while0Ops0_2_W ++ while0Ops0_3_W)))

/-- A buffer the loop does not write. -/
theorem trip_keep (m : (ℓ : Loc nD τ sig) → Buf (Elt Ideal) ℓ) (c : Dev nD) (r : Ref sig .tc) (h : r ∉ tripW) (k : ℕ) :
    atK m k c (Proc.devRef .tc r) = entryContents preI m c (Proc.devRef .tc r) := by
  simp only [tripW, List.mem_append, not_or] at h
  obtain ⟨h0, h1, h2, h3, h4⟩ := h
  induction k with
  | zero => rfl
  | succ k ih =>
    refine Eq.trans ?_ ih
    show after while0Ops0_3 (after while0Ops0_2 (after while0Ops0_1 (after while0Ops0 (after condOps (atK m k c))))) (Proc.devRef .tc r) = _
    exact (after_of_writes_sub _ _ while0Ops0_3_writes h4).trans ((after_of_writes_sub _ _ while0Ops0_2_writes h3).trans
      ((after_of_writes_sub _ _ while0Ops0_1_writes h2).trans ((after_of_writes_sub _ _ while0Ops0_writes h1).trans (after_of_writes_sub _ _ condOps_writes h0))))

section result
variable (m : (ℓ : Loc nD τ sig) → Buf (Elt Ideal) ℓ) (c : Dev nD)

/-- The run's last contents. -/
def last (r : Ref sig .tc) : (Proc.devRef .tc r : DevRef τ sig).ty.Contents (Elt Ideal) := finalContents condOps preI bodyI postI 64 m c (Proc.devRef .tc r)

theorem cond_keep (X : Valuation τ sig (Elt Ideal)) (r : Ref sig .tc) (h : r ∉ condOps_W) : after condOps X (Proc.devRef .tc r) = X (Proc.devRef .tc r) :=
  after_of_writes_sub _ _ condOps_writes h

theorem last_out : last m c main_v96 = outT (totalT (carried m c 64 (Proc.devRef .tc main_v65_4)) (headsOf (m (c.tc.loc main_arg0)))
    (intraT (m (c.tc.loc main_arg0)) (m (c.tc.loc main_arg1)) (m (c.tc.loc main_arg2))) queryT) (m (c.tc.loc main_arg3)) := by
  refine (read_out (after condOps (atK m 64 c))).trans ?_
  rw [cond_keep _ main_v65_4 (by decide), cond_keep _ main_v48 (by decide), cond_keep _ main_v57 (by decide), cond_keep _ main_v44 (by decide), cond_keep _ main_arg3 (by decide),
    atK_agree m c 64 main_v65_4 (by decide), trip_keep m c main_v48 (by decide), trip_keep m c main_v57 (by decide), trip_keep m c main_v44 (by decide), trip_keep m c main_arg3 (by decide)]
  have h1 := read_q (launchContents m c)
  have h2 := read_intra (launchContents m c)
  have h3 := read_query (launchContents m c)
  have h4 : after hostOps0 (launchContents m c) (Proc.devRef .tc main_arg3) = m (c.tc.loc main_arg3) := by
    after_reads_simp
  exact congrArg₂ outT (by rw [show entryContents preI m c = after hostOps0 (launchContents m c) from rfl, h1, h2, h3]; rfl) h4

/-- An argument that no stretch of operations writes. -/
theorem last_arg (r : Ref sig .tc) (h0 : r ∉ hostOps0_W) (h1 : r ∉ tripW)
    (h2 : ∀ X : Valuation τ sig (Elt Ideal), after hostOps0_3 (after hostOps0_2 (after hostOps0_1 X)) (Proc.devRef .tc r) = X (Proc.devRef .tc r)) :
    last m c r = m (c.tc.loc r) := by
  refine (h2 (after condOps (atK m 64 c))).trans ((cond_keep _ r fun h => h1 (List.mem_append_left _ h)).trans ((trip_keep m c r h1 64).trans ?_))
  exact after_of_writes_sub _ _ hostOps0_writes h0

theorem tail_arg0 (X : Valuation τ sig (Elt Ideal)) : after hostOps0_3 (after hostOps0_2 (after hostOps0_1 X)) (Proc.devRef .tc main_arg0) = X (Proc.devRef .tc main_arg0) := by
  after_reads_simp
theorem tail_arg1 (X : Valuation τ sig (Elt Ideal)) : after hostOps0_3 (after hostOps0_2 (after hostOps0_1 X)) (Proc.devRef .tc main_arg1) = X (Proc.devRef .tc main_arg1) := by
  after_reads_simp
theorem tail_arg2 (X : Valuation τ sig (Elt Ideal)) : after hostOps0_3 (after hostOps0_2 (after hostOps0_1 X)) (Proc.devRef .tc main_arg2) = X (Proc.devRef .tc main_arg2) := by
  after_reads_simp
theorem tail_arg3 (X : Valuation τ sig (Elt Ideal)) : after hostOps0_3 (after hostOps0_2 (after hostOps0_1 X)) (Proc.devRef .tc main_arg3) = X (Proc.devRef .tc main_arg3) := by
  after_reads_simp

/-- The arguments are as they were. -/
theorem last_args : last m c main_arg0 = m (c.tc.loc main_arg0) ∧ last m c main_arg1 = m (c.tc.loc main_arg1) ∧ last m c main_arg2 = m (c.tc.loc main_arg2)
    ∧ last m c main_arg3 = m (c.tc.loc main_arg3) :=
  ⟨last_arg m c main_arg0 (by decide) (by decide) tail_arg0, last_arg m c main_arg1 (by decide) (by decide) tail_arg1,
    last_arg m c main_arg2 (by decide) (by decide) tail_arg2, last_arg m c main_arg3 (by decide) (by decide) tail_arg3⟩

/-- The result array, of the arguments. -/
theorem last_eq (f0 : Fin' (m (c.tc.loc main_arg0))) (f1 : Fin' (m (c.tc.loc main_arg1))) (f2 : Fin' (m (c.tc.loc main_arg2))) (r : Fin 65536) (y : Fin 512) :
    ((last m c main_v96 : FVec Ideal S65536x512 .bf16) (ix2 r y) : EReal)
      = gated (ret (realOf (m (c.tc.loc main_arg0)) (r.val / 4096)) (realOf (m (c.tc.loc main_arg1)) (r.val / 4096)) (realOf (m (c.tc.loc main_arg2)) (r.val / 4096)) (r.val % 4096))
          y.val (m (c.tc.loc main_arg3) (ix2 r y)) := by
  refine (congrFun (last_out m c) (ix2 r y)).trans ?_
  refine out_at _ _ r y _ fun d => ?_
  refine (total_at _ _ _ _ f0 f1 f2 ⟨r.val / 4096, by omega⟩ (fun n h d e => carried_stack m c f1 f2 64 le_rfl n n.isLt _ h d e) _ _ _ d).trans ?_
  show ((ret _ _ _ (64 * (r.val % 4096 / 64) + r.val % 4096 % 64) _ : ℝ) : EReal) = _
  rw [Nat.div_add_mod]

end result

end Cert.RetRefIdeal.Spec
-- ==== Proof.RetClaim.lean ====
/- The claims about the retention: the run of the plain computation, and the equality of its result with the kernel's where no query, key or value is infinite. -/
module

public import Idealize.ShloMosaic.Lib.ReduceAll
public import proofs.«01_k».proof.Proof.RetRef
public import proofs.«01_k».proof.Proof.RetKernel
public import proofs.«01_k».proof.Proof.Gen.Ret.Frame
public import proofs.«01_k».proof.Proof.Gen.Pre_finite_qkv
public import proofs.«01_k».proof.Defs

@[expose] public section

noncomputable section

namespace Cert.Proof.Ret

open Idealize.ShloMosaic Idealize.SL.Sem

/-- A number whose absolute value is less than infinity is not infinite. -/
theorem finite_of_lt (x : EReal) (h : Ideal.cmp .olt (max x (-x)) (Ideal.ofBits FTy.f32 0x7F800000#32) = 1#1) : x = ((x.toReal : ℝ) : EReal) := by
  have hb : Ideal.ofBits FTy.f32 0x7F800000#32 = (⊤ : EReal) := by simp [Ideal.ofBits, Ideal.ieee]
  rw [hb] at h
  induction x using EReal.rec with
  | bot => simp [Ideal.cmp] at h
  | coe x => rfl
  | top => simp [Ideal.cmp] at h

section pre
open Cert.Pre_finite_qkv

instance : Subsingleton S_.Idx := ⟨fun _ _ => funext fun i => i.elim0⟩

theorem finite_args [Facts] (q k v g : FVec Ideal Cert.Pre_finite_qkv.S65536x512 .bf16) (h : fn (F := Ideal) q k v g = fun _ => 1#1) : Fin' q ∧ Fin' k ∧ Fin' v := by
  have h0 := congrFun h (fun i => i.elim0)
  obtain ⟨h1, hv⟩ := IntOp.andi_eq_one.mp h0
  obtain ⟨hq, hk⟩ := IntOp.andi_eq_one.mp h1
  exact ⟨fun i => finite_of_lt _ (Host.reduce_andi_all _ _ _ _ _ hq i), fun i => finite_of_lt _ (Host.reduce_andi_all _ _ _ _ _ hk i),
    fun i => finite_of_lt _ (Host.reduce_andi_all _ _ _ _ _ hv i)⟩

end pre

/-- The plain computation's run: the result array, and the arguments kept. -/
theorem run_ref (m : (ℓ : Loc Cert.RetRefIdeal.nD Cert.RetRefIdeal.τ Cert.RetRefIdeal.sig) → Buf (Elt Ideal) ℓ) (g : Dev Cert.RetRefIdeal.nD → PrngReg) :
    θ_run (Cert.RetRefIdeal.defs (F := Ideal)) (onTc (τ := Cert.RetRefIdeal.τ) (Cert.RetRefIdeal.main (F := Ideal))) ⟨m, fun _ => 0, g⟩ (fun r => ∀ c : Dev Cert.RetRefIdeal.nD,
      r.2.mem ((c.tc : Thread Cert.RetRefIdeal.nD Cert.RetRefIdeal.τ).loc Cert.RetRefIdeal.main_v96) = Cert.RetRefIdeal.Spec.last m c Cert.RetRefIdeal.main_v96
      ∧ r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)) := by
  refine (θ_run Cert.RetRefIdeal.defs _ _).mono (fun r h c => ?_) (Cert.RetRefIdeal.Value.run_fold (F := Ideal) m g)
  obtain ⟨a0, a1, a2, a3⟩ := Cert.RetRefIdeal.Spec.last_args m c
  exact ⟨h c _ rfl, (h c _ rfl).trans a0, (h c _ rfl).trans a1, (h c _ rfl).trans a2, (h c _ rfl).trans a3⟩

theorem frame_ref : Cert.quiescent_RetRefIdeal := fun m ρ _ =>
  (θ_run Cert.RetRefIdeal.defs _ _).mono (fun r h => ⟨fun c => (h c).2, sem_eq_zero_of_no_sems (by decide) r.2⟩) (run_ref m ρ)

theorem frame_ref_pre [Cert.Pre_finite_qkv.Facts] : Cert.quiescent_RetRefIdeal_pre_finite_qkv := fun m ρ _ => frame_ref m ρ trivial

theorem algebraic : Cert.algebraic_RetIdeal_RetRefIdeal_pre_finite_qkv := by
  intro m g m' g' hpre hagree
  refine ⟨fun c => Cert.RetIdeal.Spec.resultOf m c, ?_, ?_⟩
  · refine (θ_run Cert.RetIdeal.defs _ _).mono (fun _ h c => ⟨(h c).1.trans ?_, (h c).2⟩) (Cert.RetIdeal.Value.run_blocks (F := Ideal) m g)
    obtain ⟨f0, f1, f2⟩ := finite_args _ _ _ _ (hpre c)
    exact Cert.RetIdeal.Spec.final m c f0 f1 f2
  · refine (θ_run Cert.RetRefIdeal.defs _ _).mono (fun _ h c => ⟨(h c).1.trans ?_, (h c).2⟩) (run_ref m' g')
    obtain ⟨f0, f1, f2⟩ := finite_args _ _ _ _ (hpre c)
    obtain ⟨e0, e1, e2, e3⟩ := hagree c
    have h := fun r y => Cert.RetRefIdeal.Spec.last_eq m' c (by rw [e0]; exact f0) (by rw [e1]; exact f1) (by rw [e2]; exact f2) r y
    rw [e0, e1, e2, e3] at h
    funext i
    have hi : i = ix2 (n0 := 65536) (n1 := 512) (i 0) (i 1) := by
      funext a
      fin_cases a <;> rfl
    rw [hi]
    exact h _ _

end Cert.Proof.Ret
end
-- ==== Proof.MergeBlock.lean ====
/- One row of the merge of the three branches as a function of the extended reals, and the proof that the kernel's block computes it. -/
module

public import proofs.«01_k».proof.Defs
public import proofs.«01_k».proof.Proof.Gen.MergeIdeal.Value
public import Idealize.ShloMosaic.Lib.Pointwise
public import Idealize.ShloMosaic.PureOps.Ideal
public import Idealize.ShloMosaic.Lib.Pipeline.Value

@[expose] public section

noncomputable section

namespace Cert.Proof.Merge

open Idealize.ShloMosaic
open scoped BigOperators

variable (x : Fin 1024 → EReal) (ret : Fin 512 → EReal) (lat : Fin 1024 → EReal) (q : Fin 512 → EReal) (gate : Fin 3072 → EReal)
    (k v : Fin 256 → Fin 512 → EReal) (wr : Fin 512 → Fin 1024 → EReal) (wd : Fin 1024 → Fin 1024 → EReal) (wm : Fin 512 → Fin 1024 → EReal)
    (wo : Fin 1024 → Fin 1024 → EReal)

/-- The logit of a memory slot for the head whose 128 columns begin at `o`. -/
def logit (o : Nat) (ho : o + 128 ≤ 512) (n : Fin 256) : EReal :=
  (∑ d : Fin 128, q ⟨o + d, by omega⟩ * k n ⟨o + d, by omega⟩) * Ideal.ofBits FTy.f32 0x3DB504F3#32

/-- The greatest logit of that head. -/
def top (o : Nat) (ho : o + 128 ≤ 512) : EReal :=
  Finset.fold max (Ideal.ofBits FTy.f32 0xFF800000#32)
    (fun n => (∑ d : Fin 128, q ⟨o + d, by omega⟩ * k n ⟨o + d, by omega⟩) * Ideal.ofBits FTy.f32 0x3DB504F3#32) Finset.univ

/-- The unnormalized weight of a memory slot. -/
def weight (o : Nat) (ho : o + 128 ≤ 512) (n : Fin 256) : EReal :=
  Ideal.exp (logit q k o ho n - top q k o ho)

/-- A column of the attention to the memory, read with the head at `o`: the weighted sum, divided by the sum of the weights. -/
def attend (o : Nat) (ho : o + 128 ≤ 512) (e : Fin 512) : EReal :=
  Ideal.div (∑ n, weight q k o ho n * v n e) (∑ n, weight q k o ho n)

/-- A column of the attention to the memory. -/
def memo (e : Fin 512) : EReal := attend q k v (128 * (e.val / 128)) (by omega) e

/-- The gated sum of the three branches, for any third branch. -/
def merged (b : Fin 512 → EReal) (j : Fin 1024) : EReal :=
  Ideal.logistic (gate ⟨j, by omega⟩) * ∑ e, ret e * wr e j + Ideal.logistic (gate ⟨1024 + j, by omega⟩) * ∑ e, lat e * wd e j
    + Ideal.logistic (gate ⟨2048 + j, by omega⟩) * ∑ e, b e * wm e j

/-- The result row: the residual row plus the projection of the gated sum. -/
def row (b : Fin 512 → EReal) (c : Fin 1024) : EReal :=
  x c + ∑ j, merged ret lat gate wr wd wm b j * wo j c

theorem memo_at (o : Nat) (ho : o + 128 ≤ 512) (e : Fin 512) (h : 128 * (e.val / 128) = o) : memo q k v e = attend q k v o ho e := by
  subst h; rfl

end Cert.Proof.Merge

namespace Cert.MergeIdeal.Spec

open Idealize.ShloMosaic Idealize.ShloMosaic.TcCoe Idealize.SL.Sem Cert.MergeIdeal Cert.MergeIdeal.Gen Cert.Proof.Merge
open scoped BigOperators

set_option maxRecDepth 16384

theorem hz : (![0, 0] : Fin 2 → Nat) = fun _ => 0 := funext fun a => by fin_cases a <;> rfl

theorem hz3 : (![0, 0, 0] : Fin 3 → Nat) = fun _ => 0 := funext fun a => by fin_cases a <;> rfl

theorem pay4_apply (x0 : FVec Ideal S512x512 .bf16) (x1 x2 : FVec Ideal S1x256x512 .bf16) (r : Fin 512) (c : Fin 128) :
    (k0_pay4 (F := Ideal) x0 x1 x2 (ix2 r c) : EReal)
      = attend (fun e => x0 (ix2 r e)) (fun n e => x1 (ix3 0 n e)) (fun n e => x2 (ix3 0 n e)) 0 (by omega) ⟨c, by omega⟩ := by
  pointwise [k0_pay4, k0_pay2, k0_pay3]
  simp only [attend, weight, top, logit, Nat.zero_add]

theorem pay5_apply (x0 : FVec Ideal S512x512 .bf16) (x1 x2 : FVec Ideal S1x256x512 .bf16) (r : Fin 512) (c : Fin 128) :
    (k0_pay5 (F := Ideal) x0 x1 x2 (ix2 r c) : EReal)
      = attend (fun e => x0 (ix2 r e)) (fun n e => x1 (ix3 0 n e)) (fun n e => x2 (ix3 0 n e)) 128 (by omega) ⟨128 + c, by omega⟩ := by
  pointwise [k0_pay5, k0_pay2, k0_pay3]
  rfl

theorem pay2_apply (x1 : FVec Ideal S1x256x512 .bf16) (n : Fin 256) (e : Fin 512) :
    (k0_pay2 (F := Ideal) x1 (ix2 n e) : EReal) = x1 (ix3 0 n e) := by
  pointwise [k0_pay2]

theorem pay3_apply (x1 : FVec Ideal S1x256x512 .bf16) (n : Fin 256) (e : Fin 512) :
    (k0_pay3 (F := Ideal) x1 (ix2 n e) : EReal) = x1 (ix3 0 n e) := by
  pointwise [k0_pay3]

/-- The third branch of the block: the attention to the memory, projected. -/
theorem pay6_apply (x0 : FVec Ideal S512x512 .bf16) (x1 x2 : FVec Ideal S1x256x512 .bf16) (x5 : FVec Ideal S512x1024 .bf16)
    (r : Fin 512) (c : Fin 1024) :
    (k0_pay6 (F := Ideal) x0 (k0_pay2 x1) (k0_pay3 x2) (k0_pay4 x0 x1 x2) (k0_pay5 x0 x1 x2) x5 (ix2 r c) : EReal)
      = ∑ e, memo (fun e => x0 (ix2 r e)) (fun n e => x1 (ix3 0 n e)) (fun n e => x2 (ix3 0 n e)) e * x5 (ix2 e c) := by
  pointwise [k0_pay6]
  refine Finset.sum_congr rfl fun e _ => congrArg (· * (x5 (ix2 e c) : EReal)) ?_
  simp only [pay2_apply, pay3_apply, pay4_apply, pay5_apply]
  by_cases h0 : e.val < 128
  · rw [dif_pos h0, memo_at _ _ _ 0 (by omega) e (by omega)]
  rw [dif_neg h0]
  by_cases h1 : e.val - 128 < 128
  · rw [dif_pos h1, memo_at _ _ _ 128 (by omega) e (by omega)]
    exact congrArg _ (Fin.ext (by show 128 + (e.val - 128) = e.val; omega))
  rw [dif_neg h1]
  by_cases h2 : e.val - 128 - 128 < 128
  · rw [dif_pos h2, memo_at _ _ _ 256 (by omega) e (by omega)]
    have he : (⟨256 + (e.val - 128 - 128), by omega⟩ : Fin 512) = e := Fin.ext (by show 256 + (e.val - 128 - 128) = e.val; omega)
    simp only [he]; rfl
  rw [dif_neg h2, memo_at _ _ _ 384 (by omega) e (by omega)]
  have he : (⟨384 + (e.val - 128 - 128 - 128), by omega⟩ : Fin 512) = e := Fin.ext (by show 384 + (e.val - 128 - 128 - 128) = e.val; omega)
  simp only [he]; rfl

theorem pay7_apply (x1 : FVec Ideal S512x1024 .bf16) (n : Fin 512) (e : Fin 1024) :
    (k0_pay7 (F := Ideal) x1 (ix2 n e) : EReal) = x1 (ix2 n e) := by
  pointwise [k0_pay7]

/-- What the body leaves at row `r`, column `c` of its block. -/
theorem out_apply (x0 : FVec Ideal S512x1024 .f32) (x1 : FVec Ideal S512x512 .bf16) (x2 : FVec Ideal S512x1024 .bf16)
    (x3 : FVec Ideal S512x512 .bf16) (x4 : FVec Ideal S512x3072 .bf16) (x5 x6 : FVec Ideal S1x256x512 .bf16)
    (x7 : FVec Ideal S512x1024 .bf16) (x8 : FVec Ideal S1024x1024 .bf16) (x9 : FVec Ideal S512x1024 .bf16) (x10 : FVec Ideal S1024x1024 .bf16)
    (r : Fin 512) (c : Fin 1024) :
    out0_11 (F := Ideal) x0 x1 x2 x3 x4 x5 x6 x7 x8 x9 x10 (ix2 r c)
      = row (fun j => x0 (ix2 r j)) (fun e => x1 (ix2 r e)) (fun e => x2 (ix2 r e)) (fun j => x4 (ix2 r j)) (fun e j => x7 (ix2 e j))
          (fun e j => x8 (ix2 e j)) (fun e j => x9 (ix2 e j)) (fun e j => x10 (ix2 e j))
          (memo (fun e => x3 (ix2 r e)) (fun n e => x5 (ix3 0 n e)) (fun n e => x6 (ix3 0 n e))) c := by
  unfold out0_11
  rw [View.canon_unit_zero hz]
  simp only [View.ld_unit_zero (S := S512x512) hz, View.ld_unit_zero (S := S512x1024) hz, View.ld_unit_zero (S := S1024x1024) hz,
    View.ld_unit_zero (S := S512x3072) hz, View.ld_unit_zero (S := S1x256x512) hz3]
  pointwise [k0_pay1]
  simp only [pay6_apply, pay7_apply]
  rfl

variable (m : (ℓ : Loc nD τ sig) → Buf (Elt Ideal) ℓ)

/-- The result array as a function of the argument arrays, row by row; the memory of row `i` is that of its sequence. -/
def result (a0 : FVec Ideal S65536x1024 .f32) (a1 : FVec Ideal S65536x512 .bf16) (a2 : FVec Ideal S65536x1024 .bf16)
    (a3 : FVec Ideal S65536x512 .bf16) (a4 : FVec Ideal S65536x3072 .bf16) (a5 a6 : FVec Ideal S16x256x512 .bf16)
    (a7 : FVec Ideal S512x1024 .f32) (a8 : FVec Ideal S1024x1024 .bf16) (a9 : FVec Ideal S512x1024 .f32) (a10 : FVec Ideal S1024x1024 .f32) :
    FVec Ideal S65536x1024 .f32 :=
  fun i => row (fun j => a0 (ix2 (i 0) j)) (fun e => a1 (ix2 (i 0) e)) (fun e => a2 (ix2 (i 0) e)) (fun j => a4 (ix2 (i 0) j)) (fun e j => a7 (ix2 e j))
    (fun e j => a8 (ix2 e j)) (fun e j => a9 (ix2 e j)) (fun e j => a10 (ix2 e j))
    (memo (fun e => a3 (ix2 (i 0) e)) (fun n e => a5 (ix3 ⟨(i 0).val / 4096, by have : (i 0).val < 65536 := (i 0).isLt; omega⟩ n e))
      (fun n e => a6 (ix3 ⟨(i 0).val / 4096, by have : (i 0).val < 65536 := (i 0).isLt; omega⟩ n e))) (i 1)

/-- The block indices of the windows cut along the rows. -/
theorem idx_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_11.index t (0 : Fin 2) = t.val ∧ win0_11.index t (1 : Fin 2) = 0) :=
  (by decide +kernel : ∀ t : Fin grid0.N, _)

/-- The memory's windows hold the block of the row block's sequence. -/
theorem idx_mem : ∀ t : Fin cfg0.N, (win0_5.index t (0 : Fin 3) = t.val / 8 ∧ win0_5.index t (1 : Fin 3) = 0 ∧ win0_5.index t (2 : Fin 3) = 0)
    ∧ (win0_6.index t (0 : Fin 3) = t.val / 8 ∧ win0_6.index t (1 : Fin 3) = 0 ∧ win0_6.index t (2 : Fin 3) = 0) :=
  (by decide +kernel : ∀ t : Fin grid0.N, _)

/-- The windows that hold a whole array stand at its first entry. -/
theorem idx_whole : ∀ t : Fin cfg0.N, (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem lt_points (t : Fin cfg0.N) : t.val < 128 := by
  have h : cfg0.N = 128 := N_0
  have := t.isLt; omega

/-- Row `r` of block `t` is row `512 t + r` of the array. -/
def rowAt (t : Fin cfg0.N) (r : Fin 512) : Fin 65536 := ⟨512 * t.val + r.val, by have := lt_points t; omega⟩

/-- The sequence of block `t`. -/
def seqAt (t : Fin cfg0.N) : Fin 16 := ⟨t.val / 8, by have := lt_points t; omega⟩

theorem blk0 (c : Dev nD) (t : Fin cfg0.N) (r : Fin 512) (k : Fin 1024) :
    iblk m c 0 t (ix2 r k) = m ((c : Thread nD τ).loc main_arg0) (ix2 (rowAt t r) k) := by
  rw [← V_main_arg0 m c]
  show V m c main_arg0 (((cfg0.win 0).blk t).view.emb (ix2 r k)) = _
  congr 1
  obtain ⟨⟨e0, e1⟩, -⟩ := idx_rows t
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (c : Dev nD) (t : Fin cfg0.N) (r : Fin 512) (k : Fin 512) :
    iblk m c 1 t (ix2 r k) = m ((c : Thread nD τ).loc main_arg1) (ix2 (rowAt t r) k) := by
  rw [← V_main_arg1 m c]
  show V m c main_arg1 (((cfg0.win 1).blk t).view.emb (ix2 r k)) = _
  congr 1
  obtain ⟨-, ⟨e0, e1⟩, -⟩ := idx_rows t
  funext a; apply Fin.ext
  match a with
  | ⟨0, _⟩ => show win0_1.index t (0 : Fin 2) * 512 + 1 * r.val = 512 * t.val + r.val; omega
  | ⟨1, _⟩ => show win0_1.index t (1 : Fin 2) * 512 + 1 * k.val = k.val; omega

theorem blk2 (c : Dev nD) (t : Fin cfg0.N) (r : Fin 512) (k : Fin 1024) :
    iblk m c 2 t (ix2 r k) = m ((c : Thread nD τ).loc main_arg2) (ix2 (rowAt t r) k) := by
  rw [← V_main_arg2 m c]
  show V m c main_arg2 (((cfg0.win 2).blk t).view.emb (ix2 r k)) = _
  congr 1
  obtain ⟨-, -, ⟨e0, e1⟩, -⟩ := idx_rows t
  funext a; apply Fin.ext
  match a with
  | ⟨0, _⟩ => show win0_2.index t (0 : Fin 2) * 512 + 1 * r.val = 512 * t.val + r.val; omega
  | ⟨1, _⟩ => show win0_2.index t (1 : Fin 2) * 1024 + 1 * k.val = k.val; omega

theorem blk3 (c : Dev nD) (t : Fin cfg0.N) (r : Fin 512) (k : Fin 512) :
    iblk m c 3 t (ix2 r k) = m ((c : Thread nD τ).loc main_arg3) (ix2 (rowAt t r) k) := by
  rw [← V_main_arg3 m c]
  show V m c main_arg3 (((cfg0.win 3).blk t).view.emb (ix2 r k)) = _
  congr 1
  obtain ⟨-, -, -, ⟨e0, e1⟩, -⟩ := idx_rows t
  funext a; apply Fin.ext
  match a with
  | ⟨0, _⟩ => show win0_3.index t (0 : Fin 2) * 512 + 1 * r.val = 512 * t.val + r.val; omega
  | ⟨1, _⟩ => show win0_3.index t (1 : Fin 2) * 512 + 1 * k.val = k.val; omega

theorem blk4 (c : Dev nD) (t : Fin cfg0.N) (r : Fin 512) (k : Fin 3072) :
    iblk m c 4 t (ix2 r k) = m ((c : Thread nD τ).loc main_arg4) (ix2 (rowAt t r) k) := by
  rw [← V_main_arg4 m c]
  show V m c main_arg4 (((cfg0.win 4).blk t).view.emb (ix2 r k)) = _
  congr 1
  obtain ⟨-, -, -, -, ⟨e0, e1⟩, -⟩ := idx_rows t
  funext a; apply Fin.ext
  match a with
  | ⟨0, _⟩ => show win0_4.index t (0 : Fin 2) * 512 + 1 * r.val = 512 * t.val + r.val; omega
  | ⟨1, _⟩ => show win0_4.index t (1 : Fin 2) * 3072 + 1 * k.val = k.val; omega

theorem blk5 (c : Dev nD) (t : Fin cfg0.N) (n : Fin 256) (k : Fin 512) :
    iblk m c 5 t (ix3 0 n k) = m ((c : Thread nD τ).loc main_arg5) (ix3 (seqAt t) n k) := by
  rw [← V_main_arg5 m c]
  show V m c main_arg5 (((cfg0.win 5).blk t).view.emb (ix3 0 n k)) = _
  congr 1
  obtain ⟨⟨e0, e1, e2⟩, -⟩ := idx_mem t
  funext a; apply Fin.ext
  match a with
  | ⟨0, _⟩ => show win0_5.index t (0 : Fin 3) * 1 + 1 * 0 = t.val / 8; omega
  | ⟨1, _⟩ => show win0_5.index t (1 : Fin 3) * 256 + 1 * n.val = n.val; omega
  | ⟨2, _⟩ => show win0_5.index t (2 : Fin 3) * 512 + 1 * k.val = k.val; omega

theorem blk6 (c : Dev nD) (t : Fin cfg0.N) (n : Fin 256) (k : Fin 512) :
    iblk m c 6 t (ix3 0 n k) = m ((c : Thread nD τ).loc main_arg6) (ix3 (seqAt t) n k) := by
  rw [← V_main_arg6 m c]
  show V m c main_arg6 (((cfg0.win 6).blk t).view.emb (ix3 0 n k)) = _
  congr 1
  obtain ⟨-, ⟨e0, e1, e2⟩⟩ := idx_mem t
  funext a; apply Fin.ext
  match a with
  | ⟨0, _⟩ => show win0_6.index t (0 : Fin 3) * 1 + 1 * 0 = t.val / 8; omega
  | ⟨1, _⟩ => show win0_6.index t (1 : Fin 3) * 256 + 1 * n.val = n.val; omega
  | ⟨2, _⟩ => show win0_6.index t (2 : Fin 3) * 512 + 1 * k.val = k.val; omega

theorem blk7 (c : Dev nD) (t : Fin cfg0.N) (d : Fin 512) (k : Fin 1024) :
    (iblk m c 7 t (ix2 d k) : EReal) = m ((c : Thread nD τ).loc main_arg7) (ix2 d k) := by
  show V m c main_v0 (((cfg0.win 7).blk t).view.emb (ix2 d k)) = _
  have h : ((cfg0.win 7).blk t).view.emb (ix2 d k) = ix2 d k := by
    obtain ⟨⟨e0, e1⟩, -⟩ := idx_whole t
    funext a; apply Fin.ext
    match a with
    | ⟨0, _⟩ => show win0_7.index t (0 : Fin 2) * 512 + 1 * d.val = d.val; omega
    | ⟨1, _⟩ => show win0_7.index t (1 : Fin 2) * 1024 + 1 * k.val = k.val; omega
  rw [h]
  entry_read
  pointwise

theorem blk8 (c : Dev nD) (t : Fin cfg0.N) (d : Fin 1024) (k : Fin 1024) :
    (iblk m c 8 t (ix2 d k) : EReal) = m ((c : Thread nD τ).loc main_arg8) (ix2 d k) := by
  show V m c main_arg8 (((cfg0.win 8).blk t).view.emb (ix2 d k)) = _
  have h : ((cfg0.win 8).blk t).view.emb (ix2 d k) = ix2 d k := by
    obtain ⟨-, ⟨e0, e1⟩, -⟩ := idx_whole t
    funext a; apply Fin.ext
    match a with
    | ⟨0, _⟩ => show win0_8.index t (0 : Fin 2) * 1024 + 1 * d.val = d.val; omega
    | ⟨1, _⟩ => show win0_8.index t (1 : Fin 2) * 1024 + 1 * k.val = k.val; omega
  rw [h, V_main_arg8 m c]

theorem blk9 (c : Dev nD) (t : Fin cfg0.N) (d : Fin 512) (k : Fin 1024) :
    (iblk m c 9 t (ix2 d k) : EReal) = m ((c : Thread nD τ).loc main_arg9) (ix2 d k) := by
  show V m c main_v1 (((cfg0.win 9).blk t).view.emb (ix2 d k)) = _
  have h : ((cfg0.win 9).blk t).view.emb (ix2 d k) = ix2 d k := by
    obtain ⟨-, -, ⟨e0, e1⟩, -⟩ := idx_whole t
    funext a; apply Fin.ext
    match a with
    | ⟨0, _⟩ => show win0_9.index t (0 : Fin 2) * 512 + 1 * d.val = d.val; omega
    | ⟨1, _⟩ => show win0_9.index t (1 : Fin 2) * 1024 + 1 * k.val = k.val; omega
  rw [h]
  entry_read
  pointwise

theorem blk10 (c : Dev nD) (t : Fin cfg0.N) (d : Fin 1024) (k : Fin 1024) :
    (iblk m c 10 t (ix2 d k) : EReal) = m ((c : Thread nD τ).loc main_arg10) (ix2 d k) := by
  show V m c main_v2 (((cfg0.win 10).blk t).view.emb (ix2 d k)) = _
  have h : ((cfg0.win 10).blk t).view.emb (ix2 d k) = ix2 d k := by
    obtain ⟨-, -, -, ⟨e0, e1⟩⟩ := idx_whole t
    funext a; apply Fin.ext
    match a with
    | ⟨0, _⟩ => show win0_10.index t (0 : Fin 2) * 1024 + 1 * d.val = d.val; omega
    | ⟨1, _⟩ => show win0_10.index t (1 : Fin 2) * 1024 + 1 * k.val = k.val; omega
  rw [h]
  entry_read
  pointwise

/-- The result array of the launch memory `m`. -/
abbrev resultOf (c : Dev nD) : FVec Ideal S65536x1024 .f32 :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem emb11 (t : Fin cfg0.N) (r : Fin 512) (k : Fin 1024) :
    ((cfg0.win 11).blk t).view.emb (ix2 r k) = ix2 (rowAt t r) k := by
  obtain ⟨-, -, -, -, -, e0, e1⟩ := idx_rows t
  funext a; apply Fin.ext
  match a with
  | ⟨0, _⟩ => show win0_11.index t (0 : Fin 2) * 512 + 1 * r.val = 512 * t.val + r.val; omega
  | ⟨1, _⟩ => show win0_11.index t (1 : Fin 2) * 1024 + 1 * k.val = k.val; omega

/-- What point `t` writes back is its block of the result. -/
theorem flushed_eq (c : Dev nD) (t : Fin cfg0.N) :
    (dats m 0 c).flushed 11 t = ((cfg0.win 11).blk t).view.read (Elt Ideal) (resultOf m c) := by
  rw [Value.flushed11]
  funext j
  obtain ⟨r, k, rfl⟩ : ∃ (r : Fin 512) (k : Fin 1024), j = ix2 r k := ⟨j 0, j 1, eq_ix2 j⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
    = resultOf m c (((cfg0.win 11).blk t).view.emb (ix2 r k))
  rw [emb11, out_apply]
  simp only [blk0, blk1, blk2, blk3, blk4, blk5, blk6, blk7, blk8, blk9, blk10]
  have hs : seqAt t = ⟨(512 * t.val + r.val) / 4096, by have := lt_points t; omega⟩ :=
    Fin.ext (by show t.val / 8 = (512 * t.val + r.val) / 4096; omega)
  rw [hs]
  rfl

/-- Every index of the result array lies in the block of one of the points. -/
theorem covered (i : S65536x1024.Idx) : ∃ t : Fin cfg0.N, (cfg0.win 11).flush t = true ∧ i ∈ ((cfg0.win 11).blk t).view.set := by
  obtain ⟨a, b, rfl⟩ : ∃ (a : Fin 65536) (b : Fin 1024), i = ix2 a b := ⟨i 0, i 1, eq_ix2 i⟩
  let t : Fin cfg0.N := ⟨a.val / 512, by rw [show cfg0.N = 128 from N_0]; omega⟩
  refine ⟨t, flush0_11 _, ?_⟩
  have h := ((cfg0.win 11).blk t).view.emb_mem_set (ix2 (⟨a.val % 512, Nat.mod_lt _ (by decide)⟩ : Fin 512) b)
  have e : rowAt t ⟨a.val % 512, Nat.mod_lt _ (by decide)⟩ = a := Fin.ext (by
    show 512 * (a.val / 512) + a.val % 512 = a.val
    omega)
  have h5 := emb11 t ⟨a.val % 512, Nat.mod_lt _ (by decide)⟩ b
  rw [e] at h5
  exact h5 ▸ h

/-- The result array after the run. -/
theorem final (c : Dev nD) : (dats m 0 c).arrAt 11 cfg0.N = resultOf m c :=
  (dats m 0 c).arrAt_eq_of_cover 11 (resultOf m c) (fun t _ => flushed_eq m c t) covered

end Cert.MergeIdeal.Spec
end
-- ==== Proof.MergeRef.lean ====
/- The plain merge of the three branches computes the same rows. -/
module

public import proofs.«01_k».proof.Proof.MergeBlock
public import proofs.«01_k».proof.Proof.Gen.MergeRefIdeal.Run
public import proofs.«01_k».proof.Proof.Gen.MergeRefIdeal.Read

@[expose] public section

noncomputable section

namespace Cert.Proof.Merge

open Idealize.ShloMosaic
open scoped BigOperators

theorem bits_scale : Ideal.ofBits FTy.f32 0x3DB504F3#32 = ((11863283 / 2 ^ 27 : ℝ) : EReal) := by
  simp [Ideal.ofBits, Ideal.ieee, -EReal.coe_mul]; norm_num

theorem bits_bot : Ideal.ofBits FTy.f32 0xFF800000#32 = (⊥ : EReal) := by
  simp [Ideal.ofBits, Ideal.ieee]

/-- The least element a maximum is taken from may be joined once more. -/
theorem max_fold (b : EReal) (f : Fin 256 → EReal) : max b (Finset.fold max b f Finset.univ) = Finset.fold max b f Finset.univ :=
  max_eq_right ((Finset.le_fold_max _).2 (.inl le_rfl))

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite non-negative factor on the right goes into a sum of any extended reals. -/
theorem sum_mul_coe {ι : Type*} (s : Finset ι) (f : ι → EReal) (c : ℝ) (hc : 0 ≤ c) : (∑ i ∈ s, f i) * ((c : ℝ) : EReal) = ∑ i ∈ s, f i * ((c : ℝ) : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

variable (q : Fin 512 → EReal) (k v : Fin 256 → Fin 512 → EReal)

theorem logit_coe (hq : ∀ e, q e = ((q e).toReal : EReal)) (hk : ∀ n e, k n e = ((k n e).toReal : EReal)) (o : Nat) (ho : o + 128 ≤ 512) (n : Fin 256) :
    ∃ y : ℝ, logit q k o ho n = (y : EReal) := by
  refine ⟨(∑ d : Fin 128, (q ⟨o + d, by omega⟩).toReal * (k n ⟨o + d, by omega⟩).toReal) * (11863283 / 2 ^ 27 : ℝ), ?_⟩
  unfold logit
  rw [bits_scale, EReal.coe_mul, ← sum_coe]
  refine congrArg (· * _) (Finset.sum_congr rfl fun d _ => ?_)
  rw [EReal.coe_mul, ← hq, ← hk]

theorem top_coe {o : Nat} {ho : o + 128 ≤ 512} (hl : ∀ n, ∃ y : ℝ, logit q k o ho n = (y : EReal)) : ∃ y : ℝ, top q k o ho = (y : EReal) := by
  have h1 : top q k o ho ≠ ⊤ := by
    apply ne_of_lt
    refine (Finset.fold_max_lt _).2 ⟨by rw [bits_bot]; exact bot_lt_top, fun n _ => ?_⟩
    obtain ⟨y, hy⟩ := hl n
    exact lt_of_eq_of_lt hy (EReal.coe_lt_top y)
  have h2 : top q k o ho ≠ ⊥ := by
    apply ne_of_gt
    obtain ⟨y, hy⟩ := hl 0
    exact lt_of_lt_of_le (lt_of_lt_of_eq (EReal.bot_lt_coe y) hy.symm) (Finset.le_fold_max _ |>.2 (.inr ⟨0, Finset.mem_univ _, le_rfl⟩))
  exact ⟨(top q k o ho).toReal, (EReal.coe_toReal h1 h2).symm⟩

theorem weight_coe {o : Nat} {ho : o + 128 ≤ 512} (hl : ∀ n, ∃ y : ℝ, logit q k o ho n = (y : EReal)) (n : Fin 256) : ∃ y : ℝ, 0 < y ∧ weight q k o ho n = (y : EReal) := by
  obtain ⟨a, ha⟩ := hl n
  obtain ⟨b, hb⟩ := top_coe q k hl
  refine ⟨Real.exp (a - b), Real.exp_pos _, ?_⟩
  unfold weight
  rw [ha, hb, ← EReal.coe_sub, Ideal.exp_coe]

/-- Where the queries and keys are finite, the weights may be divided by their sum before or after the weighted sum. -/
theorem attend_eq (hq : ∀ e, q e = ((q e).toReal : EReal)) (hk : ∀ n e, k n e = ((k n e).toReal : EReal)) (o : Nat) (ho : o + 128 ≤ 512) (e : Fin 512) :
    attend q k v o ho e = ∑ n, v n e * Ideal.div (weight q k o ho n) (∑ n', weight q k o ho n') := by
  choose w hpos hw using weight_coe q k (logit_coe q k hq hk o ho)
  have hs : ∑ n, weight q k o ho n = ((∑ n, w n : ℝ) : EReal) := by
    rw [← sum_coe]
    exact Finset.sum_congr rfl fun n _ => hw n
  have h0 : 0 < ∑ n, w n := Finset.sum_pos (fun n _ => hpos n) ⟨0, Finset.mem_univ _⟩
  unfold attend
  rw [hs, Ideal.div_coe h0.ne', sum_mul_coe _ _ _ (one_div_nonneg.2 h0.le)]
  refine Finset.sum_congr rfl fun n _ => ?_
  rw [Ideal.div_coe h0.ne', ← mul_assoc, mul_comm (v n e)]

end Cert.Proof.Merge

namespace Cert.MergeRefIdeal.Spec

open Idealize.ShloMosaic Cert.MergeRefIdeal Cert.MergeRefIdeal.Gen Cert.MergeRefIdeal.Read Cert.Proof.Merge
open scoped BigOperators

set_option maxRecDepth 16384

variable (x0 : FVec Ideal S65536x1024 .f32) (x1 : FVec Ideal S65536x512 .bf16) (x2 : FVec Ideal S65536x1024 .bf16)
    (x3 : FVec Ideal S65536x512 .bf16) (x4 : FVec Ideal S65536x3072 .bf16) (x5 x6 : FVec Ideal S16x256x512 .bf16)
    (x7 : FVec Ideal S512x1024 .f32) (x8 : FVec Ideal S1024x1024 .bf16) (x9 : FVec Ideal S512x1024 .f32) (x10 : FVec Ideal S1024x1024 .f32)

theorem v8_apply (b : Fin 16) (h : Fin 4) (t : Fin 4096) (n : Fin 256) :
    (val_main_v8 (F := Ideal) x3 x5 (ix4 b h t n) : EReal)
      = logit (fun e => x3 (ix2 ⟨b.val * 4096 + t.val, by omega⟩ e)) (fun n e => x5 (ix3 b n e)) (h.val * 128) (by omega) n := by
  unfold val_main_v8 val_main_v7 val_main_v6 val_main_v3 val_main_v2 val_main_v1 val_main_v0 val_main_cst
  pointwise
  rfl

theorem v9_apply (b : Fin 16) (h : Fin 4) (t : Fin 4096) :
    (val_main_v9 (F := Ideal) x3 x5 (ix3 b h t) : EReal)
      = Finset.fold max (Ideal.ofBits FTy.f32 0xFF800000#32) (fun n : Fin 256 => (val_main_v8 (F := Ideal) x3 x5 (ix4 b h t n) : EReal)) Finset.univ := by
  unfold val_main_v9
  generalize val_main_v8 (F := Ideal) x3 x5 = v
  rw [Host.reduce_eq_fold_single (FloatOps.maximumf (F := Ideal)) v _ _ (by decide : S16x4x4096x256.Reduces [3] S16x4x4096)]
  refine congrArg (fun f : Fin 256 → EReal => Finset.fold max (Ideal.ofBits FTy.f32 0xFF800000#32) f Finset.univ) (funext fun n => ?_)
  refine congrArg v ?_
  funext a
  apply Fin.ext
  match a with
  | ⟨0, _⟩ => rfl
  | ⟨1, _⟩ => rfl
  | ⟨2, _⟩ => rfl
  | ⟨3, _⟩ => rfl

theorem v15_apply (b : Fin 16) (h : Fin 4) (t : Fin 4096) (n : Fin 256) :
    (val_main_v15 (F := Ideal) x3 x5 (ix4 b h t n) : EReal) = Ideal.exp (val_main_v8 (F := Ideal) x3 x5 (ix4 b h t n)
      - max (Ideal.ofBits FTy.f32 0xFF800000#32) (val_main_v9 (F := Ideal) x3 x5 (ix3 b h t))) := by
  rw [val_main_v15_apply, val_main_v14_apply, val_main_v13_apply, val_main_v12_apply, val_main_v11_apply, val_main_v10_apply, val_main_cst_1_apply]
  have e : idx_main_v12 (idx_main_v13 (ix4 b h t n)) = ix3 b h t := by
    funext a; apply Fin.ext
    match a with
    | ⟨0, _⟩ => rfl
    | ⟨1, _⟩ => rfl
    | ⟨2, _⟩ => rfl
  rw [e]
  generalize val_main_v9 (F := Ideal) x3 x5 (ix3 b h t) = w
  generalize val_main_v8 (F := Ideal) x3 x5 (ix4 b h t n) = u
  rfl

theorem weight_apply (b : Fin 16) (h : Fin 4) (t : Fin 4096) (n : Fin 256) :
    (val_main_v15 (F := Ideal) x3 x5 (ix4 b h t n) : EReal)
      = weight (fun e => x3 (ix2 ⟨b.val * 4096 + t.val, by omega⟩ e)) (fun n e => x5 (ix3 b n e)) (h.val * 128) (by omega) n := by
  rw [v15_apply, v9_apply, max_fold]
  simp only [v8_apply]
  rfl

theorem v22_apply (h3 : ∀ i, x3 i = ((x3 i : EReal).toReal : EReal)) (h5 : ∀ i, x5 i = ((x5 i : EReal).toReal : EReal)) (r : Fin 65536) (c : Fin 512) :
    (val_main_v22 (F := Ideal) x3 x5 x6 (ix2 r c) : EReal)
      = memo (fun e => x3 (ix2 r e)) (fun n e => x5 (ix3 ⟨r.val / 4096, by omega⟩ n e)) (fun n e => x6 (ix3 ⟨r.val / 4096, by omega⟩ n e)) c := by
  unfold val_main_v22 val_main_v21 val_main_v20 val_main_v19 val_main_v18 val_main_v17 val_main_v16 val_main_v5 val_main_v4 val_main_cst_2
  pointwise
  simp only [weight_apply]
  have hr : (⟨r.val / 4096 * 4096 + r.val % 4096, by omega⟩ : Fin 65536) = r := Fin.ext (by show r.val / 4096 * 4096 + r.val % 4096 = r.val; omega)
  simp only [hr]
  exact ((memo_at _ _ _ (c.val / 128 * 128) (by omega) c (by omega)).trans
    (attend_eq (fun e => x3 (ix2 r e)) (fun n e => x5 (ix3 ⟨r.val / 4096, by omega⟩ n e)) (fun n e => x6 (ix3 ⟨r.val / 4096, by omega⟩ n e))
      (fun e => h3 _) (fun n e => h5 _) (c.val / 128 * 128) (by omega) c)).symm

theorem v29_apply (r : Fin 65536) (j : Fin 3072) : (val_main_v29 (F := Ideal) x4 (ix2 r j) : EReal) = Ideal.logistic (x4 (ix2 r j)) := by
  unfold val_main_v29 val_main_v28 val_main_v27 val_main_v26 val_main_v25 val_main_v24 val_main_v23 val_main_cst_4 val_main_cst_3
  pointwise
  rfl

theorem v47_apply (h3 : ∀ i, x3 i = ((x3 i : EReal).toReal : EReal)) (h5 : ∀ i, x5 i = ((x5 i : EReal).toReal : EReal)) (r : Fin 65536) (c : Fin 1024) :
    (val_main_v47 (F := Ideal) x1 x2 x3 x4 x5 x6 x7 x8 x9 (ix2 r c) : EReal)
      = merged (fun e => x1 (ix2 r e)) (fun e => x2 (ix2 r e)) (fun j => x4 (ix2 r j)) (fun e j => x7 (ix2 e j)) (fun e j => x8 (ix2 e j)) (fun e j => x9 (ix2 e j))
          (memo (fun e => x3 (ix2 r e)) (fun n e => x5 (ix3 ⟨r.val / 4096, by omega⟩ n e)) (fun n e => x6 (ix3 ⟨r.val / 4096, by omega⟩ n e))) c := by
  unfold val_main_v47 val_main_v46 val_main_v45 val_main_v44 val_main_v43 val_main_v42 val_main_v41 val_main_v40 val_main_v39 val_main_v38 val_main_v37
    val_main_v36 val_main_v35 val_main_v34 val_main_v33 val_main_v32 val_main_v31 val_main_v30
  pointwise
  simp only [v29_apply, v22_apply x3 x5 x6 h3 h5]
  rfl

/-- The reference's result is the same function of the arguments as the kernel's, where the queries and keys of the memory are finite. -/
theorem result_eq (h3 : ∀ i, x3 i = ((x3 i : EReal).toReal : EReal)) (h5 : ∀ i, x5 i = ((x5 i : EReal).toReal : EReal)) :
    val_main_v49 (F := Ideal) x0 x1 x2 x3 x4 x5 x6 x7 x8 x9 x10 = Cert.MergeIdeal.Spec.result x0 x1 x2 x3 x4 x5 x6 x7 x8 x9 x10 := by
  funext i
  obtain ⟨r, c, rfl⟩ : ∃ (r : Fin 65536) (c : Fin 1024), i = ix2 r c := ⟨i 0, i 1, eq_ix2 i⟩
  show (val_main_v49 (F := Ideal) x0 x1 x2 x3 x4 x5 x6 x7 x8 x9 x10 (ix2 r c) : EReal) = _
  unfold val_main_v49 val_main_v48
  pointwise
  simp only [v47_apply x1 x2 x3 x4 x5 x6 x7 x8 x9 h3 h5]
  rfl

end Cert.MergeRefIdeal.Spec
end
-- ==== Proof.MergeClaim.lean ====
/- The claims about the merge of the three branches: the run of the plain computation, and the equality of its result with the kernel's where no query and no key of the memory is infinite. -/
module

public import Idealize.ShloMosaic.Lib.ReduceAll
public import proofs.«01_k».proof.Proof.MergeRef
public import proofs.«01_k».proof.Proof.RetClaim
public import proofs.«01_k».proof.Proof.Gen.Merge.Frame
public import proofs.«01_k».proof.Proof.Gen.Pre_finite_qk

@[expose] public section

noncomputable section

namespace Cert.Proof.Merge

open Idealize.ShloMosaic Idealize.SL.Sem

section pre
open Cert.Pre_finite_qk

theorem finite_args [Facts] (x : FVec Ideal Cert.Pre_finite_qk.S65536x1024 .f32) (a : FVec Ideal Cert.Pre_finite_qk.S65536x512 .bf16)
    (l : FVec Ideal Cert.Pre_finite_qk.S65536x1024 .bf16) (q : FVec Ideal Cert.Pre_finite_qk.S65536x512 .bf16) (g : FVec Ideal Cert.Pre_finite_qk.S65536x3072 .bf16)
    (k v : FVec Ideal Cert.Pre_finite_qk.S16x256x512 .bf16) (wr : FVec Ideal Cert.Pre_finite_qk.S512x1024 .f32) (wd : FVec Ideal Cert.Pre_finite_qk.S1024x1024 .bf16)
    (wm : FVec Ideal Cert.Pre_finite_qk.S512x1024 .f32) (wo : FVec Ideal Cert.Pre_finite_qk.S1024x1024 .f32)
    (h : fn (F := Ideal) x a l q g k v wr wd wm wo = fun _ => 1#1) :
    (∀ i, q i = ((q i : EReal).toReal : EReal)) ∧ ∀ i, k i = ((k i : EReal).toReal : EReal) := by
  haveI : Subsingleton S_.Idx := ⟨fun _ _ => funext fun i => i.elim0⟩
  have h0 := congrFun h (fun i => i.elim0)
  obtain ⟨hq, hk⟩ := IntOp.andi_eq_one.mp h0
  exact ⟨fun i => Ret.finite_of_lt _ (Host.reduce_andi_all _ _ _ _ _ hq i), fun i => Ret.finite_of_lt _ (Host.reduce_andi_all _ _ _ _ _ hk i)⟩

end pre

theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem frame_ref_pre [Cert.Pre_finite_qk.Facts] : Cert.quiescent_MergeRefIdeal_pre_finite_qk := fun m ρ _ => frame_ref m ρ trivial

theorem algebraic : Cert.algebraic_MergeIdeal_MergeRefIdeal_pre_finite_qk := by
  intro m g m' g' hpre hagree
  refine ⟨fun c => Cert.MergeIdeal.Spec.resultOf m c, ?_, ?_⟩
  · exact (θ_run Cert.MergeIdeal.defs _ _).mono (fun _ h c => ⟨(h c).1.trans (Cert.MergeIdeal.Spec.final m c), (h c).2⟩)
      (Cert.MergeIdeal.Value.run_blocks (F := Ideal) m g)
  · refine (θ_run Cert.MergeRefIdeal.defs _ _).mono (fun _ h c => ⟨(h c).1.trans ?_, (h c).2⟩) (Cert.MergeRefIdeal.Value.run (F := Ideal) m' g')
    obtain ⟨f3, f5⟩ := finite_args _ _ _ _ _ _ _ _ _ _ _ (hpre c)
    obtain ⟨e0, e1, e2, e3, e4, e5, e6, e7, e8, e9, e10⟩ := hagree c
    rw [Cert.MergeRefIdeal.Read.val_main_v49_eq, e0, e1, e2, e3, e4, e5, e6, e7, e8, e9, e10]
    exact Cert.MergeRefIdeal.Spec.result_eq _ _ _ _ _ _ _ _ _ _ _ f3 f5

end Cert.Proof.Merge
end
-- ==== Proof.InRows.lean ====
/- One block of the input projection: what the body leaves in each of its twelve windows, row by row. -/
module

public import proofs.«01_k».proof.Proof.MlpBlock
public import proofs.«01_k».proof.Proof.Gen.InIdeal.Value

@[expose] public section

noncomputable section

namespace Cert.Proof.In

open Idealize.ShloMosaic
open scoped BigOperators

/-- A row divided by its root mean square (`d` is its length as the programs print it) and scaled. -/
def rmsN {n : Nat} (d : EReal) (x w : Fin n → EReal) (c : Fin n) : EReal :=
  x c * Ideal.rsqrt (Ideal.div (∑ k, x k * x k) d + Ideal.ofBits FTy.f32 0x358637BD#32) * w c

/-- Column `j` of the product of a row with a matrix. -/
def lin {n N : Nat} (h : Fin n → EReal) (w : Fin n → Fin N → EReal) (j : Fin N) : EReal := ∑ d, h d * w d j

/-- The rotation of a row whose first 256 entries are paired with its last 256. -/
def rot (a : Fin 512 → EReal) (cs sn : Fin 256 → EReal) (k : Fin 512) : EReal :=
  if h : k.val < 256 then a ⟨k.val, by omega⟩ * cs ⟨k.val, h⟩ - a ⟨256 + k.val, by omega⟩ * sn ⟨k.val, h⟩
  else a ⟨k.val, by omega⟩ * cs ⟨k.val - 256, by omega⟩ + a ⟨k.val - 256, by omega⟩ * sn ⟨k.val - 256, by omega⟩

theorem rot_lo (a : Fin 512 → EReal) (cs sn : Fin 256 → EReal) (c : Fin 256) :
    rot a cs sn ⟨c.val, by omega⟩ = a ⟨c.val, by omega⟩ * cs c - a ⟨256 + c.val, by omega⟩ * sn c := by
  unfold rot
  rw [dif_pos c.isLt]

theorem rot_hi (a : Fin 512 → EReal) (cs sn : Fin 256 → EReal) (c : Fin 256) :
    rot a cs sn ⟨256 + c.val, by omega⟩ = a ⟨256 + c.val, by omega⟩ * cs c + a ⟨c.val, by omega⟩ * sn c := by
  unfold rot
  rw [dif_neg (by simp)]
  simp

end Cert.Proof.In

namespace Cert.InIdeal.Spec

open Idealize.ShloMosaic Idealize.ShloMosaic.TcCoe Idealize.SL.Sem Cert.InIdeal Cert.InIdeal.Gen Cert.Proof.Mlp Cert.Proof.In
open scoped BigOperators

set_option maxRecDepth 16384

theorem hz : (![0, 0] : Fin 2 → Nat) = fun _ => 0 := funext fun a => by fin_cases a <;> rfl
theorem hz3 : (![0, 0, 0] : Fin 3 → Nat) = fun _ => 0 := funext fun a => by fin_cases a <;> rfl

/-- A selection whose bit decides `P`. -/
theorem sel_of {a b : EReal} {s : BitVec 1} {P : Prop} [Decidable P] (hs : s = if P then 1#1 else 0#1) :
    Scalar.select s a b = if P then a else b := by
  subst hs
  by_cases hP : P
  · rw [if_pos hP, if_pos hP]; rfl
  · rw [if_neg hP, if_neg hP]; rfl

section Pay

theorem pay3_apply (x : FVec Ideal S256x1024 .f32) (w : FVec Ideal S1x1024 .f32) (r : Fin 256) (c : Fin 1024) :
    (k0_pay3 (F := Ideal) x w (ix2 r c) : EReal) = rms (fun k => x (ix2 r k)) (fun k => w (ix2 0 k)) c := by
  pointwise [k0_pay3, rms]

variable (x0 : FVec Ideal S256x1024 .f32) (x1 : FVec Ideal S1x1024 .f32) (x2 x3 : FVec Ideal S256x256 .f32)
  (h : FVec Ideal S256x1024 .bf16) (w : FVec Ideal S1024x512 .bf16)

theorem pay9_apply (r c : Fin 256) : (k0_pay9 (F := Ideal) x0 x1 x2 x3 w (ix2 r c) : EReal)
    = (∑ x, k0_pay3 x0 x1 (ix2 r x) * w (ix2 x ⟨c.val, by omega⟩)) * x2 (ix2 r c)
      - (∑ x, k0_pay3 x0 x1 (ix2 r x) * w (ix2 x ⟨256 + c.val, by omega⟩)) * x3 (ix2 r c) := by
  pointwise [k0_pay9, k0_pay7, k0_pay8, k0_pay6, k0_pay4, k0_pay5]

theorem pay10_apply (r c : Fin 256) : (k0_pay10 (F := Ideal) x0 x1 x2 x3 w (ix2 r c) : EReal)
    = (∑ x, k0_pay3 x0 x1 (ix2 r x) * w (ix2 x ⟨256 + c.val, by omega⟩)) * x2 (ix2 r c)
      + (∑ x, k0_pay3 x0 x1 (ix2 r x) * w (ix2 x ⟨c.val, by omega⟩)) * x3 (ix2 r c) := by
  pointwise [k0_pay10, k0_pay7, k0_pay8, k0_pay6, k0_pay4, k0_pay5]

theorem pay14_apply (r c : Fin 256) : (k0_pay14 (F := Ideal) h x2 x3 w (ix2 r c) : EReal)
    = ((∑ x, h (ix2 r x) * w (ix2 x ⟨c.val, by omega⟩)) * x2 (ix2 r c)
      - (∑ x, h (ix2 r x) * w (ix2 x ⟨256 + c.val, by omega⟩)) * x3 (ix2 r c)) * Ideal.ofBits FTy.f32 0x3E000000#32 := by
  pointwise [k0_pay14, k0_pay12, k0_pay13, k0_pay11, k0_pay4, k0_pay5]

theorem pay15_apply (r c : Fin 256) : (k0_pay15 (F := Ideal) h x2 x3 w (ix2 r c) : EReal)
    = ((∑ x, h (ix2 r x) * w (ix2 x ⟨256 + c.val, by omega⟩)) * x2 (ix2 r c)
      + (∑ x, h (ix2 r x) * w (ix2 x ⟨c.val, by omega⟩)) * x3 (ix2 r c)) * Ideal.ofBits FTy.f32 0x3E000000#32 := by
  pointwise [k0_pay15, k0_pay12, k0_pay13, k0_pay11, k0_pay4, k0_pay5]

theorem pay16_apply (r : Fin 256) (c : Fin 512) : (k0_pay16 (F := Ideal) h w (ix2 r c) : EReal) = ∑ x, h (ix2 r x) * w (ix2 x c) := by
  pointwise [k0_pay16]
theorem pay17_apply (r : Fin 256) (c : Fin 512) : (k0_pay17 (F := Ideal) h w (ix2 r c) : EReal) = ∑ x, h (ix2 r x) * w (ix2 x c) := by
  pointwise [k0_pay17]
theorem pay19_apply (r : Fin 256) (c : Fin 512) :
    (k0_pay19 (F := Ideal) (k0_pay18 (F := Ideal) h w) (ix2 r c) : EReal) = ∑ x, h (ix2 r x) * w (ix2 x c) := by
  pointwise [k0_pay19, k0_pay18]
theorem pay20_apply (r : Fin 256) (c : Fin 512) : (k0_pay20 (F := Ideal) h w (ix2 r c) : EReal) = ∑ x, h (ix2 r x) * w (ix2 x c) := by
  pointwise [k0_pay20]
theorem pay21_apply (r : Fin 256) (c : Fin 512) : (k0_pay21 (F := Ideal) h w (ix2 r c) : EReal) = ∑ x, h (ix2 r x) * w (ix2 x c) := by
  pointwise [k0_pay21]
theorem pay22_apply (r : Fin 256) (c : Fin 512) : (k0_pay22 (F := Ideal) h w (ix2 r c) : EReal) = ∑ x, h (ix2 r x) * w (ix2 x c) := by
  pointwise [k0_pay22]
theorem pay23_apply (r : Fin 256) (c : Fin 512) : (k0_pay23 (F := Ideal) h w (ix2 r c) : EReal) = ∑ x, h (ix2 r x) * w (ix2 x c) := by
  pointwise [k0_pay23]
theorem pay24_apply (r : Fin 256) (c : Fin 512) : (k0_pay24 (F := Ideal) h w (ix2 r c) : EReal) = ∑ x, h (ix2 r x) * w (ix2 x c) := by
  pointwise [k0_pay24]
theorem pay25_apply (r : Fin 256) (c : Fin 512) : (k0_pay25 (F := Ideal) h w (ix2 r c) : EReal) = ∑ x, h (ix2 r x) * w (ix2 x c) := by
  pointwise [k0_pay25]

variable (x5 : FVec Ideal S1024x640 .bf16) (x6 : FVec Ideal S1x256 .f32) (x7 : FVec Ideal S1x128 .f32) (x8 x9 : FVec Ideal S256x1024 .bf16)
  (b : FVec Ideal S256x640 .f32)

theorem pay26_apply (r : Fin 256) (c : Fin 640) : (k0_pay26 (F := Ideal) h x5 (ix2 r c) : EReal) = ∑ x, h (ix2 r x) * x5 (ix2 x c) := by
  pointwise [k0_pay26]

theorem pay27_apply (r c : Fin 256) : (k0_pay27 (F := Ideal) h x5 x6 (ix2 r c) : EReal)
    = rmsN (Ideal.ofBits FTy.f32 0x43800000#32) (fun k : Fin 256 => k0_pay26 h x5 (ix2 r ⟨k.val, by omega⟩)) (fun k => x6 (ix2 0 k)) c := by
  pointwise [k0_pay27, rmsN]

theorem pay28_apply (r : Fin 256) (c : Fin 1024) : (k0_pay28 (F := Ideal) h x5 x6 x8 (ix2 r c) : EReal)
    = lin (fun k => k0_pay27 h x5 x6 (ix2 r k)) (fun k j => x8 (ix2 k j)) c := by
  pointwise [k0_pay28, lin]

theorem pay29_apply (r : Fin 256) (c : Fin 1024) : (k0_pay29 (F := Ideal) h x5 x6 x9 (ix2 r c) : EReal)
    = lin (fun k => k0_pay27 h x5 x6 (ix2 r k)) (fun k j => x9 (ix2 k j)) c := by
  pointwise [k0_pay29, lin]

theorem pay2_apply (r : Fin 256) (e : Fin 8) : (k0_pay2 (F := Ideal) b (ix2 e r) : EReal)
    = b (ix2 r ⟨512 + e.val, by omega⟩) * Ideal.ofBits FTy.f32 0x3D800000#32 := by
  pointwise [k0_pay2]

theorem pay54_apply (r : Fin 256) (c : Fin 128) :
    (k0_pay54 (F := Ideal) (k0_pay51 b) (k0_pay52 x7) (k0_pay53 b) (ix2 r c) : EReal)
      = rmsN (Ideal.ofBits FTy.f32 0x43000000#32) (fun k : Fin 128 => b (ix2 r ⟨256 + k.val, by omega⟩)) (fun k => x7 (ix2 0 k)) c := by
  pointwise [k0_pay54, k0_pay51, k0_pay52, k0_pay53, rmsN]

theorem pay55_apply (r : Fin 256) (c : Fin 128) :
    (k0_pay55 (F := Ideal) (k0_pay51 b) (k0_pay52 x7) (k0_pay53 b) (ix3 0 r c) : EReal)
      = rmsN (Ideal.ofBits FTy.f32 0x43000000#32) (fun k : Fin 128 => b (ix2 r ⟨256 + k.val, by omega⟩)) (fun k => x7 (ix2 0 k)) c := by
  pointwise [k0_pay55]
  rw [pay54_apply]

theorem pay56_apply (r : Fin 256) (c : Fin 128) :
    (k0_pay56 (F := Ideal) (k0_pay51 b) (k0_pay52 x7) (k0_pay53 b) (ix3 0 c r) : EReal)
      = rmsN (Ideal.ofBits FTy.f32 0x43000000#32) (fun k : Fin 128 => b (ix2 r ⟨256 + k.val, by omega⟩)) (fun k => x7 (ix2 0 k)) c := by
  pointwise [k0_pay56]
  rw [pay54_apply]

theorem pay1_apply (r : Fin 256) (c : Fin 128) :
    (k0_pay1 (F := Ideal) (k0_pay57 b) (k0_pay58 b) k0_pay59 k0_pay60 (ix3 0 r c) : EReal)
      = if c.val / 32 % 2 = 0 then b (ix2 r ⟨384 + c.val, by omega⟩) else b (ix2 r ⟨384 + c.val, by omega⟩) - b (ix2 r ⟨384 + c.val, by omega⟩) := by
  pointwise [k0_pay1, k0_pay57, k0_pay58, k0_pay59, k0_pay60]
  refine sel_of ?_
  revert c
  decide +kernel

theorem pay32_apply (r : Fin 256) (c : Fin 1024) :
    (k0_pay32 (F := Ideal) (k0_pay29 h x5 x6 x9) (k0_pay30 h x5 x6 x9) (Scalar.select (Scalar.cmpi .eq 128#32 0#32) 1#32 128#32) k0_pay31 0#32 (ix2 r c) : EReal)
      = if c.val % 128 < 64 then k0_pay29 (F := Ideal) h x5 x6 x9 (ix2 r c) else k0_pay29 (F := Ideal) h x5 x6 x9 (ix2 r c) - k0_pay29 (F := Ideal) h x5 x6 x9 (ix2 r c) := by
  pointwise [k0_pay32, k0_pay30, k0_pay31]
  refine sel_of ?_
  revert c
  decide +kernel

end Pay

section Head

variable (v : FVec Ideal S256x1024 .f32) (u : FVec Ideal S256x1024 .bf16) (a b : FVec Ideal S256x1024 .f32) (q : BitVec 32) (z : IVec S256x1024 32) (r : Fin 256) (c : Fin 128)

theorem pay33_apply : (k0_pay33 (F := Ideal) v (ix4 0 0 r c) : EReal) = v (ix2 r ⟨c.val, by omega⟩) := by
  pointwise [k0_pay33]
theorem pay35_apply : (k0_pay35 (F := Ideal) v (ix4 0 0 r c) : EReal) = v (ix2 r ⟨128 + c.val, by omega⟩) := by
  pointwise [k0_pay35]
theorem pay38_apply : (k0_pay38 (F := Ideal) (k0_pay37 (F := Ideal) v) (ix4 0 0 r c) : EReal) = v (ix2 r ⟨256 + c.val, by omega⟩) := by
  pointwise [k0_pay38, k0_pay37]
theorem pay40_apply : (k0_pay40 (F := Ideal) v (ix4 0 0 r c) : EReal) = v (ix2 r ⟨384 + c.val, by omega⟩) := by
  pointwise [k0_pay40]
theorem pay42_apply : (k0_pay42 (F := Ideal) v (ix4 0 0 r c) : EReal) = v (ix2 r ⟨512 + c.val, by omega⟩) := by
  pointwise [k0_pay42]
theorem pay45_apply : (k0_pay45 (F := Ideal) (k0_pay44 (F := Ideal) v) (ix4 0 0 r c) : EReal) = v (ix2 r ⟨640 + c.val, by omega⟩) := by
  pointwise [k0_pay45, k0_pay44]
theorem pay47_apply : (k0_pay47 (F := Ideal) v (ix4 0 0 r c) : EReal) = v (ix2 r ⟨768 + c.val, by omega⟩) := by
  pointwise [k0_pay47]
theorem pay49_apply : (k0_pay49 (F := Ideal) v (ix4 0 0 r c) : EReal) = v (ix2 r ⟨896 + c.val, by omega⟩) := by
  pointwise [k0_pay49]
theorem pay34_apply : (k0_pay34 (F := Ideal) a b q z 0#32 (ix4 0 0 r c) : EReal) = k0_pay32 (F := Ideal) a b q z 0#32 (ix2 r ⟨c.val, by omega⟩) := by
  pointwise [k0_pay34]
theorem pay36_apply : (k0_pay36 (F := Ideal) a b q z 0#32 (ix4 0 0 r c) : EReal) = k0_pay32 (F := Ideal) a b q z 0#32 (ix2 r ⟨128 + c.val, by omega⟩) := by
  pointwise [k0_pay36]
theorem pay39_apply : (k0_pay39 (F := Ideal) u (ix4 0 0 r c) : EReal) = u (ix2 r ⟨256 + c.val, by omega⟩) := by
  pointwise [k0_pay39]
theorem pay41_apply : (k0_pay41 (F := Ideal) u (ix4 0 0 r c) : EReal) = u (ix2 r ⟨384 + c.val, by omega⟩) := by
  pointwise [k0_pay41]
theorem pay43_apply : (k0_pay43 (F := Ideal) u (ix4 0 0 r c) : EReal) = u (ix2 r ⟨512 + c.val, by omega⟩) := by
  pointwise [k0_pay43]
theorem pay46_apply : (k0_pay46 (F := Ideal) u (ix4 0 0 r c) : EReal) = u (ix2 r ⟨640 + c.val, by omega⟩) := by
  pointwise [k0_pay46]
theorem pay48_apply : (k0_pay48 (F := Ideal) u (ix4 0 0 r c) : EReal) = u (ix2 r ⟨768 + c.val, by omega⟩) := by
  pointwise [k0_pay48]
theorem pay50_apply : (k0_pay50 (F := Ideal) u (ix4 0 0 r c) : EReal) = u (ix2 r ⟨896 + c.val, by omega⟩) := by
  pointwise [k0_pay50]

end Head

section Out

variable (x0 : FVec Ideal S256x1024 .f32) (x1 : FVec Ideal S1x1024 .f32) (x2 x3 : FVec Ideal S256x256 .f32) (x4 : FVec Ideal S1024x5632 .bf16)
  (x5 : FVec Ideal S1024x640 .bf16) (x6 : FVec Ideal S1x256 .f32) (x7 : FVec Ideal S1x128 .f32) (x8 x9 : FVec Ideal S256x1024 .bf16)

/-- The first projection of a token's normalized row. -/
def colA (r : Fin 256) (j : Fin 5632) : EReal := lin (rms (fun k => x0 (ix2 r k)) (fun k => x1 (ix2 0 k))) (fun d j => x4 (ix2 d j)) j

/-- The second projection of a token's normalized row. -/
def colB (r : Fin 256) (j : Fin 640) : EReal := lin (rms (fun k => x0 (ix2 r k)) (fun k => x1 (ix2 0 k))) (fun d j => x5 (ix2 d j)) j

/-- The normalized query row. -/
def rowQ (r c : Fin 256) : EReal :=
  rmsN (Ideal.ofBits FTy.f32 0x43800000#32) (fun k : Fin 256 => colB x0 x1 x5 r ⟨k.val, by omega⟩) (fun k => x6 (ix2 0 k)) c

theorem pay61_apply (r : Fin 256) (d : Fin 1024) :
    (k0_pay61 (F := Ideal) x0 x1 x2 x3 x4 x5 x6 x7 x8 x9 (ix2 r d) : EReal) = rms (fun k => x0 (ix2 r k)) (fun k => x1 (ix2 0 k)) d := by
  unfold k0_pay61
  rw [View.ld_unit_zero (S := S256x1024) hz, View.ld_unit_zero (S := S1x1024) hz, pay3_apply]

theorem pay62_apply (r c : Fin 256) : (k0_pay62 (F := Ideal) x0 x1 x2 x3 x4 x5 x6 x7 x8 x9 (ix2 r c) : EReal) = x2 (ix2 r c) := by
  unfold k0_pay62
  rw [View.ld_unit_zero (S := S256x256) hz]
  pointwise [k0_pay4]

theorem pay63_apply (r c : Fin 256) : (k0_pay63 (F := Ideal) x0 x1 x2 x3 x4 x5 x6 x7 x8 x9 (ix2 r c) : EReal) = x3 (ix2 r c) := by
  unfold k0_pay63
  rw [View.ld_unit_zero (S := S256x256) hz]
  pointwise [k0_pay5]

theorem pay26_of (r : Fin 256) (j : Fin 640) : (k0_pay26 (F := Ideal) (k0_pay61 x0 x1 x2 x3 x4 x5 x6 x7 x8 x9) x5 (ix2 r j) : EReal) = colB x0 x1 x5 r j := by
  rw [pay26_apply]
  simp only [pay61_apply]
  rfl

theorem pay64_apply (r : Fin 256) (j : Fin 640) : (k0_pay64 (F := Ideal) x0 x1 x2 x3 x4 x5 x6 x7 x8 x9 (ix2 r j) : EReal) = colB x0 x1 x5 r j := by
  unfold k0_pay64
  rw [View.ld_unit_zero (S := S1024x640) hz, pay26_of]

theorem pay27_of (r k : Fin 256) : (k0_pay27 (F := Ideal) (k0_pay61 x0 x1 x2 x3 x4 x5 x6 x7 x8 x9) x5 x6 (ix2 r k) : EReal) = rowQ x0 x1 x5 x6 r k := by
  rw [pay27_apply]
  simp only [pay26_of]
  rfl

theorem pay29_of (r : Fin 256) (j : Fin 1024) :
    (k0_pay29 (F := Ideal) (k0_pay61 x0 x1 x2 x3 x4 x5 x6 x7 x8 x9) x5 x6 x9 (ix2 r j) : EReal) = lin (rowQ x0 x1 x5 x6 r) (fun k j => x9 (ix2 k j)) j := by
  rw [pay29_apply]
  simp only [pay27_of]

theorem pay65_apply (r : Fin 256) (j : Fin 1024) :
    (k0_pay65 (F := Ideal) x0 x1 x2 x3 x4 x5 x6 x7 x8 x9 (ix2 r j) : EReal) = lin (rowQ x0 x1 x5 x6 r) (fun k j => x8 (ix2 k j)) j := by
  unfold k0_pay65
  rw [View.ld_unit_zero (S := S1024x640) hz, View.ld_unit_zero (S := S1x256) hz, View.ld_unit_zero (S := S256x1024) hz, pay28_apply]
  simp only [pay27_of]

/-- The indexer's query at a lane: the product itself in the first two copies, its rest in the last two. -/
def qix (r : Fin 256) (j : Fin 1024) : EReal :=
  if j.val % 128 < 64 then lin (rowQ x0 x1 x5 x6 r) (fun k j => x9 (ix2 k j)) j
  else lin (rowQ x0 x1 x5 x6 r) (fun k j => x9 (ix2 k j)) j - lin (rowQ x0 x1 x5 x6 r) (fun k j => x9 (ix2 k j)) j

theorem pay32_of (r : Fin 256) (j : Fin 1024) :
    (k0_pay32 (F := Ideal) (k0_pay66 (F := Ideal) x0 x1 x2 x3 x4 x5 x6 x7 x8 x9) (k0_pay67 (F := Ideal) x0 x1 x2 x3 x4 x5 x6 x7 x8 x9) (Scalar.select (Scalar.cmpi .eq 128#32 0#32) 1#32 128#32) (k0_pay68 (F := Ideal) x0 x1 x2 x3 x4 x5 x6 x7 x8 x9) 0#32 (ix2 r j) : EReal)
      = qix x0 x1 x5 x6 x9 r j := by
  unfold k0_pay66 k0_pay67 k0_pay68
  rw [View.ld_unit_zero (S := S1024x640) hz, View.ld_unit_zero (S := S1x256) hz, View.ld_unit_zero (S := S256x1024) hz, pay32_apply, pay29_of]
  rfl

theorem pay69_apply (r : Fin 256) (j : Fin 1024) : (k0_pay69 (F := Ideal) x0 x1 x2 x3 x4 x5 x6 x7 x8 x9 (ix2 r j) : EReal) = qix x0 x1 x5 x6 x9 r j := by
  unfold k0_pay69
  rw [pay32_of]

theorem emb_4 (r c : Fin 256) : r0_4.emb (ix2 r c) = ix2 r ⟨c.val, by omega⟩ := by
  funext a; apply Fin.ext
  match a with
  | ⟨0, _⟩ => show 0 + 1 * r.val = r.val; omega
  | ⟨1, _⟩ => show 0 + 1 * c.val = c.val; omega

theorem emb_5 (r c : Fin 256) : r0_5.emb (ix2 r c) = ix2 r ⟨256 + c.val, by omega⟩ := by
  funext a; apply Fin.ext
  match a with
  | ⟨0, _⟩ => show 0 + 1 * r.val = r.val; omega
  | ⟨1, _⟩ => show 256 + 1 * c.val = 256 + c.val; omega

theorem out10_apply (r : Fin 256) (k : Fin 512) :
    (out0_10 (F := Ideal) x0 x1 x2 x3 x4 x5 x6 x7 x8 x9 (ix2 r k) : EReal)
      = rot (fun j => colA x0 x1 x4 r ⟨j.val, by omega⟩) (fun k => x2 (ix2 r k)) (fun k => x3 (ix2 r k)) k := by
  unfold out0_10
  refine View.canon_apply_of_pieces (Val := Elt Ideal) (e := .bf16) (fun y : S256x512.Idx => (rot (fun j => colA x0 x1 x4 (y 0) ⟨j.val, by omega⟩) (fun k => x2 (ix2 (y 0) k)) (fun k => x3 (ix2 (y 0) k)) (y 1) : EReal)) _ ?_ (ix2 r k) (cover0_10 _ _ _)
  simp only [View.ld_unit_zero (S := S256x1024) hz, View.ld_unit_zero (S := S1x1024) hz, View.ld_unit_zero (S := S256x256) hz]
  intro pc hpc
  rcases List.mem_cons.mp hpc with rfl | hpc
  · intro x
    obtain ⟨r, c, rfl⟩ : ∃ (r c : Fin 256), x = ix2 r c := ⟨x 0, x 1, eq_ix2 x⟩
    rw [emb_5]
    refine (pay10_apply _ _ _ _ _ r c).trans (Eq.trans ?_ (rot_hi _ _ _ c).symm)
    simp only [pay3_apply]
    pointwise [colA, lin]
  rcases List.mem_cons.mp hpc with rfl | hpc
  · intro x
    obtain ⟨r, c, rfl⟩ : ∃ (r c : Fin 256), x = ix2 r c := ⟨x 0, x 1, eq_ix2 x⟩
    rw [emb_4]
    refine (pay9_apply _ _ _ _ _ r c).trans (Eq.trans ?_ (rot_lo _ _ _ c).symm)
    simp only [pay3_apply]
    pointwise [colA, lin]
  nomatch hpc

theorem out11_apply (r : Fin 256) (k : Fin 512) :
    (out0_11 (F := Ideal) x0 x1 x2 x3 x4 x5 x6 x7 x8 x9 (ix2 r k) : EReal)
      = rot (fun j => colA x0 x1 x4 r ⟨512 + j.val, by omega⟩) (fun k => x2 (ix2 r k)) (fun k => x3 (ix2 r k)) k * Ideal.ofBits FTy.f32 0x3E000000#32 := by
  unfold out0_11
  refine View.canon_apply_of_pieces (Val := Elt Ideal) (e := .bf16) (fun y : S256x512.Idx => (rot (fun j => colA x0 x1 x4 (y 0) ⟨512 + j.val, by omega⟩) (fun k => x2 (ix2 (y 0) k)) (fun k => x3 (ix2 (y 0) k)) (y 1) * Ideal.ofBits FTy.f32 0x3E000000#32 : EReal)) _ ?_ (ix2 r k) (cover0_11 _ _ _)
  intro pc hpc
  rcases List.mem_cons.mp hpc with rfl | hpc
  · intro x
    obtain ⟨r, c, rfl⟩ : ∃ (r c : Fin 256), x = ix2 r c := ⟨x 0, x 1, eq_ix2 x⟩
    rw [emb_5]
    refine (pay15_apply _ _ _ _ r c).trans (Eq.trans ?_ (congrArg (· * Ideal.ofBits FTy.f32 0x3E000000#32) (rot_hi _ _ _ c).symm))
    simp only [pay61_apply, pay62_apply, pay63_apply]
    pointwise [colA, lin]
  rcases List.mem_cons.mp hpc with rfl | hpc
  · intro x
    obtain ⟨r, c, rfl⟩ : ∃ (r c : Fin 256), x = ix2 r c := ⟨x 0, x 1, eq_ix2 x⟩
    rw [emb_4]
    refine (pay14_apply _ _ _ _ r c).trans (Eq.trans ?_ (congrArg (· * Ideal.ofBits FTy.f32 0x3E000000#32) (rot_lo _ _ _ c).symm))
    simp only [pay61_apply, pay62_apply, pay63_apply]
    pointwise [colA, lin]
  nomatch hpc

theorem out12_apply (r : Fin 256) (k : Fin 512) :
    (out0_12 (F := Ideal) x0 x1 x2 x3 x4 x5 x6 x7 x8 x9 (ix2 r k) : EReal) = colA x0 x1 x4 r ⟨1024 + k.val, by omega⟩ := by
  unfold out0_12
  rw [View.canon_unit_zero hz, pay16_apply]
  simp only [pay61_apply]
  pointwise [colA, lin]

theorem out13_apply (r : Fin 256) (k : Fin 512) :
    (out0_13 (F := Ideal) x0 x1 x2 x3 x4 x5 x6 x7 x8 x9 (ix2 r k) : EReal) = colA x0 x1 x4 r ⟨1536 + k.val, by omega⟩ := by
  unfold out0_13
  rw [View.canon_unit_zero hz, pay17_apply]
  simp only [pay61_apply]
  pointwise [colA, lin]

theorem out14_apply (r : Fin 256) (k : Fin 512) :
    (out0_14 (F := Ideal) x0 x1 x2 x3 x4 x5 x6 x7 x8 x9 (ix2 r k) : EReal) = colA x0 x1 x4 r ⟨2048 + k.val, by omega⟩ := by
  unfold out0_14
  rw [View.canon_unit_zero hz, pay19_apply]
  simp only [pay61_apply]
  pointwise [colA, lin]

theorem emb_12 (r : Fin 256) (c : Fin 512) : r0_12.emb (ix2 r c) = ix2 r ⟨0 + c.val, by omega⟩ := by
  funext a; apply Fin.ext
  match a with
  | ⟨0, _⟩ => show 0 + 1 * r.val = r.val; omega
  | ⟨1, _⟩ => show 0 + 1 * c.val = 0 + c.val; omega

theorem emb_14 (r : Fin 256) (c : Fin 512) : r0_14.emb (ix2 r c) = ix2 r ⟨512 + c.val, by omega⟩ := by
  funext a; apply Fin.ext
  match a with
  | ⟨0, _⟩ => show 0 + 1 * r.val = r.val; omega
  | ⟨1, _⟩ => show 512 + 1 * c.val = 512 + c.val; omega

theorem emb_16 (r : Fin 256) (c : Fin 512) : r0_16.emb (ix2 r c) = ix2 r ⟨1024 + c.val, by omega⟩ := by
  funext a; apply Fin.ext
  match a with
  | ⟨0, _⟩ => show 0 + 1 * r.val = r.val; omega
  | ⟨1, _⟩ => show 1024 + 1 * c.val = 1024 + c.val; omega

theorem emb_18 (r : Fin 256) (c : Fin 512) : r0_18.emb (ix2 r c) = ix2 r ⟨1536 + c.val, by omega⟩ := by
  funext a; apply Fin.ext
  match a with
  | ⟨0, _⟩ => show 0 + 1 * r.val = r.val; omega
  | ⟨1, _⟩ => show 1536 + 1 * c.val = 1536 + c.val; omega

theorem emb_20 (r : Fin 256) (c : Fin 512) : r0_20.emb (ix2 r c) = ix2 r ⟨2048 + c.val, by omega⟩ := by
  funext a; apply Fin.ext
  match a with
  | ⟨0, _⟩ => show 0 + 1 * r.val = r.val; omega
  | ⟨1, _⟩ => show 2048 + 1 * c.val = 2048 + c.val; omega

theorem emb_22 (r : Fin 256) (c : Fin 512) : r0_22.emb (ix2 r c) = ix2 r ⟨2560 + c.val, by omega⟩ := by
  funext a; apply Fin.ext
  match a with
  | ⟨0, _⟩ => show 0 + 1 * r.val = r.val; omega
  | ⟨1, _⟩ => show 2560 + 1 * c.val = 2560 + c.val; omega

theorem out15_apply (r : Fin 256) (k : Fin 3072) :
    (out0_15 (F := Ideal) x0 x1 x2 x3 x4 x5 x6 x7 x8 x9 (ix2 r k) : EReal) = colA x0 x1 x4 r ⟨2560 + k.val, by omega⟩ := by
  unfold out0_15
  refine View.canon_apply_of_pieces (Val := Elt Ideal) (e := .bf16) (fun y : S256x3072.Idx => (colA x0 x1 x4 (y 0) ⟨2560 + (y 1).val, Nat.add_lt_add_left (show (y 1).val < 3072 from (y 1).isLt) 2560⟩ : EReal)) _ ?_ (ix2 r k) (cover0_15 _ _ _ _ _ _ _)
  intro pc hpc
  rcases List.mem_cons.mp hpc with rfl | hpc
  · intro x
    obtain ⟨r, c, rfl⟩ : ∃ (r : Fin 256) (c : Fin 512), x = ix2 r c := ⟨x 0, x 1, eq_ix2 x⟩
    rw [emb_22]
    refine (pay25_apply _ _ r c).trans ?_
    simp only [pay61_apply]
    pointwise [colA, lin]
    refine Finset.sum_congr rfl fun d _ => ?_
    congr 3
    exact Fin.ext (by show 5120 + c.val = 2560 + (2560 + c.val); omega)
  rcases List.mem_cons.mp hpc with rfl | hpc
  · intro x
    obtain ⟨r, c, rfl⟩ : ∃ (r : Fin 256) (c : Fin 512), x = ix2 r c := ⟨x 0, x 1, eq_ix2 x⟩
    rw [emb_20]
    refine (pay24_apply _ _ r c).trans ?_
    simp only [pay61_apply]
    pointwise [colA, lin]
    refine Finset.sum_congr rfl fun d _ => ?_
    congr 3
    exact Fin.ext (by show 4608 + c.val = 2560 + (2048 + c.val); omega)
  rcases List.mem_cons.mp hpc with rfl | hpc
  · intro x
    obtain ⟨r, c, rfl⟩ : ∃ (r : Fin 256) (c : Fin 512), x = ix2 r c := ⟨x 0, x 1, eq_ix2 x⟩
    rw [emb_18]
    refine (pay23_apply _ _ r c).trans ?_
    simp only [pay61_apply]
    pointwise [colA, lin]
    refine Finset.sum_congr rfl fun d _ => ?_
    congr 3
    exact Fin.ext (by show 4096 + c.val = 2560 + (1536 + c.val); omega)
  rcases List.mem_cons.mp hpc with rfl | hpc
  · intro x
    obtain ⟨r, c, rfl⟩ : ∃ (r : Fin 256) (c : Fin 512), x = ix2 r c := ⟨x 0, x 1, eq_ix2 x⟩
    rw [emb_16]
    refine (pay22_apply _ _ r c).trans ?_
    simp only [pay61_apply]
    pointwise [colA, lin]
    refine Finset.sum_congr rfl fun d _ => ?_
    congr 3
    exact Fin.ext (by show 3584 + c.val = 2560 + (1024 + c.val); omega)
  rcases List.mem_cons.mp hpc with rfl | hpc
  · intro x
    obtain ⟨r, c, rfl⟩ : ∃ (r : Fin 256) (c : Fin 512), x = ix2 r c := ⟨x 0, x 1, eq_ix2 x⟩
    rw [emb_14]
    refine (pay21_apply _ _ r c).trans ?_
    simp only [pay61_apply]
    pointwise [colA, lin]
    refine Finset.sum_congr rfl fun d _ => ?_
    congr 3
    exact Fin.ext (by show 3072 + c.val = 2560 + (512 + c.val); omega)
  rcases List.mem_cons.mp hpc with rfl | hpc
  · intro x
    obtain ⟨r, c, rfl⟩ : ∃ (r : Fin 256) (c : Fin 512), x = ix2 r c := ⟨x 0, x 1, eq_ix2 x⟩
    rw [emb_12]
    refine (pay20_apply _ _ r c).trans ?_
    simp only [pay61_apply]
    pointwise [colA, lin]
  nomatch hpc

theorem emb_25 (r : Fin 256) (c : Fin 128) : r0_25.emb (ix4 0 0 r c) = ix4 0 0 r c := by
  funext a; apply Fin.ext
  match a with
  | ⟨0, _⟩ => show 0 + 1 * 0 = 0; omega
  | ⟨1, _⟩ => show 0 + 1 * 0 = 0; omega
  | ⟨2, _⟩ => show 0 + 1 * r.val = r.val; omega
  | ⟨3, _⟩ => show 0 + 1 * c.val = c.val; omega

theorem emb_26 (r : Fin 256) (c : Fin 128) : r0_26.emb (ix4 0 0 r c) = ix4 0 1 r c := by
  funext a; apply Fin.ext
  match a with
  | ⟨0, _⟩ => show 0 + 1 * 0 = 0; omega
  | ⟨1, _⟩ => show 1 + 1 * 0 = 1; omega
  | ⟨2, _⟩ => show 0 + 1 * r.val = r.val; omega
  | ⟨3, _⟩ => show 0 + 1 * c.val = c.val; omega

theorem emb_27 (r : Fin 256) (c : Fin 128) : r0_27.emb (ix4 0 0 r c) = ix4 0 2 r c := by
  funext a; apply Fin.ext
  match a with
  | ⟨0, _⟩ => show 0 + 1 * 0 = 0; omega
  | ⟨1, _⟩ => show 2 + 1 * 0 = 2; omega
  | ⟨2, _⟩ => show 0 + 1 * r.val = r.val; omega
  | ⟨3, _⟩ => show 0 + 1 * c.val = c.val; omega

theorem emb_28 (r : Fin 256) (c : Fin 128) : r0_28.emb (ix4 0 0 r c) = ix4 0 3 r c := by
  funext a; apply Fin.ext
  match a with
  | ⟨0, _⟩ => show 0 + 1 * 0 = 0; omega
  | ⟨1, _⟩ => show 3 + 1 * 0 = 3; omega
  | ⟨2, _⟩ => show 0 + 1 * r.val = r.val; omega
  | ⟨3, _⟩ => show 0 + 1 * c.val = c.val; omega

theorem emb_29 (r : Fin 256) (c : Fin 128) : r0_29.emb (ix4 0 0 r c) = ix4 0 4 r c := by
  funext a; apply Fin.ext
  match a with
  | ⟨0, _⟩ => show 0 + 1 * 0 = 0; omega
  | ⟨1, _⟩ => show 4 + 1 * 0 = 4; omega
  | ⟨2, _⟩ => show 0 + 1 * r.val = r.val; omega
  | ⟨3, _⟩ => show 0 + 1 * c.val = c.val; omega

theorem emb_30 (r : Fin 256) (c : Fin 128) : r0_30.emb (ix4 0 0 r c) = ix4 0 5 r c := by
  funext a; apply Fin.ext
  match a with
  | ⟨0, _⟩ => show 0 + 1 * 0 = 0; omega
  | ⟨1, _⟩ => show 5 + 1 * 0 = 5; omega
  | ⟨2, _⟩ => show 0 + 1 * r.val = r.val; omega
  | ⟨3, _⟩ => show 0 + 1 * c.val = c.val; omega

theorem emb_31 (r : Fin 256) (c : Fin 128) : r0_31.emb (ix4 0 0 r c) = ix4 0 6 r c := by
  funext a; apply Fin.ext
  match a with
  | ⟨0, _⟩ => show 0 + 1 * 0 = 0; omega
  | ⟨1, _⟩ => show 6 + 1 * 0 = 6; omega
  | ⟨2, _⟩ => show 0 + 1 * r.val = r.val; omega
  | ⟨3, _⟩ => show 0 + 1 * c.val = c.val; omega

theorem emb_32 (r : Fin 256) (c : Fin 128) : r0_32.emb (ix4 0 0 r c) = ix4 0 7 r c := by
  funext a; apply Fin.ext
  match a with
  | ⟨0, _⟩ => show 0 + 1 * 0 = 0; omega
  | ⟨1, _⟩ => show 7 + 1 * 0 = 7; omega
  | ⟨2, _⟩ => show 0 + 1 * r.val = r.val; omega
  | ⟨3, _⟩ => show 0 + 1 * c.val = c.val; omega

theorem ex_piece (x : S1x1x256x128.Idx) : ∃ (r : Fin 256) (c : Fin 128), x = ix4 0 0 r c := by
  refine ⟨x 2, x 3, (eq_ix4 x).trans ?_⟩
  congr 1
  · exact Fin.ext (Nat.lt_one_iff.mp (x 0).isLt)
  · exact Fin.ext (Nat.lt_one_iff.mp (x 1).isLt)

/-- The lane of a head's column. -/
def lane (h : Fin 8) (c : Fin 128) : Fin 1024 := ⟨128 * h.val + c.val, by omega⟩

theorem out16_apply (e : Fin 8) (r : Fin 256) (c : Fin 128) :
    (out0_16 (F := Ideal) x0 x1 x2 x3 x4 x5 x6 x7 x8 x9 (ix4 0 e r c) : EReal) = lin (rowQ x0 x1 x5 x6 r) (fun k j => x8 (ix2 k j)) (lane e c) := by
  unfold out0_16
  refine View.canon_apply_of_pieces (Val := Elt Ideal) (e := .bf16) (fun y : S1x8x256x128.Idx => (lin (rowQ x0 x1 x5 x6 (y 2)) (fun k j => x8 (ix2 k j)) (lane (y 1) (y 3)) : EReal)) _ ?_ (ix4 0 e r c) (cover0_16 _ _ _ _ _ _ _ _ _)
  intro pc hpc
  rcases List.mem_cons.mp hpc with rfl | hpc
  · intro x
    obtain ⟨r, c, rfl⟩ := ex_piece x
    rw [emb_32]
    refine (pay49_apply _ r c).trans ((pay65_apply x0 x1 x2 x3 x4 x5 x6 x7 x8 x9 r _).trans ?_)
    exact congrArg _ (Fin.ext (by show 896 + c.val = 128 * 7 + c.val; omega))
  rcases List.mem_cons.mp hpc with rfl | hpc
  · intro x
    obtain ⟨r, c, rfl⟩ := ex_piece x
    rw [emb_31]
    refine (pay47_apply _ r c).trans ((pay65_apply x0 x1 x2 x3 x4 x5 x6 x7 x8 x9 r _).trans ?_)
    exact congrArg _ (Fin.ext (by show 768 + c.val = 128 * 6 + c.val; omega))
  rcases List.mem_cons.mp hpc with rfl | hpc
  · intro x
    obtain ⟨r, c, rfl⟩ := ex_piece x
    rw [emb_30]
    refine (pay45_apply _ r c).trans ((pay65_apply x0 x1 x2 x3 x4 x5 x6 x7 x8 x9 r _).trans ?_)
    exact congrArg _ (Fin.ext (by show 640 + c.val = 128 * 5 + c.val; omega))
  rcases List.mem_cons.mp hpc with rfl | hpc
  · intro x
    obtain ⟨r, c, rfl⟩ := ex_piece x
    rw [emb_29]
    refine (pay42_apply _ r c).trans ((pay65_apply x0 x1 x2 x3 x4 x5 x6 x7 x8 x9 r _).trans ?_)
    exact congrArg _ (Fin.ext (by show 512 + c.val = 128 * 4 + c.val; omega))
  rcases List.mem_cons.mp hpc with rfl | hpc
  · intro x
    obtain ⟨r, c, rfl⟩ := ex_piece x
    rw [emb_28]
    refine (pay40_apply _ r c).trans ((pay65_apply x0 x1 x2 x3 x4 x5 x6 x7 x8 x9 r _).trans ?_)
    exact congrArg _ (Fin.ext (by show 384 + c.val = 128 * 3 + c.val; omega))
  rcases List.mem_cons.mp hpc with rfl | hpc
  · intro x
    obtain ⟨r, c, rfl⟩ := ex_piece x
    rw [emb_27]
    refine (pay38_apply _ r c).trans ((pay65_apply x0 x1 x2 x3 x4 x5 x6 x7 x8 x9 r _).trans ?_)
    exact congrArg _ (Fin.ext (by show 256 + c.val = 128 * 2 + c.val; omega))
  rcases List.mem_cons.mp hpc with rfl | hpc
  · intro x
    obtain ⟨r, c, rfl⟩ := ex_piece x
    rw [emb_26]
    refine (pay35_apply _ r c).trans ((pay65_apply x0 x1 x2 x3 x4 x5 x6 x7 x8 x9 r _).trans ?_)
    exact congrArg _ (Fin.ext (by show 128 + c.val = 128 * 1 + c.val; omega))
  rcases List.mem_cons.mp hpc with rfl | hpc
  · intro x
    obtain ⟨r, c, rfl⟩ := ex_piece x
    rw [emb_25]
    refine (pay33_apply _ r c).trans ((pay65_apply x0 x1 x2 x3 x4 x5 x6 x7 x8 x9 r _).trans ?_)
    exact congrArg _ (Fin.ext (by show c.val = 128 * 0 + c.val; omega))
  nomatch hpc

theorem out17_apply (e : Fin 8) (r : Fin 256) (c : Fin 128) :
    (out0_17 (F := Ideal) x0 x1 x2 x3 x4 x5 x6 x7 x8 x9 (ix4 0 e r c) : EReal) = qix x0 x1 x5 x6 x9 r (lane e c) := by
  unfold out0_17
  refine View.canon_apply_of_pieces (Val := Elt Ideal) (e := .bf16) (fun y : S1x8x256x128.Idx => (qix x0 x1 x5 x6 x9 (y 2) (lane (y 1) (y 3)) : EReal)) _ ?_ (ix4 0 e r c) (cover0_17 _ _ _ _ _ _ _ _ _)
  intro pc hpc
  rcases List.mem_cons.mp hpc with rfl | hpc
  · intro x
    obtain ⟨r, c, rfl⟩ := ex_piece x
    rw [emb_32]
    refine (pay50_apply _ r c).trans ((pay69_apply x0 x1 x2 x3 x4 x5 x6 x7 x8 x9 r _).trans ?_)
    exact congrArg _ (Fin.ext (by show 896 + c.val = 128 * 7 + c.val; omega))
  rcases List.mem_cons.mp hpc with rfl | hpc
  · intro x
    obtain ⟨r, c, rfl⟩ := ex_piece x
    rw [emb_31]
    refine (pay48_apply _ r c).trans ((pay69_apply x0 x1 x2 x3 x4 x5 x6 x7 x8 x9 r _).trans ?_)
    exact congrArg _ (Fin.ext (by show 768 + c.val = 128 * 6 + c.val; omega))
  rcases List.mem_cons.mp hpc with rfl | hpc
  · intro x
    obtain ⟨r, c, rfl⟩ := ex_piece x
    rw [emb_30]
    refine (pay46_apply _ r c).trans ((pay69_apply x0 x1 x2 x3 x4 x5 x6 x7 x8 x9 r _).trans ?_)
    exact congrArg _ (Fin.ext (by show 640 + c.val = 128 * 5 + c.val; omega))
  rcases List.mem_cons.mp hpc with rfl | hpc
  · intro x
    obtain ⟨r, c, rfl⟩ := ex_piece x
    rw [emb_29]
    refine (pay43_apply _ r c).trans ((pay69_apply x0 x1 x2 x3 x4 x5 x6 x7 x8 x9 r _).trans ?_)
    exact congrArg _ (Fin.ext (by show 512 + c.val = 128 * 4 + c.val; omega))
  rcases List.mem_cons.mp hpc with rfl | hpc
  · intro x
    obtain ⟨r, c, rfl⟩ := ex_piece x
    rw [emb_28]
    refine (pay41_apply _ r c).trans ((pay69_apply x0 x1 x2 x3 x4 x5 x6 x7 x8 x9 r _).trans ?_)
    exact congrArg _ (Fin.ext (by show 384 + c.val = 128 * 3 + c.val; omega))
  rcases List.mem_cons.mp hpc with rfl | hpc
  · intro x
    obtain ⟨r, c, rfl⟩ := ex_piece x
    rw [emb_27]
    refine (pay39_apply _ r c).trans ((pay69_apply x0 x1 x2 x3 x4 x5 x6 x7 x8 x9 r _).trans ?_)
    exact congrArg _ (Fin.ext (by show 256 + c.val = 128 * 2 + c.val; omega))
  rcases List.mem_cons.mp hpc with rfl | hpc
  · intro x
    obtain ⟨r, c, rfl⟩ := ex_piece x
    rw [emb_26]
    refine (pay36_apply _ _ _ _ r c).trans ((pay32_of x0 x1 x2 x3 x4 x5 x6 x7 x8 x9 r _).trans ?_)
    exact congrArg _ (Fin.ext (by show 128 + c.val = 128 * 1 + c.val; omega))
  rcases List.mem_cons.mp hpc with rfl | hpc
  · intro x
    obtain ⟨r, c, rfl⟩ := ex_piece x
    rw [emb_25]
    refine (pay34_apply _ _ _ _ r c).trans ((pay32_of x0 x1 x2 x3 x4 x5 x6 x7 x8 x9 r _).trans ?_)
    exact congrArg _ (Fin.ext (by show c.val = 128 * 0 + c.val; omega))
  nomatch hpc

theorem out18_apply (e : Fin 8) (r : Fin 256) :
    (out0_18 (F := Ideal) x0 x1 x2 x3 x4 x5 x6 x7 x8 x9 (ix2 e r) : EReal) = colB x0 x1 x5 r ⟨512 + e.val, by omega⟩ * Ideal.ofBits FTy.f32 0x3D800000#32 := by
  unfold out0_18
  rw [View.canon_unit_zero hz, pay2_apply, pay64_apply]

/-- The normalized memory row. -/
def rowK (r : Fin 256) (c : Fin 128) : EReal :=
  rmsN (Ideal.ofBits FTy.f32 0x43000000#32) (fun k : Fin 128 => colB x0 x1 x5 r ⟨256 + k.val, by omega⟩) (fun k => x7 (ix2 0 k)) c

theorem out19_apply (r : Fin 256) (c : Fin 128) : (out0_19 (F := Ideal) x0 x1 x2 x3 x4 x5 x6 x7 x8 x9 (ix3 0 r c) : EReal) = rowK x0 x1 x5 x7 r c := by
  unfold out0_19 k0_pay70 k0_pay71 k0_pay72
  rw [View.canon_unit_zero hz3, View.ld_unit_zero (S := S1x128) hz, pay55_apply]
  simp only [pay64_apply]
  rfl

theorem out20_apply (r : Fin 256) (c : Fin 128) : (out0_20 (F := Ideal) x0 x1 x2 x3 x4 x5 x6 x7 x8 x9 (ix3 0 c r) : EReal) = rowK x0 x1 x5 x7 r c := by
  unfold out0_20 k0_pay70 k0_pay71 k0_pay72
  rw [View.canon_unit_zero hz3, View.ld_unit_zero (S := S1x128) hz, pay56_apply]
  simp only [pay64_apply]
  rfl

/-- The indexer's key at a lane: the product itself in the first and third copy, its rest in the others. -/
def kix (r : Fin 256) (c : Fin 128) : EReal :=
  if c.val / 32 % 2 = 0 then colB x0 x1 x5 r ⟨384 + c.val, by omega⟩
  else colB x0 x1 x5 r ⟨384 + c.val, by omega⟩ - colB x0 x1 x5 r ⟨384 + c.val, by omega⟩

theorem out21_apply (r : Fin 256) (c : Fin 128) : (out0_21 (F := Ideal) x0 x1 x2 x3 x4 x5 x6 x7 x8 x9 (ix3 0 r c) : EReal) = kix x0 x1 x5 r c := by
  unfold out0_21
  rw [View.canon_unit_zero hz3, pay1_apply]
  simp only [pay64_apply]
  rfl

end Out

end Cert.InIdeal.Spec
end
-- ==== Proof.InHost.lean ====
/- The operands that the host computes for the input projection: rotation tables and the weights in the order the kernel reads them. -/
module

public import Idealize.ShloMosaic.Lib.StableHlo.RunRead
public import proofs.«01_k».proof.Proof.MlpBlock
public import proofs.«01_k».proof.Proof.Gen.InIdeal.Value

@[expose] public section

noncomputable section

namespace Cert.Proof.In

open Idealize.ShloMosaic

/-- The angle of pair `e` at position `p`. -/
def ang (p : Fin 4096) (e : Nat) : EReal :=
  FloatOps.sitofp (F := Ideal) FTy.f32 (BitVec.ofNat 32 p.val)
    * Ideal.pow (Ideal.ofBits FTy.f32 0x461C4000#32) (Ideal.div (-FloatOps.sitofp (F := Ideal) FTy.f32 (BitVec.ofNat 32 e)) (Ideal.ofBits FTy.f32 0x42000000#32))

/-- The column, among a token's projections, of entry `j` of the rotated heads: all first halves stand before all second halves. -/
def headcol (o : Nat) (ho : o ≤ 512) (j : Fin 512) : Fin 6056 := ⟨o + (64 * (j.val % 256 / 32) + 32 * (j.val / 256) + j.val % 32), by omega⟩

end Cert.Proof.In

namespace Cert.InIdeal.Spec

open Idealize.ShloMosaic Idealize.ShloMosaic.TcCoe Idealize.SL.Sem Cert.InIdeal Cert.InIdeal.Gen Cert.Proof.Mlp Cert.Proof.In
open scoped BigOperators

set_option maxRecDepth 16384

variable (m : (ℓ : Loc nD τ sig) → Buf (Elt Ideal) ℓ) (c : Dev nD)

theorem truncf_at {S : Shape} (x : FVec Ideal S .f32) (i : S.Idx) : (truncf (F := Ideal) .bf16 x bitsLt_bf16_f32 i : EReal) = x i := rfl

theorem V15_apply (p : Fin 4096) (k : Fin 256) : (V m c main_v15 (ix2 p k) : EReal) = Ideal.cos (ang p (k.val % 32)) := by
  entry_read
  pointwise [ang]

theorem V19_apply (p : Fin 4096) (k : Fin 256) : (V m c main_v19 (ix2 p k) : EReal) = Ideal.sin (ang p (k.val % 32)) := by
  entry_read
  pointwise [ang]

theorem V50_apply (k : Fin 1024) : (V m c main_v50 (ix2 0 k) : EReal) = m ((c : Thread nD τ).loc main_arg1) (ix1 k) := by
  entry_read
  pointwise

theorem V51_apply (k : Fin 256) : (V m c main_v51 (ix2 0 k) : EReal) = m ((c : Thread nD τ).loc main_arg3) (ix1 k) := by
  entry_read
  pointwise

theorem V52_apply (k : Fin 128) : (V m c main_v52 (ix2 0 k) : EReal) = m ((c : Thread nD τ).loc main_arg4) (ix1 k) := by
  entry_read
  pointwise

theorem V49_apply (k : Fin 256) (e : Fin 8) (l : Fin 128) :
    (V m c main_v49 (ix2 k ⟨128 * e.val + l.val, by omega⟩) : EReal) = m ((c : Thread nD τ).loc main_arg5) (ix3 k e ⟨l.val % 32, by omega⟩) := by
  entry_read
  pointwise
  exact congrArg (fun x => m ((c : Thread nD τ).loc main_arg5) (ix3 k e x)) (Fin.ext (by show (128 * e.val + l.val) % 32 = l.val % 32; omega))

set_option maxHeartbeats 4000000 in
theorem V33_apply (d : Fin 1024) :
    (∀ k : Fin 512, (V m c main_v33 (ix2 d ⟨k.val, by omega⟩) : EReal) = m ((c : Thread nD τ).loc main_arg2) (ix2 d (headcol 0 (by omega) k)))
    ∧ (∀ k : Fin 512, (V m c main_v33 (ix2 d ⟨512 + k.val, by omega⟩) : EReal) = m ((c : Thread nD τ).loc main_arg2) (ix2 d (headcol 512 (by omega) k)))
    ∧ (∀ k : Fin 512, (V m c main_v33 (ix2 d ⟨1024 + k.val, by omega⟩) : EReal) = m ((c : Thread nD τ).loc main_arg2) (ix2 d (⟨1024 + k.val, by omega⟩)))
    ∧ (∀ k : Fin 512, (V m c main_v33 (ix2 d ⟨1536 + k.val, by omega⟩) : EReal) = m ((c : Thread nD τ).loc main_arg2) (ix2 d (⟨1536 + k.val, by omega⟩)))
    ∧ (∀ k : Fin 512, (V m c main_v33 (ix2 d ⟨2048 + k.val, by omega⟩) : EReal) = m ((c : Thread nD τ).loc main_arg2) (ix2 d (⟨2472 + k.val, by omega⟩)))
    ∧ (∀ k : Fin 3072, (V m c main_v33 (ix2 d ⟨2560 + k.val, by omega⟩) : EReal) = m ((c : Thread nD τ).loc main_arg2) (ix2 d (⟨2984 + k.val, by omega⟩))) := by
  refine ⟨fun k => ?_, fun k => ?_, fun k => ?_, fun k => ?_, fun k => ?_, fun k => ?_⟩
  · unfold_abbrev_sides
    after_reads_simp
    refine (truncf_at _ _).trans ?_
    refine (concatenate_apply_piece (t := S1024x5632) (1 : Fin 2) _ _ _ 0 ?_ S1024x512 _ rfl rfl 0 rfl (ix2 d k) ?_ ?_).trans ?_
    · show 0 < 6
      decide
    · intro b hb
      match b with
      | ⟨0, _⟩ => rfl
      | ⟨1, _⟩ => exact absurd rfl hb
    · show 0 + k.val = k.val
      omega
    · show StableHlo.upto hostOps0 (fun b => m (c, b)) 34 (Proc.tc.devRef main_v23) (ix2 d k) = _
      after_reads_simp
      pointwise
      exact congrArg (fun x => m ((c : Thread nD τ).loc main_arg2) (ix2 d x)) (Fin.ext (by show k.val / 32 % 8 * 64 + k.val / 256 * 32 + k.val % 32 = 0 + (64 * (k.val % 256 / 32) + 32 * (k.val / 256) + k.val % 32); omega))
  · unfold_abbrev_sides
    after_reads_simp
    refine (truncf_at _ _).trans ?_
    refine (concatenate_apply_piece (t := S1024x5632) (1 : Fin 2) _ _ _ 1 ?_ S1024x512 _ rfl rfl 512 rfl (ix2 d k) ?_ ?_).trans ?_
    · show 1 < 6
      decide
    · intro b hb
      match b with
      | ⟨0, _⟩ => rfl
      | ⟨1, _⟩ => exact absurd rfl hb
    · show 512 + k.val = 512 + k.val
      omega
    · show StableHlo.upto hostOps0 (fun b => m (c, b)) 34 (Proc.tc.devRef main_v27) (ix2 d k) = _
      after_reads_simp
      pointwise
      exact congrArg (fun x => m ((c : Thread nD τ).loc main_arg2) (ix2 d x)) (Fin.ext (by show 512 + (k.val / 32 % 8 * 64 + k.val / 256 * 32 + k.val % 32) = 512 + (64 * (k.val % 256 / 32) + 32 * (k.val / 256) + k.val % 32); omega))
  · unfold_abbrev_sides
    after_reads_simp
    refine (truncf_at _ _).trans ?_
    refine (concatenate_apply_piece (t := S1024x5632) (1 : Fin 2) _ _ _ 2 ?_ S1024x512 _ rfl rfl 1024 rfl (ix2 d k) ?_ ?_).trans ?_
    · show 2 < 6
      decide
    · intro b hb
      match b with
      | ⟨0, _⟩ => rfl
      | ⟨1, _⟩ => exact absurd rfl hb
    · show 1024 + k.val = 1024 + k.val
      omega
    · show StableHlo.upto hostOps0 (fun b => m (c, b)) 34 (Proc.tc.devRef main_v28) (ix2 d k) = _
      after_reads_simp
      pointwise
  · unfold_abbrev_sides
    after_reads_simp
    refine (truncf_at _ _).trans ?_
    refine (concatenate_apply_piece (t := S1024x5632) (1 : Fin 2) _ _ _ 3 ?_ S1024x512 _ rfl rfl 1536 rfl (ix2 d k) ?_ ?_).trans ?_
    · show 3 < 6
      decide
    · intro b hb
      match b with
      | ⟨0, _⟩ => rfl
      | ⟨1, _⟩ => exact absurd rfl hb
    · show 1536 + k.val = 1536 + k.val
      omega
    · show StableHlo.upto hostOps0 (fun b => m (c, b)) 34 (Proc.tc.devRef main_v29) (ix2 d k) = _
      after_reads_simp
      pointwise
  · unfold_abbrev_sides
    after_reads_simp
    refine (truncf_at _ _).trans ?_
    refine (concatenate_apply_piece (t := S1024x5632) (1 : Fin 2) _ _ _ 4 ?_ S1024x512 _ rfl rfl 2048 rfl (ix2 d k) ?_ ?_).trans ?_
    · show 4 < 6
      decide
    · intro b hb
      match b with
      | ⟨0, _⟩ => rfl
      | ⟨1, _⟩ => exact absurd rfl hb
    · show 2048 + k.val = 2048 + k.val
      omega
    · show StableHlo.upto hostOps0 (fun b => m (c, b)) 34 (Proc.tc.devRef main_v30) (ix2 d k) = _
      after_reads_simp
      pointwise
  · unfold_abbrev_sides
    after_reads_simp
    refine (truncf_at _ _).trans ?_
    refine (concatenate_apply_piece (t := S1024x5632) (1 : Fin 2) _ _ _ 5 ?_ S1024x3072 _ rfl rfl 2560 rfl (ix2 d k) ?_ ?_).trans ?_
    · show 5 < 6
      decide
    · intro b hb
      match b with
      | ⟨0, _⟩ => rfl
      | ⟨1, _⟩ => exact absurd rfl hb
    · show 2560 + k.val = 2560 + k.val
      omega
    · show StableHlo.upto hostOps0 (fun b => m (c, b)) 34 (Proc.tc.devRef main_v31) (ix2 d k) = _
      after_reads_simp
      pointwise

set_option maxHeartbeats 4000000 in
theorem V48_apply (d : Fin 1024) :
    (∀ k : Fin 256, (V m c main_v48 (ix2 d ⟨k.val, by omega⟩) : EReal) = m ((c : Thread nD τ).loc main_arg2) (ix2 d (⟨2048 + k.val, by omega⟩)))
    ∧ (∀ k : Fin 128, (V m c main_v48 (ix2 d ⟨256 + k.val, by omega⟩) : EReal) = m ((c : Thread nD τ).loc main_arg2) (ix2 d (⟨2304 + k.val, by omega⟩)))
    ∧ (∀ k : Fin 128, (V m c main_v48 (ix2 d ⟨384 + k.val, by omega⟩) : EReal) = m ((c : Thread nD τ).loc main_arg2) (ix2 d (⟨2432 + k.val % 32, by omega⟩)))
    ∧ (∀ k : Fin 8, (V m c main_v48 (ix2 d ⟨512 + k.val, by omega⟩) : EReal) = m ((c : Thread nD τ).loc main_arg2) (ix2 d (⟨2464 + k.val, by omega⟩))) := by
  refine ⟨fun k => ?_, fun k => ?_, fun k => ?_, fun k => ?_⟩
  · unfold_abbrev_sides
    after_reads_simp
    refine (truncf_at _ _).trans ?_
    refine (concatenate_apply_piece (t := S1024x640) (1 : Fin 2) _ _ _ 0 ?_ S1024x256 _ rfl rfl 0 rfl (ix2 d k) ?_ ?_).trans ?_
    · show 0 < 5
      decide
    · intro b hb
      match b with
      | ⟨0, _⟩ => rfl
      | ⟨1, _⟩ => exact absurd rfl hb
    · show 0 + k.val = k.val
      omega
    · show StableHlo.upto hostOps0 (fun b => m (c, b)) 45 (Proc.tc.devRef main_v35) (ix2 d k) = _
      after_reads_simp
      pointwise
  · unfold_abbrev_sides
    after_reads_simp
    refine (truncf_at _ _).trans ?_
    refine (concatenate_apply_piece (t := S1024x640) (1 : Fin 2) _ _ _ 1 ?_ S1024x128 _ rfl rfl 256 rfl (ix2 d k) ?_ ?_).trans ?_
    · show 1 < 5
      decide
    · intro b hb
      match b with
      | ⟨0, _⟩ => rfl
      | ⟨1, _⟩ => exact absurd rfl hb
    · show 256 + k.val = 256 + k.val
      omega
    · show StableHlo.upto hostOps0 (fun b => m (c, b)) 45 (Proc.tc.devRef main_v36) (ix2 d k) = _
      after_reads_simp
      pointwise
  · unfold_abbrev_sides
    after_reads_simp
    refine (truncf_at _ _).trans ?_
    refine (concatenate_apply_piece (t := S1024x640) (1 : Fin 2) _ _ _ 2 ?_ S1024x128 _ rfl rfl 384 rfl (ix2 d k) ?_ ?_).trans ?_
    · show 2 < 5
      decide
    · intro b hb
      match b with
      | ⟨0, _⟩ => rfl
      | ⟨1, _⟩ => exact absurd rfl hb
    · show 384 + k.val = 384 + k.val
      omega
    · show StableHlo.upto hostOps0 (fun b => m (c, b)) 45 (Proc.tc.devRef main_v40) (ix2 d k) = _
      after_reads_simp
      pointwise
  · unfold_abbrev_sides
    after_reads_simp
    refine (truncf_at _ _).trans ?_
    refine (concatenate_apply_piece (t := S1024x640) (1 : Fin 2) _ _ _ 3 ?_ S1024x8 _ rfl rfl 512 rfl (ix2 d k) ?_ ?_).trans ?_
    · show 3 < 5
      decide
    · intro b hb
      match b with
      | ⟨0, _⟩ => rfl
      | ⟨1, _⟩ => exact absurd rfl hb
    · show 512 + k.val = 512 + k.val
      omega
    · show StableHlo.upto hostOps0 (fun b => m (c, b)) 45 (Proc.tc.devRef main_v41) (ix2 d k) = _
      after_reads_simp
      pointwise

end Cert.InIdeal.Spec
end
-- ==== Proof.InBlock.lean ====
/- The input projection as a function of the extended reals, and the proof that the kernel's blocks compute it. -/
module

public import proofs.«01_k».proof.Proof.InRows
public import proofs.«01_k».proof.Proof.InHost

@[expose] public section

noncomputable section

namespace Cert.InIdeal.Spec

open Idealize.ShloMosaic Idealize.ShloMosaic.TcCoe Idealize.SL.Sem Cert.InIdeal Cert.InIdeal.Gen Cert.Proof.Mlp Cert.Proof.In
open scoped BigOperators

set_option maxRecDepth 16384

/-- Token `r` of sequence `t`. -/
def tok (t r : Fin 256) : Fin 65536 := ⟨256 * t.val + r.val, by omega⟩

section Arrays

variable (a0 : FVec Ideal S65536x1024 .f32) (a1 : FVec Ideal S1024 .f32) (a2 : FVec Ideal S1024x6056 .f32) (a3 : FVec Ideal S256 .f32)
  (a4 : FVec Ideal S128 .f32) (a5 : FVec Ideal S256x8x32 .f32) (a6 : FVec Ideal S256x1024 .bf16)

/-- Column `j` of the projection of token `n`. -/
def prow (n : Fin 65536) (j : Fin 6056) : EReal := lin (rms (fun k => a0 (ix2 n k)) (fun k => a1 (ix1 k))) (fun d j => a2 (ix2 d j)) j

/-- The cosines of a token's position, one per pair and head. -/
def cosr (n : Fin 65536) (k : Fin 256) : EReal := Ideal.cos (ang ⟨n.val % 4096, by omega⟩ (k.val % 32))

/-- The sines of a token's position, one per pair and head. -/
def sinr (n : Fin 65536) (k : Fin 256) : EReal := Ideal.sin (ang ⟨n.val % 4096, by omega⟩ (k.val % 32))

/-- A token's normalized latent query. -/
def cq (n : Fin 65536) (k : Fin 256) : EReal :=
  rmsN (Ideal.ofBits FTy.f32 0x43800000#32) (fun k : Fin 256 => prow a0 a1 a2 n ⟨2048 + k.val, by omega⟩) (fun k => a3 (ix1 k)) k

/-- A token's normalized latent memory. -/
def ck (n : Fin 65536) (k : Fin 128) : EReal :=
  rmsN (Ideal.ofBits FTy.f32 0x43000000#32) (fun k : Fin 128 => prow a0 a1 a2 n ⟨2304 + k.val, by omega⟩) (fun k => a4 (ix1 k)) k

/-- A token's query for the indexer. -/
def iq (n : Fin 65536) (e : Fin 8) (l : Fin 128) : EReal := ∑ k, cq a0 a1 a2 a3 n k * a5 (ix3 k e ⟨l.val % 32, by omega⟩)

/-- A token's key for the indexer. -/
def ik (n : Fin 65536) (l : Fin 128) : EReal := prow a0 a1 a2 n ⟨2432 + l.val % 32, by omega⟩

/-- The rotated queries of the recurrence. -/
def o10 : FVec Ideal S65536x512 .bf16 := fun i => rot (fun j => prow a0 a1 a2 (i 0) (headcol 0 (by omega) j)) (cosr (i 0)) (sinr (i 0)) (i 1)
/-- The rotated and scaled keys of the recurrence. -/
def o11 : FVec Ideal S65536x512 .bf16 :=
  fun i => rot (fun j => prow a0 a1 a2 (i 0) (headcol 512 (by omega) j)) (cosr (i 0)) (sinr (i 0)) (i 1) * Ideal.ofBits FTy.f32 0x3E000000#32
/-- The values of the recurrence. -/
def o12 : FVec Ideal S65536x512 .bf16 := fun i => prow a0 a1 a2 (i 0) ⟨1024 + (i 1).val, (Nat.add_lt_add_left (show (i 1).val < 512 from (i 1).isLt) 1024).trans (by decide)⟩
/-- The gates of the recurrence. -/
def o13 : FVec Ideal S65536x512 .bf16 := fun i => prow a0 a1 a2 (i 0) ⟨1536 + (i 1).val, (Nat.add_lt_add_left (show (i 1).val < 512 from (i 1).isLt) 1536).trans (by decide)⟩
/-- The queries of the memory. -/
def o14 : FVec Ideal S65536x512 .bf16 := fun i => prow a0 a1 a2 (i 0) ⟨2472 + (i 1).val, (Nat.add_lt_add_left (show (i 1).val < 512 from (i 1).isLt) 2472).trans (by decide)⟩
/-- The gates of the three branches. -/
def o15 : FVec Ideal S65536x3072 .bf16 := fun i => prow a0 a1 a2 (i 0) ⟨2984 + (i 1).val, Nat.add_lt_add_left (show (i 1).val < 3072 from (i 1).isLt) 2984⟩
/-- The latent queries, head by head. -/
def o16 : FVec Ideal S256x8x256x128 .bf16 := fun i => lin (cq a0 a1 a2 a3 (tok (i 0) (i 2))) (fun k j => a6 (ix2 k j)) (lane (i 1) (i 3))
/-- The indexer's queries: two copies and two rests. -/
def o17 : FVec Ideal S256x8x256x128 .bf16 := fun i =>
  if (show Fin 128 from i 3).val < 64 then iq a0 a1 a2 a3 a5 (tok (i 0) (i 2)) (i 1) (i 3)
  else iq a0 a1 a2 a3 a5 (tok (i 0) (i 2)) (i 1) (i 3) - iq a0 a1 a2 a3 a5 (tok (i 0) (i 2)) (i 1) (i 3)
/-- The indexer's head weights. -/
def o18 : FVec Ideal S8x65536 .f32 := fun i => prow a0 a1 a2 (i 1) ⟨2464 + (i 0).val, (Nat.add_lt_add_left (show (i 0).val < 8 from (i 0).isLt) 2464).trans (by decide)⟩ * Ideal.ofBits FTy.f32 0x3D800000#32
/-- The latent memory. -/
def o19 : FVec Ideal S256x256x128 .bf16 := fun i => ck a0 a1 a2 a4 (tok (i 0) (i 1)) (i 2)
/-- The latent memory, transposed. -/
def o20 : FVec Ideal S256x128x256 .bf16 := fun i => ck a0 a1 a2 a4 (tok (i 0) (i 2)) (i 1)
/-- The indexer's keys: a copy and a rest, twice. -/
def o21 : FVec Ideal S256x256x128 .bf16 := fun i =>
  if (show Fin 128 from i 2).val / 32 % 2 = 0 then ik a0 a1 a2 (tok (i 0) (i 1)) (i 2)
  else ik a0 a1 a2 (tok (i 0) (i 1)) (i 2) - ik a0 a1 a2 (tok (i 0) (i 1)) (i 2)

end Arrays

variable (m : (ℓ : Loc nD τ sig) → Buf (Elt Ideal) ℓ) (c : Dev nD)

theorem idx_all : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val % 16 ∧ win0_2.index t (1 : Fin 2) = 0)
    ∧ (win0_3.index t (0 : Fin 2) = t.val % 16 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 4) = t.val ∧ win0_16.index t (1 : Fin 4) = 0 ∧ win0_16.index t (2 : Fin 4) = 0 ∧ win0_16.index t (3 : Fin 4) = 0)
    ∧ (win0_17.index t (0 : Fin 4) = t.val ∧ win0_17.index t (1 : Fin 4) = 0 ∧ win0_17.index t (2 : Fin 4) = 0 ∧ win0_17.index t (3 : Fin 4) = 0)
    ∧ (win0_18.index t (0 : Fin 2) = 0 ∧ win0_18.index t (1 : Fin 2) = t.val)
    ∧ (win0_19.index t (0 : Fin 3) = t.val ∧ win0_19.index t (1 : Fin 3) = 0 ∧ win0_19.index t (2 : Fin 3) = 0)
    ∧ (win0_20.index t (0 : Fin 3) = t.val ∧ win0_20.index t (1 : Fin 3) = 0 ∧ win0_20.index t (2 : Fin 3) = 0)
    ∧ (win0_21.index t (0 : Fin 3) = t.val ∧ win0_21.index t (1 : Fin 3) = 0 ∧ win0_21.index t (2 : Fin 3) = 0) :=
  (by decide +kernel : ∀ t : Fin grid0.N, _)

theorem lt_points (t : Fin cfg0.N) : t.val < 256 := by
  have h : cfg0.N = 256 := N_0
  have := t.isLt; omega

/-- Block `t` is sequence `t`. -/
def batch (t : Fin cfg0.N) : Fin 256 := ⟨t.val, lt_points t⟩

theorem emb0 (t : Fin cfg0.N) (r : Fin 256) (k : Fin 1024) : ((cfg0.win 0).blk t).view.emb (ix2 r k) = ix2 (tok (batch t) r) k := by
  obtain ⟨hw, -⟩ := idx_all t
  obtain ⟨e0, e1⟩ := hw
  funext a; apply Fin.ext
  match a with
  | ⟨0, _⟩ => show win0_0.index t (0 : Fin 2) * 256 + 1 * r.val = 256 * t.val + r.val; omega
  | ⟨1, _⟩ => show win0_0.index t (1 : Fin 2) * 1024 + 1 * k.val = k.val; omega

theorem emb1 (t : Fin cfg0.N) (k : Fin 1024) : ((cfg0.win 1).blk t).view.emb (ix2 0 k) = ix2 0 k := by
  obtain ⟨-, hw, -⟩ := idx_all t
  obtain ⟨e0, e1⟩ := hw
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem emb6 (t : Fin cfg0.N) (k : Fin 256) : ((cfg0.win 6).blk t).view.emb (ix2 0 k) = ix2 0 k := by
  obtain ⟨-, -, -, -, -, -, hw, -⟩ := idx_all t
  obtain ⟨e0, e1⟩ := hw
  funext a; apply Fin.ext
  match a with
  | ⟨0, _⟩ => show win0_6.index t (0 : Fin 2) * 1 + 1 * 0 = 0; omega
  | ⟨1, _⟩ => show win0_6.index t (1 : Fin 2) * 256 + 1 * k.val = k.val; omega

theorem emb7 (t : Fin cfg0.N) (k : Fin 128) : ((cfg0.win 7).blk t).view.emb (ix2 0 k) = ix2 0 k := by
  obtain ⟨-, -, -, -, -, -, -, hw, -⟩ := idx_all t
  obtain ⟨e0, e1⟩ := hw
  funext a; apply Fin.ext
  match a with
  | ⟨0, _⟩ => show win0_7.index t (0 : Fin 2) * 1 + 1 * 0 = 0; omega
  | ⟨1, _⟩ => show win0_7.index t (1 : Fin 2) * 128 + 1 * k.val = k.val; omega

theorem emb2 (t : Fin cfg0.N) (r k : Fin 256) : ((cfg0.win 2).blk t).view.emb (ix2 r k) = ix2 ⟨(tok (batch t) r).val % 4096, by omega⟩ k := by
  obtain ⟨-, -, hw, -⟩ := idx_all t
  obtain ⟨e0, e1⟩ := hw
  funext a; apply Fin.ext
  match a with
  | ⟨0, _⟩ => show win0_2.index t (0 : Fin 2) * 256 + 1 * r.val = (256 * t.val + r.val) % 4096; omega
  | ⟨1, _⟩ => show win0_2.index t (1 : Fin 2) * 256 + 1 * k.val = k.val; omega

theorem emb3 (t : Fin cfg0.N) (r k : Fin 256) : ((cfg0.win 3).blk t).view.emb (ix2 r k) = ix2 ⟨(tok (batch t) r).val % 4096, by omega⟩ k := by
  obtain ⟨-, -, -, hw, -⟩ := idx_all t
  obtain ⟨e0, e1⟩ := hw
  funext a; apply Fin.ext
  match a with
  | ⟨0, _⟩ => show win0_3.index t (0 : Fin 2) * 256 + 1 * r.val = (256 * t.val + r.val) % 4096; omega
  | ⟨1, _⟩ => show win0_3.index t (1 : Fin 2) * 256 + 1 * k.val = k.val; omega

theorem emb4 (t : Fin cfg0.N) (d : Fin 1024) (k : Fin 5632) : ((cfg0.win 4).blk t).view.emb (ix2 d k) = ix2 d k := by
  obtain ⟨-, -, -, -, hw, -⟩ := idx_all t
  obtain ⟨e0, e1⟩ := hw
  funext a; apply Fin.ext
  match a with
  | ⟨0, _⟩ => show win0_4.index t (0 : Fin 2) * 1024 + 1 * d.val = d.val; omega
  | ⟨1, _⟩ => show win0_4.index t (1 : Fin 2) * 5632 + 1 * k.val = k.val; omega

theorem emb5 (t : Fin cfg0.N) (d : Fin 1024) (k : Fin 640) : ((cfg0.win 5).blk t).view.emb (ix2 d k) = ix2 d k := by
  obtain ⟨-, -, -, -, -, hw, -⟩ := idx_all t
  obtain ⟨e0, e1⟩ := hw
  funext a; apply Fin.ext
  match a with
  | ⟨0, _⟩ => show win0_5.index t (0 : Fin 2) * 1024 + 1 * d.val = d.val; omega
  | ⟨1, _⟩ => show win0_5.index t (1 : Fin 2) * 640 + 1 * k.val = k.val; omega

theorem emb8 (t : Fin cfg0.N) (d : Fin 256) (k : Fin 1024) : ((cfg0.win 8).blk t).view.emb (ix2 d k) = ix2 d k := by
  obtain ⟨-, -, -, -, -, -, -, -, hw, -⟩ := idx_all t
  obtain ⟨e0, e1⟩ := hw
  funext a; apply Fin.ext
  match a with
  | ⟨0, _⟩ => show win0_8.index t (0 : Fin 2) * 256 + 1 * d.val = d.val; omega
  | ⟨1, _⟩ => show win0_8.index t (1 : Fin 2) * 1024 + 1 * k.val = k.val; omega

theorem emb9 (t : Fin cfg0.N) (d : Fin 256) (k : Fin 1024) : ((cfg0.win 9).blk t).view.emb (ix2 d k) = ix2 d k := by
  obtain ⟨-, -, -, -, -, -, -, -, -, hw, -⟩ := idx_all t
  obtain ⟨e0, e1⟩ := hw
  funext a; apply Fin.ext
  match a with
  | ⟨0, _⟩ => show win0_9.index t (0 : Fin 2) * 256 + 1 * d.val = d.val; omega
  | ⟨1, _⟩ => show win0_9.index t (1 : Fin 2) * 1024 + 1 * k.val = k.val; omega

theorem emb10 (t : Fin cfg0.N) (r : Fin 256) (k : Fin 512) : ((cfg0.win 10).blk t).view.emb (ix2 r k) = ix2 (tok (batch t) r) k := by
  obtain ⟨-, -, -, -, -, -, -, -, -, -, hw, -⟩ := idx_all t
  obtain ⟨e0, e1⟩ := hw
  funext a; apply Fin.ext
  match a with
  | ⟨0, _⟩ => show win0_10.index t (0 : Fin 2) * 256 + 1 * r.val = 256 * t.val + r.val; omega
  | ⟨1, _⟩ => show win0_10.index t (1 : Fin 2) * 512 + 1 * k.val = k.val; omega

theorem emb11 (t : Fin cfg0.N) (r : Fin 256) (k : Fin 512) : ((cfg0.win 11).blk t).view.emb (ix2 r k) = ix2 (tok (batch t) r) k := by
  obtain ⟨-, -, -, -, -, -, -, -, -, -, -, hw, -⟩ := idx_all t
  obtain ⟨e0, e1⟩ := hw
  funext a; apply Fin.ext
  match a with
  | ⟨0, _⟩ => show win0_11.index t (0 : Fin 2) * 256 + 1 * r.val = 256 * t.val + r.val; omega
  | ⟨1, _⟩ => show win0_11.index t (1 : Fin 2) * 512 + 1 * k.val = k.val; omega

theorem emb12 (t : Fin cfg0.N) (r : Fin 256) (k : Fin 512) : ((cfg0.win 12).blk t).view.emb (ix2 r k) = ix2 (tok (batch t) r) k := by
  obtain ⟨-, -, -, -, -, -, -, -, -, -, -, -, hw, -⟩ := idx_all t
  obtain ⟨e0, e1⟩ := hw
  funext a; apply Fin.ext
  match a with
  | ⟨0, _⟩ => show win0_12.index t (0 : Fin 2) * 256 + 1 * r.val = 256 * t.val + r.val; omega
  | ⟨1, _⟩ => show win0_12.index t (1 : Fin 2) * 512 + 1 * k.val = k.val; omega

theorem emb13 (t : Fin cfg0.N) (r : Fin 256) (k : Fin 512) : ((cfg0.win 13).blk t).view.emb (ix2 r k) = ix2 (tok (batch t) r) k := by
  obtain ⟨-, -, -, -, -, -, -, -, -, -, -, -, -, hw, -⟩ := idx_all t
  obtain ⟨e0, e1⟩ := hw
  funext a; apply Fin.ext
  match a with
  | ⟨0, _⟩ => show win0_13.index t (0 : Fin 2) * 256 + 1 * r.val = 256 * t.val + r.val; omega
  | ⟨1, _⟩ => show win0_13.index t (1 : Fin 2) * 512 + 1 * k.val = k.val; omega

theorem emb14 (t : Fin cfg0.N) (r : Fin 256) (k : Fin 512) : ((cfg0.win 14).blk t).view.emb (ix2 r k) = ix2 (tok (batch t) r) k := by
  obtain ⟨-, -, -, -, -, -, -, -, -, -, -, -, -, -, hw, -⟩ := idx_all t
  obtain ⟨e0, e1⟩ := hw
  funext a; apply Fin.ext
  match a with
  | ⟨0, _⟩ => show win0_14.index t (0 : Fin 2) * 256 + 1 * r.val = 256 * t.val + r.val; omega
  | ⟨1, _⟩ => show win0_14.index t (1 : Fin 2) * 512 + 1 * k.val = k.val; omega

theorem emb15 (t : Fin cfg0.N) (r : Fin 256) (k : Fin 3072) : ((cfg0.win 15).blk t).view.emb (ix2 r k) = ix2 (tok (batch t) r) k := by
  obtain ⟨-, -, -, -, -, -, -, -, -, -, -, -, -, -, -, hw, -⟩ := idx_all t
  obtain ⟨e0, e1⟩ := hw
  funext a; apply Fin.ext
  match a with
  | ⟨0, _⟩ => show win0_15.index t (0 : Fin 2) * 256 + 1 * r.val = 256 * t.val + r.val; omega
  | ⟨1, _⟩ => show win0_15.index t (1 : Fin 2) * 3072 + 1 * k.val = k.val; omega

theorem emb16 (t : Fin cfg0.N) (e : Fin 8) (r : Fin 256) (k : Fin 128) : ((cfg0.win 16).blk t).view.emb (ix4 0 e r k) = ix4 (batch t) e r k := by
  obtain ⟨-, -, -, -, -, -, -, -, -, -, -, -, -, -, -, -, hw, -⟩ := idx_all t
  obtain ⟨e0, e1, e2, e3⟩ := hw
  funext a; apply Fin.ext
  match a with
  | ⟨0, _⟩ => show win0_16.index t (0 : Fin 4) * 1 + 1 * 0 = t.val; omega
  | ⟨1, _⟩ => show win0_16.index t (1 : Fin 4) * 8 + 1 * e.val = e.val; omega
  | ⟨2, _⟩ => show win0_16.index t (2 : Fin 4) * 256 + 1 * r.val = r.val; omega
  | ⟨3, _⟩ => show win0_16.index t (3 : Fin 4) * 128 + 1 * k.val = k.val; omega

theorem emb17 (t : Fin cfg0.N) (e : Fin 8) (r : Fin 256) (k : Fin 128) : ((cfg0.win 17).blk t).view.emb (ix4 0 e r k) = ix4 (batch t) e r k := by
  obtain ⟨-, -, -, -, -, -, -, -, -, -, -, -, -, -, -, -, -, hw, -⟩ := idx_all t
  obtain ⟨e0, e1, e2, e3⟩ := hw
  funext a; apply Fin.ext
  match a with
  | ⟨0, _⟩ => show win0_17.index t (0 : Fin 4) * 1 + 1 * 0 = t.val; omega
  | ⟨1, _⟩ => show win0_17.index t (1 : Fin 4) * 8 + 1 * e.val = e.val; omega
  | ⟨2, _⟩ => show win0_17.index t (2 : Fin 4) * 256 + 1 * r.val = r.val; omega
  | ⟨3, _⟩ => show win0_17.index t (3 : Fin 4) * 128 + 1 * k.val = k.val; omega

theorem emb18 (t : Fin cfg0.N) (e : Fin 8) (r : Fin 256) : ((cfg0.win 18).blk t).view.emb (ix2 e r) = ix2 e (tok (batch t) r) := by
  obtain ⟨-, -, -, -, -, -, -, -, -, -, -, -, -, -, -, -, -, -, hw, -⟩ := idx_all t
  obtain ⟨e0, e1⟩ := hw
  funext a; apply Fin.ext
  match a with
  | ⟨0, _⟩ => show win0_18.index t (0 : Fin 2) * 8 + 1 * e.val = e.val; omega
  | ⟨1, _⟩ => show win0_18.index t (1 : Fin 2) * 256 + 1 * r.val = 256 * t.val + r.val; omega

theorem emb19 (t : Fin cfg0.N) (r : Fin 256) (k : Fin 128) : ((cfg0.win 19).blk t).view.emb (ix3 0 r k) = ix3 (batch t) r k := by
  obtain ⟨-, -, -, -, -, -, -, -, -, -, -, -, -, -, -, -, -, -, -, hw, -⟩ := idx_all t
  obtain ⟨e0, e1, e2⟩ := hw
  funext a; apply Fin.ext
  match a with
  | ⟨0, _⟩ => show win0_19.index t (0 : Fin 3) * 1 + 1 * 0 = t.val; omega
  | ⟨1, _⟩ => show win0_19.index t (1 : Fin 3) * 256 + 1 * r.val = r.val; omega
  | ⟨2, _⟩ => show win0_19.index t (2 : Fin 3) * 128 + 1 * k.val = k.val; omega

theorem emb21 (t : Fin cfg0.N) (r : Fin 256) (k : Fin 128) : ((cfg0.win 21).blk t).view.emb (ix3 0 r k) = ix3 (batch t) r k := by
  obtain ⟨-, -, -, -, -, -, -, -, -, -, -, -, -, -, -, -, -, -, -, -, -, hw⟩ := idx_all t
  obtain ⟨e0, e1, e2⟩ := hw
  funext a; apply Fin.ext
  match a with
  | ⟨0, _⟩ => show win0_21.index t (0 : Fin 3) * 1 + 1 * 0 = t.val; omega
  | ⟨1, _⟩ => show win0_21.index t (1 : Fin 3) * 256 + 1 * r.val = r.val; omega
  | ⟨2, _⟩ => show win0_21.index t (2 : Fin 3) * 128 + 1 * k.val = k.val; omega

theorem emb20 (t : Fin cfg0.N) (k : Fin 128) (r : Fin 256) : ((cfg0.win 20).blk t).view.emb (ix3 0 k r) = ix3 (batch t) k r := by
  obtain ⟨-, -, -, -, -, -, -, -, -, -, -, -, -, -, -, -, -, -, -, -, hw, -⟩ := idx_all t
  obtain ⟨e0, e1, e2⟩ := hw
  funext a; apply Fin.ext
  match a with
  | ⟨0, _⟩ => show win0_20.index t (0 : Fin 3) * 1 + 1 * 0 = t.val; omega
  | ⟨1, _⟩ => show win0_20.index t (1 : Fin 3) * 128 + 1 * k.val = k.val; omega
  | ⟨2, _⟩ => show win0_20.index t (2 : Fin 3) * 256 + 1 * r.val = r.val; omega

theorem blk0 (t : Fin cfg0.N) (r : Fin 256) (k : Fin 1024) : (iblk m c 0 t (ix2 r k) : EReal) = m ((c : Thread nD τ).loc main_arg0) (ix2 (tok (batch t) r) k) := by
  show V m c main_arg0 (((cfg0.win 0).blk t).view.emb (ix2 r k)) = _
  rw [emb0]
  rw [V_main_arg0 m c]

theorem blk1 (t : Fin cfg0.N) (k : Fin 1024) : (iblk m c 1 t (ix2 0 k) : EReal) = m ((c : Thread nD τ).loc main_arg1) (ix1 k) := by
  show V m c main_v50 (((cfg0.win 1).blk t).view.emb (ix2 0 k)) = _
  rw [emb1]
  exact V50_apply m c k

theorem blk2 (t : Fin cfg0.N) (r k : Fin 256) : (iblk m c 2 t (ix2 r k) : EReal) = cosr (tok (batch t) r) k := by
  show V m c main_v15 (((cfg0.win 2).blk t).view.emb (ix2 r k)) = _
  rw [emb2]
  exact V15_apply m c _ k

theorem blk3 (t : Fin cfg0.N) (r k : Fin 256) : (iblk m c 3 t (ix2 r k) : EReal) = sinr (tok (batch t) r) k := by
  show V m c main_v19 (((cfg0.win 3).blk t).view.emb (ix2 r k)) = _
  rw [emb3]
  exact V19_apply m c _ k

theorem blk4 (t : Fin cfg0.N) (d : Fin 1024) (k : Fin 5632) : (iblk m c 4 t (ix2 d k) : EReal) = V m c main_v33 (ix2 d k) := by
  show V m c main_v33 (((cfg0.win 4).blk t).view.emb (ix2 d k)) = _
  rw [emb4]

theorem blk5 (t : Fin cfg0.N) (d : Fin 1024) (k : Fin 640) : (iblk m c 5 t (ix2 d k) : EReal) = V m c main_v48 (ix2 d k) := by
  show V m c main_v48 (((cfg0.win 5).blk t).view.emb (ix2 d k)) = _
  rw [emb5]

theorem blk6 (t : Fin cfg0.N) (k : Fin 256) : (iblk m c 6 t (ix2 0 k) : EReal) = m ((c : Thread nD τ).loc main_arg3) (ix1 k) := by
  show V m c main_v51 (((cfg0.win 6).blk t).view.emb (ix2 0 k)) = _
  rw [emb6]
  exact V51_apply m c k

theorem blk7 (t : Fin cfg0.N) (k : Fin 128) : (iblk m c 7 t (ix2 0 k) : EReal) = m ((c : Thread nD τ).loc main_arg4) (ix1 k) := by
  show V m c main_v52 (((cfg0.win 7).blk t).view.emb (ix2 0 k)) = _
  rw [emb7]
  exact V52_apply m c k

theorem blk8 (t : Fin cfg0.N) (d : Fin 256) (k : Fin 1024) : (iblk m c 8 t (ix2 d k) : EReal) = m ((c : Thread nD τ).loc main_arg6) (ix2 d k) := by
  show V m c main_arg6 (((cfg0.win 8).blk t).view.emb (ix2 d k)) = _
  rw [emb8]
  rw [V_main_arg6 m c]

theorem blk9 (t : Fin cfg0.N) (d : Fin 256) (e : Fin 8) (l : Fin 128) : (iblk m c 9 t (ix2 d (lane e l)) : EReal) = m ((c : Thread nD τ).loc main_arg5) (ix3 d e ⟨l.val % 32, by omega⟩) := by
  show V m c main_v49 (((cfg0.win 9).blk t).view.emb (ix2 d (lane e l))) = _
  rw [emb9]
  exact V49_apply m c d e l

section Cols

variable (t : Fin cfg0.N) (r : Fin 256)

theorem colA0 (k : Fin 512) : colA (iblk m c 0 t) (iblk m c 1 t) (iblk m c 4 t) r ⟨k.val, by omega⟩ = prow (m ((c : Thread nD τ).loc main_arg0)) (m ((c : Thread nD τ).loc main_arg1)) (m ((c : Thread nD τ).loc main_arg2)) (tok (batch t) r) (headcol 0 (by omega) k) := by
  unfold colA prow lin
  refine Finset.sum_congr rfl fun d _ => ?_
  simp only [blk0, blk1, blk4]
  rw [(V33_apply m c d).1 k]

theorem colA1 (k : Fin 512) : colA (iblk m c 0 t) (iblk m c 1 t) (iblk m c 4 t) r ⟨512 + k.val, by omega⟩ = prow (m ((c : Thread nD τ).loc main_arg0)) (m ((c : Thread nD τ).loc main_arg1)) (m ((c : Thread nD τ).loc main_arg2)) (tok (batch t) r) (headcol 512 (by omega) k) := by
  unfold colA prow lin
  refine Finset.sum_congr rfl fun d _ => ?_
  simp only [blk0, blk1, blk4]
  rw [(V33_apply m c d).2.1 k]

theorem colA2 (k : Fin 512) : colA (iblk m c 0 t) (iblk m c 1 t) (iblk m c 4 t) r ⟨1024 + k.val, by omega⟩ = prow (m ((c : Thread nD τ).loc main_arg0)) (m ((c : Thread nD τ).loc main_arg1)) (m ((c : Thread nD τ).loc main_arg2)) (tok (batch t) r) (⟨1024 + k.val, by omega⟩) := by
  unfold colA prow lin
  refine Finset.sum_congr rfl fun d _ => ?_
  simp only [blk0, blk1, blk4]
  rw [(V33_apply m c d).2.2.1 k]

theorem colA3 (k : Fin 512) : colA (iblk m c 0 t) (iblk m c 1 t) (iblk m c 4 t) r ⟨1536 + k.val, by omega⟩ = prow (m ((c : Thread nD τ).loc main_arg0)) (m ((c : Thread nD τ).loc main_arg1)) (m ((c : Thread nD τ).loc main_arg2)) (tok (batch t) r) (⟨1536 + k.val, by omega⟩) := by
  unfold colA prow lin
  refine Finset.sum_congr rfl fun d _ => ?_
  simp only [blk0, blk1, blk4]
  rw [(V33_apply m c d).2.2.2.1 k]

theorem colA4 (k : Fin 512) : colA (iblk m c 0 t) (iblk m c 1 t) (iblk m c 4 t) r ⟨2048 + k.val, by omega⟩ = prow (m ((c : Thread nD τ).loc main_arg0)) (m ((c : Thread nD τ).loc main_arg1)) (m ((c : Thread nD τ).loc main_arg2)) (tok (batch t) r) (⟨2472 + k.val, by omega⟩) := by
  unfold colA prow lin
  refine Finset.sum_congr rfl fun d _ => ?_
  simp only [blk0, blk1, blk4]
  rw [(V33_apply m c d).2.2.2.2.1 k]

theorem colA5 (k : Fin 3072) : colA (iblk m c 0 t) (iblk m c 1 t) (iblk m c 4 t) r ⟨2560 + k.val, by omega⟩ = prow (m ((c : Thread nD τ).loc main_arg0)) (m ((c : Thread nD τ).loc main_arg1)) (m ((c : Thread nD τ).loc main_arg2)) (tok (batch t) r) (⟨2984 + k.val, by omega⟩) := by
  unfold colA prow lin
  refine Finset.sum_congr rfl fun d _ => ?_
  simp only [blk0, blk1, blk4]
  rw [(V33_apply m c d).2.2.2.2.2 k]

theorem colB0 (k : Fin 256) : colB (iblk m c 0 t) (iblk m c 1 t) (iblk m c 5 t) r ⟨k.val, by omega⟩ = prow (m ((c : Thread nD τ).loc main_arg0)) (m ((c : Thread nD τ).loc main_arg1)) (m ((c : Thread nD τ).loc main_arg2)) (tok (batch t) r) (⟨2048 + k.val, by omega⟩) := by
  unfold colB prow lin
  refine Finset.sum_congr rfl fun d _ => ?_
  simp only [blk0, blk1, blk5]
  rw [(V48_apply m c d).1 k]

theorem colB1 (k : Fin 128) : colB (iblk m c 0 t) (iblk m c 1 t) (iblk m c 5 t) r ⟨256 + k.val, by omega⟩ = prow (m ((c : Thread nD τ).loc main_arg0)) (m ((c : Thread nD τ).loc main_arg1)) (m ((c : Thread nD τ).loc main_arg2)) (tok (batch t) r) (⟨2304 + k.val, by omega⟩) := by
  unfold colB prow lin
  refine Finset.sum_congr rfl fun d _ => ?_
  simp only [blk0, blk1, blk5]
  rw [(V48_apply m c d).2.1 k]

theorem colB2 (k : Fin 128) : colB (iblk m c 0 t) (iblk m c 1 t) (iblk m c 5 t) r ⟨384 + k.val, by omega⟩ = prow (m ((c : Thread nD τ).loc main_arg0)) (m ((c : Thread nD τ).loc main_arg1)) (m ((c : Thread nD τ).loc main_arg2)) (tok (batch t) r) (⟨2432 + k.val % 32, by omega⟩) := by
  unfold colB prow lin
  refine Finset.sum_congr rfl fun d _ => ?_
  simp only [blk0, blk1, blk5]
  rw [(V48_apply m c d).2.2.1 k]

theorem colB3 (k : Fin 8) : colB (iblk m c 0 t) (iblk m c 1 t) (iblk m c 5 t) r ⟨512 + k.val, by omega⟩ = prow (m ((c : Thread nD τ).loc main_arg0)) (m ((c : Thread nD τ).loc main_arg1)) (m ((c : Thread nD τ).loc main_arg2)) (tok (batch t) r) (⟨2464 + k.val, by omega⟩) := by
  unfold colB prow lin
  refine Finset.sum_congr rfl fun d _ => ?_
  simp only [blk0, blk1, blk5]
  rw [(V48_apply m c d).2.2.2 k]

theorem rowQ_eq (k : Fin 256) : rowQ (iblk m c 0 t) (iblk m c 1 t) (iblk m c 5 t) (iblk m c 6 t) r k = cq (m ((c : Thread nD τ).loc main_arg0)) (m ((c : Thread nD τ).loc main_arg1)) (m ((c : Thread nD τ).loc main_arg2)) (m ((c : Thread nD τ).loc main_arg3)) (tok (batch t) r) k := by
  unfold rowQ cq
  simp only [colB0, blk6]

theorem rowK_eq (k : Fin 128) : rowK (iblk m c 0 t) (iblk m c 1 t) (iblk m c 5 t) (iblk m c 7 t) r k = ck (m ((c : Thread nD τ).loc main_arg0)) (m ((c : Thread nD τ).loc main_arg1)) (m ((c : Thread nD τ).loc main_arg2)) (m ((c : Thread nD τ).loc main_arg4)) (tok (batch t) r) k := by
  unfold rowK ck
  simp only [colB1, blk7]

theorem linQ_eq (e : Fin 8) (l : Fin 128) :
    lin (rowQ (iblk m c 0 t) (iblk m c 1 t) (iblk m c 5 t) (iblk m c 6 t) r) (fun k j => iblk m c 9 t (ix2 k j)) (lane e l)
      = iq (m ((c : Thread nD τ).loc main_arg0)) (m ((c : Thread nD τ).loc main_arg1)) (m ((c : Thread nD τ).loc main_arg2)) (m ((c : Thread nD τ).loc main_arg3)) (m ((c : Thread nD τ).loc main_arg5)) (tok (batch t) r) e l := by
  unfold lin iq
  simp only [rowQ_eq, blk9]

theorem qix_eq (e : Fin 8) (l : Fin 128) :
    qix (iblk m c 0 t) (iblk m c 1 t) (iblk m c 5 t) (iblk m c 6 t) (iblk m c 9 t) r (lane e l)
      = if l.val < 64 then iq (m ((c : Thread nD τ).loc main_arg0)) (m ((c : Thread nD τ).loc main_arg1)) (m ((c : Thread nD τ).loc main_arg2)) (m ((c : Thread nD τ).loc main_arg3)) (m ((c : Thread nD τ).loc main_arg5)) (tok (batch t) r) e l
        else iq (m ((c : Thread nD τ).loc main_arg0)) (m ((c : Thread nD τ).loc main_arg1)) (m ((c : Thread nD τ).loc main_arg2)) (m ((c : Thread nD τ).loc main_arg3)) (m ((c : Thread nD τ).loc main_arg5)) (tok (batch t) r) e l - iq (m ((c : Thread nD τ).loc main_arg0)) (m ((c : Thread nD τ).loc main_arg1)) (m ((c : Thread nD τ).loc main_arg2)) (m ((c : Thread nD τ).loc main_arg3)) (m ((c : Thread nD τ).loc main_arg5)) (tok (batch t) r) e l := by
  have h : (lane e l).val % 128 = l.val := by show (128 * e.val + l.val) % 128 = l.val; omega
  unfold qix
  rw [h, linQ_eq]

theorem kix_eq (l : Fin 128) :
    kix (iblk m c 0 t) (iblk m c 1 t) (iblk m c 5 t) r l
      = if l.val / 32 % 2 = 0 then ik (m ((c : Thread nD τ).loc main_arg0)) (m ((c : Thread nD τ).loc main_arg1)) (m ((c : Thread nD τ).loc main_arg2)) (tok (batch t) r) l else ik (m ((c : Thread nD τ).loc main_arg0)) (m ((c : Thread nD τ).loc main_arg1)) (m ((c : Thread nD τ).loc main_arg2)) (tok (batch t) r) l - ik (m ((c : Thread nD τ).loc main_arg0)) (m ((c : Thread nD τ).loc main_arg1)) (m ((c : Thread nD τ).loc main_arg2)) (tok (batch t) r) l := by
  unfold kix ik
  rw [colB2]

end Cols

abbrev f10 : FVec Ideal S65536x512 .bf16 := o10 (m ((c : Thread nD τ).loc main_arg0)) (m ((c : Thread nD τ).loc main_arg1)) (m ((c : Thread nD τ).loc main_arg2))

theorem flushed10_eq (t : Fin cfg0.N) : (dats m 0 c).flushed 10 t = ((cfg0.win 10).blk t).view.read (Elt Ideal) (f10 m c) := by
  rw [Value.flushed10]
  funext j
  obtain ⟨r, k, rfl⟩ : ∃ (r : Fin 256) (k : Fin 512), j = ix2 r k := ⟨j 0, j 1, eq_ix2 j⟩
  show out0_10 (iblk m c 0 t) (iblk m c 1 t) (iblk m c 2 t) (iblk m c 3 t) (iblk m c 4 t) (iblk m c 5 t) (iblk m c 6 t) (iblk m c 7 t) (iblk m c 8 t) (iblk m c 9 t) (ix2 r k) = f10 m c (((cfg0.win 10).blk t).view.emb (ix2 r k))
  rw [emb10]
  refine (out10_apply _ _ _ _ _ _ _ _ _ _ r k).trans ?_
  simp only [colA0, blk2, blk3]
  rfl

theorem covered10 (i : S65536x512.Idx) : ∃ t : Fin cfg0.N, (cfg0.win 10).flush t = true ∧ i ∈ ((cfg0.win 10).blk t).view.set := by
  obtain ⟨n, k, rfl⟩ : ∃ (n : Fin 65536) (k : Fin 512), i = ix2 n k := ⟨i 0, i 1, eq_ix2 i⟩
  let t : Fin cfg0.N := ⟨n.val / 256, by rw [show cfg0.N = 256 from N_0]; omega⟩
  have e : ix2 (tok (batch t) ⟨n.val % 256, by omega⟩) k = ix2 n k := congrArg (ix2 · k) (Fin.ext (by show 256 * (n.val / 256) + n.val % 256 = n.val; omega))
  exact ⟨t, flush0_10 _, ((emb10 t ⟨n.val % 256, by omega⟩ k).trans e : _ = ix2 n k) ▸ ((cfg0.win 10).blk t).view.emb_mem_set (ix2 ⟨n.val % 256, by omega⟩ k)⟩

theorem final10 : (dats m 0 c).arrAt 10 cfg0.N = f10 m c :=
  (dats m 0 c).arrAt_eq_of_cover 10 (f10 m c) (fun t _ => flushed10_eq m c t) covered10

abbrev f11 : FVec Ideal S65536x512 .bf16 := o11 (m ((c : Thread nD τ).loc main_arg0)) (m ((c : Thread nD τ).loc main_arg1)) (m ((c : Thread nD τ).loc main_arg2))

theorem flushed11_eq (t : Fin cfg0.N) : (dats m 0 c).flushed 11 t = ((cfg0.win 11).blk t).view.read (Elt Ideal) (f11 m c) := by
  rw [Value.flushed11]
  funext j
  obtain ⟨r, k, rfl⟩ : ∃ (r : Fin 256) (k : Fin 512), j = ix2 r k := ⟨j 0, j 1, eq_ix2 j⟩
  show out0_11 (iblk m c 0 t) (iblk m c 1 t) (iblk m c 2 t) (iblk m c 3 t) (iblk m c 4 t) (iblk m c 5 t) (iblk m c 6 t) (iblk m c 7 t) (iblk m c 8 t) (iblk m c 9 t) (ix2 r k) = f11 m c (((cfg0.win 11).blk t).view.emb (ix2 r k))
  rw [emb11]
  refine (out11_apply _ _ _ _ _ _ _ _ _ _ r k).trans ?_
  simp only [colA1, blk2, blk3]
  rfl

theorem covered11 (i : S65536x512.Idx) : ∃ t : Fin cfg0.N, (cfg0.win 11).flush t = true ∧ i ∈ ((cfg0.win 11).blk t).view.set := by
  obtain ⟨n, k, rfl⟩ : ∃ (n : Fin 65536) (k : Fin 512), i = ix2 n k := ⟨i 0, i 1, eq_ix2 i⟩
  let t : Fin cfg0.N := ⟨n.val / 256, by rw [show cfg0.N = 256 from N_0]; omega⟩
  have e : ix2 (tok (batch t) ⟨n.val % 256, by omega⟩) k = ix2 n k := congrArg (ix2 · k) (Fin.ext (by show 256 * (n.val / 256) + n.val % 256 = n.val; omega))
  exact ⟨t, flush0_11 _, ((emb11 t ⟨n.val % 256, by omega⟩ k).trans e : _ = ix2 n k) ▸ ((cfg0.win 11).blk t).view.emb_mem_set (ix2 ⟨n.val % 256, by omega⟩ k)⟩

theorem final11 : (dats m 0 c).arrAt 11 cfg0.N = f11 m c :=
  (dats m 0 c).arrAt_eq_of_cover 11 (f11 m c) (fun t _ => flushed11_eq m c t) covered11

abbrev f12 : FVec Ideal S65536x512 .bf16 := o12 (m ((c : Thread nD τ).loc main_arg0)) (m ((c : Thread nD τ).loc main_arg1)) (m ((c : Thread nD τ).loc main_arg2))

theorem flushed12_eq (t : Fin cfg0.N) : (dats m 0 c).flushed 12 t = ((cfg0.win 12).blk t).view.read (Elt Ideal) (f12 m c) := by
  rw [Value.flushed12]
  funext j
  obtain ⟨r, k, rfl⟩ : ∃ (r : Fin 256) (k : Fin 512), j = ix2 r k := ⟨j 0, j 1, eq_ix2 j⟩
  show out0_12 (iblk m c 0 t) (iblk m c 1 t) (iblk m c 2 t) (iblk m c 3 t) (iblk m c 4 t) (iblk m c 5 t) (iblk m c 6 t) (iblk m c 7 t) (iblk m c 8 t) (iblk m c 9 t) (ix2 r k) = f12 m c (((cfg0.win 12).blk t).view.emb (ix2 r k))
  rw [emb12]
  refine (out12_apply _ _ _ _ _ _ _ _ _ _ r k).trans ?_
  rw [colA2]
  rfl

theorem covered12 (i : S65536x512.Idx) : ∃ t : Fin cfg0.N, (cfg0.win 12).flush t = true ∧ i ∈ ((cfg0.win 12).blk t).view.set := by
  obtain ⟨n, k, rfl⟩ : ∃ (n : Fin 65536) (k : Fin 512), i = ix2 n k := ⟨i 0, i 1, eq_ix2 i⟩
  let t : Fin cfg0.N := ⟨n.val / 256, by rw [show cfg0.N = 256 from N_0]; omega⟩
  have e : ix2 (tok (batch t) ⟨n.val % 256, by omega⟩) k = ix2 n k := congrArg (ix2 · k) (Fin.ext (by show 256 * (n.val / 256) + n.val % 256 = n.val; omega))
  exact ⟨t, flush0_12 _, ((emb12 t ⟨n.val % 256, by omega⟩ k).trans e : _ = ix2 n k) ▸ ((cfg0.win 12).blk t).view.emb_mem_set (ix2 ⟨n.val % 256, by omega⟩ k)⟩

theorem final12 : (dats m 0 c).arrAt 12 cfg0.N = f12 m c :=
  (dats m 0 c).arrAt_eq_of_cover 12 (f12 m c) (fun t _ => flushed12_eq m c t) covered12

abbrev f13 : FVec Ideal S65536x512 .bf16 := o13 (m ((c : Thread nD τ).loc main_arg0)) (m ((c : Thread nD τ).loc main_arg1)) (m ((c : Thread nD τ).loc main_arg2))

theorem flushed13_eq (t : Fin cfg0.N) : (dats m 0 c).flushed 13 t = ((cfg0.win 13).blk t).view.read (Elt Ideal) (f13 m c) := by
  rw [Value.flushed13]
  funext j
  obtain ⟨r, k, rfl⟩ : ∃ (r : Fin 256) (k : Fin 512), j = ix2 r k := ⟨j 0, j 1, eq_ix2 j⟩
  show out0_13 (iblk m c 0 t) (iblk m c 1 t) (iblk m c 2 t) (iblk m c 3 t) (iblk m c 4 t) (iblk m c 5 t) (iblk m c 6 t) (iblk m c 7 t) (iblk m c 8 t) (iblk m c 9 t) (ix2 r k) = f13 m c (((cfg0.win 13).blk t).view.emb (ix2 r k))
  rw [emb13]
  refine (out13_apply _ _ _ _ _ _ _ _ _ _ r k).trans ?_
  rw [colA3]
  rfl

theorem covered13 (i : S65536x512.Idx) : ∃ t : Fin cfg0.N, (cfg0.win 13).flush t = true ∧ i ∈ ((cfg0.win 13).blk t).view.set := by
  obtain ⟨n, k, rfl⟩ : ∃ (n : Fin 65536) (k : Fin 512), i = ix2 n k := ⟨i 0, i 1, eq_ix2 i⟩
  let t : Fin cfg0.N := ⟨n.val / 256, by rw [show cfg0.N = 256 from N_0]; omega⟩
  have e : ix2 (tok (batch t) ⟨n.val % 256, by omega⟩) k = ix2 n k := congrArg (ix2 · k) (Fin.ext (by show 256 * (n.val / 256) + n.val % 256 = n.val; omega))
  exact ⟨t, flush0_13 _, ((emb13 t ⟨n.val % 256, by omega⟩ k).trans e : _ = ix2 n k) ▸ ((cfg0.win 13).blk t).view.emb_mem_set (ix2 ⟨n.val % 256, by omega⟩ k)⟩

theorem final13 : (dats m 0 c).arrAt 13 cfg0.N = f13 m c :=
  (dats m 0 c).arrAt_eq_of_cover 13 (f13 m c) (fun t _ => flushed13_eq m c t) covered13

abbrev f14 : FVec Ideal S65536x512 .bf16 := o14 (m ((c : Thread nD τ).loc main_arg0)) (m ((c : Thread nD τ).loc main_arg1)) (m ((c : Thread nD τ).loc main_arg2))

theorem flushed14_eq (t : Fin cfg0.N) : (dats m 0 c).flushed 14 t = ((cfg0.win 14).blk t).view.read (Elt Ideal) (f14 m c) := by
  rw [Value.flushed14]
  funext j
  obtain ⟨r, k, rfl⟩ : ∃ (r : Fin 256) (k : Fin 512), j = ix2 r k := ⟨j 0, j 1, eq_ix2 j⟩
  show out0_14 (iblk m c 0 t) (iblk m c 1 t) (iblk m c 2 t) (iblk m c 3 t) (iblk m c 4 t) (iblk m c 5 t) (iblk m c 6 t) (iblk m c 7 t) (iblk m c 8 t) (iblk m c 9 t) (ix2 r k) = f14 m c (((cfg0.win 14).blk t).view.emb (ix2 r k))
  rw [emb14]
  refine (out14_apply _ _ _ _ _ _ _ _ _ _ r k).trans ?_
  rw [colA4]
  rfl

theorem covered14 (i : S65536x512.Idx) : ∃ t : Fin cfg0.N, (cfg0.win 14).flush t = true ∧ i ∈ ((cfg0.win 14).blk t).view.set := by
  obtain ⟨n, k, rfl⟩ : ∃ (n : Fin 65536) (k : Fin 512), i = ix2 n k := ⟨i 0, i 1, eq_ix2 i⟩
  let t : Fin cfg0.N := ⟨n.val / 256, by rw [show cfg0.N = 256 from N_0]; omega⟩
  have e : ix2 (tok (batch t) ⟨n.val % 256, by omega⟩) k = ix2 n k := congrArg (ix2 · k) (Fin.ext (by show 256 * (n.val / 256) + n.val % 256 = n.val; omega))
  exact ⟨t, flush0_14 _, ((emb14 t ⟨n.val % 256, by omega⟩ k).trans e : _ = ix2 n k) ▸ ((cfg0.win 14).blk t).view.emb_mem_set (ix2 ⟨n.val % 256, by omega⟩ k)⟩

theorem final14 : (dats m 0 c).arrAt 14 cfg0.N = f14 m c :=
  (dats m 0 c).arrAt_eq_of_cover 14 (f14 m c) (fun t _ => flushed14_eq m c t) covered14

abbrev f15 : FVec Ideal S65536x3072 .bf16 := o15 (m ((c : Thread nD τ).loc main_arg0)) (m ((c : Thread nD τ).loc main_arg1)) (m ((c : Thread nD τ).loc main_arg2))

theorem flushed15_eq (t : Fin cfg0.N) : (dats m 0 c).flushed 15 t = ((cfg0.win 15).blk t).view.read (Elt Ideal) (f15 m c) := by
  rw [Value.flushed15]
  funext j
  obtain ⟨r, k, rfl⟩ : ∃ (r : Fin 256) (k : Fin 3072), j = ix2 r k := ⟨j 0, j 1, eq_ix2 j⟩
  show out0_15 (iblk m c 0 t) (iblk m c 1 t) (iblk m c 2 t) (iblk m c 3 t) (iblk m c 4 t) (iblk m c 5 t) (iblk m c 6 t) (iblk m c 7 t) (iblk m c 8 t) (iblk m c 9 t) (ix2 r k) = f15 m c (((cfg0.win 15).blk t).view.emb (ix2 r k))
  rw [emb15]
  refine (out15_apply _ _ _ _ _ _ _ _ _ _ r k).trans ?_
  rw [colA5]
  rfl

theorem covered15 (i : S65536x3072.Idx) : ∃ t : Fin cfg0.N, (cfg0.win 15).flush t = true ∧ i ∈ ((cfg0.win 15).blk t).view.set := by
  obtain ⟨n, k, rfl⟩ : ∃ (n : Fin 65536) (k : Fin 3072), i = ix2 n k := ⟨i 0, i 1, eq_ix2 i⟩
  let t : Fin cfg0.N := ⟨n.val / 256, by rw [show cfg0.N = 256 from N_0]; omega⟩
  have e : ix2 (tok (batch t) ⟨n.val % 256, by omega⟩) k = ix2 n k := congrArg (ix2 · k) (Fin.ext (by show 256 * (n.val / 256) + n.val % 256 = n.val; omega))
  exact ⟨t, flush0_15 _, ((emb15 t ⟨n.val % 256, by omega⟩ k).trans e : _ = ix2 n k) ▸ ((cfg0.win 15).blk t).view.emb_mem_set (ix2 ⟨n.val % 256, by omega⟩ k)⟩

theorem final15 : (dats m 0 c).arrAt 15 cfg0.N = f15 m c :=
  (dats m 0 c).arrAt_eq_of_cover 15 (f15 m c) (fun t _ => flushed15_eq m c t) covered15

abbrev f16 : FVec Ideal S256x8x256x128 .bf16 := o16 (m ((c : Thread nD τ).loc main_arg0)) (m ((c : Thread nD τ).loc main_arg1)) (m ((c : Thread nD τ).loc main_arg2)) (m ((c : Thread nD τ).loc main_arg3)) (m ((c : Thread nD τ).loc main_arg6))

theorem ex_head (j : S1x8x256x128.Idx) : ∃ (e : Fin 8) (r : Fin 256) (k : Fin 128), j = ix4 0 e r k := by
  refine ⟨j 1, j 2, j 3, (eq_ix4 j).trans ?_⟩
  congr 1
  exact Fin.ext (Nat.lt_one_iff.mp (j 0).isLt)

theorem flushed16_eq (t : Fin cfg0.N) : (dats m 0 c).flushed 16 t = ((cfg0.win 16).blk t).view.read (Elt Ideal) (f16 m c) := by
  rw [Value.flushed16]
  funext j
  obtain ⟨e, r, k, rfl⟩ := ex_head j
  show out0_16 (iblk m c 0 t) (iblk m c 1 t) (iblk m c 2 t) (iblk m c 3 t) (iblk m c 4 t) (iblk m c 5 t) (iblk m c 6 t) (iblk m c 7 t) (iblk m c 8 t) (iblk m c 9 t) (ix4 0 e r k) = f16 m c (((cfg0.win 16).blk t).view.emb (ix4 0 e r k))
  rw [emb16]
  refine (out16_apply _ _ _ _ _ _ _ _ _ _ e r k).trans ?_
  unfold lin
  simp only [rowQ_eq, blk8]
  rfl

theorem covered16 (i : S256x8x256x128.Idx) : ∃ t : Fin cfg0.N, (cfg0.win 16).flush t = true ∧ i ∈ ((cfg0.win 16).blk t).view.set := by
  obtain ⟨a, e, r, k, rfl⟩ : ∃ (a : Fin 256) (e : Fin 8) (r : Fin 256) (k : Fin 128), i = ix4 a e r k := ⟨i 0, i 1, i 2, i 3, eq_ix4 i⟩
  let t : Fin cfg0.N := ⟨a.val, by rw [show cfg0.N = 256 from N_0]; omega⟩
  exact ⟨t, flush0_16 _, (emb16 t e r k : _ = ix4 a e r k) ▸ ((cfg0.win 16).blk t).view.emb_mem_set (ix4 0 e r k)⟩

theorem final16 : (dats m 0 c).arrAt 16 cfg0.N = f16 m c :=
  (dats m 0 c).arrAt_eq_of_cover 16 (f16 m c) (fun t _ => flushed16_eq m c t) covered16

abbrev f17 : FVec Ideal S256x8x256x128 .bf16 := o17 (m ((c : Thread nD τ).loc main_arg0)) (m ((c : Thread nD τ).loc main_arg1)) (m ((c : Thread nD τ).loc main_arg2)) (m ((c : Thread nD τ).loc main_arg3)) (m ((c : Thread nD τ).loc main_arg5))

theorem flushed17_eq (t : Fin cfg0.N) : (dats m 0 c).flushed 17 t = ((cfg0.win 17).blk t).view.read (Elt Ideal) (f17 m c) := by
  rw [Value.flushed17]
  funext j
  obtain ⟨e, r, k, rfl⟩ := ex_head j
  show out0_17 (iblk m c 0 t) (iblk m c 1 t) (iblk m c 2 t) (iblk m c 3 t) (iblk m c 4 t) (iblk m c 5 t) (iblk m c 6 t) (iblk m c 7 t) (iblk m c 8 t) (iblk m c 9 t) (ix4 0 e r k) = f17 m c (((cfg0.win 17).blk t).view.emb (ix4 0 e r k))
  rw [emb17]
  refine (out17_apply _ _ _ _ _ _ _ _ _ _ e r k).trans ?_
  rw [qix_eq]
  rfl

theorem covered17 (i : S256x8x256x128.Idx) : ∃ t : Fin cfg0.N, (cfg0.win 17).flush t = true ∧ i ∈ ((cfg0.win 17).blk t).view.set := by
  obtain ⟨a, e, r, k, rfl⟩ : ∃ (a : Fin 256) (e : Fin 8) (r : Fin 256) (k : Fin 128), i = ix4 a e r k := ⟨i 0, i 1, i 2, i 3, eq_ix4 i⟩
  let t : Fin cfg0.N := ⟨a.val, by rw [show cfg0.N = 256 from N_0]; omega⟩
  exact ⟨t, flush0_17 _, (emb17 t e r k : _ = ix4 a e r k) ▸ ((cfg0.win 17).blk t).view.emb_mem_set (ix4 0 e r k)⟩

theorem final17 : (dats m 0 c).arrAt 17 cfg0.N = f17 m c :=
  (dats m 0 c).arrAt_eq_of_cover 17 (f17 m c) (fun t _ => flushed17_eq m c t) covered17

abbrev f18 : FVec Ideal S8x65536 .f32 := o18 (m ((c : Thread nD τ).loc main_arg0)) (m ((c : Thread nD τ).loc main_arg1)) (m ((c : Thread nD τ).loc main_arg2))

theorem flushed18_eq (t : Fin cfg0.N) : (dats m 0 c).flushed 18 t = ((cfg0.win 18).blk t).view.read (Elt Ideal) (f18 m c) := by
  rw [Value.flushed18]
  funext j
  obtain ⟨e, r, rfl⟩ : ∃ (e : Fin 8) (r : Fin 256), j = ix2 e r := ⟨j 0, j 1, eq_ix2 j⟩
  show out0_18 (iblk m c 0 t) (iblk m c 1 t) (iblk m c 2 t) (iblk m c 3 t) (iblk m c 4 t) (iblk m c 5 t) (iblk m c 6 t) (iblk m c 7 t) (iblk m c 8 t) (iblk m c 9 t) (ix2 e r) = f18 m c (((cfg0.win 18).blk t).view.emb (ix2 e r))
  rw [emb18]
  refine (out18_apply _ _ _ _ _ _ _ _ _ _ e r).trans ?_
  rw [colB3]
  rfl

theorem covered18 (i : S8x65536.Idx) : ∃ t : Fin cfg0.N, (cfg0.win 18).flush t = true ∧ i ∈ ((cfg0.win 18).blk t).view.set := by
  obtain ⟨k, n, rfl⟩ : ∃ (k : Fin 8) (n : Fin 65536), i = ix2 k n := ⟨i 0, i 1, eq_ix2 i⟩
  let t : Fin cfg0.N := ⟨n.val / 256, by rw [show cfg0.N = 256 from N_0]; omega⟩
  have e : ix2 k (tok (batch t) ⟨n.val % 256, by omega⟩) = ix2 k n := congrArg (ix2 k ·) (Fin.ext (by show 256 * (n.val / 256) + n.val % 256 = n.val; omega))
  exact ⟨t, flush0_18 _, ((emb18 t k ⟨n.val % 256, by omega⟩).trans e : _ = ix2 k n) ▸ ((cfg0.win 18).blk t).view.emb_mem_set (ix2 k ⟨n.val % 256, by omega⟩)⟩

theorem final18 : (dats m 0 c).arrAt 18 cfg0.N = f18 m c :=
  (dats m 0 c).arrAt_eq_of_cover 18 (f18 m c) (fun t _ => flushed18_eq m c t) covered18

abbrev f19 : FVec Ideal S256x256x128 .bf16 := o19 (m ((c : Thread nD τ).loc main_arg0)) (m ((c : Thread nD τ).loc main_arg1)) (m ((c : Thread nD τ).loc main_arg2)) (m ((c : Thread nD τ).loc main_arg4))

theorem ex_rk (j : S1x256x128.Idx) : ∃ (r : Fin 256) (k : Fin 128), j = ix3 0 r k := by
  refine ⟨j 1, j 2, (eq_ix3 j).trans ?_⟩
  congr 1
  exact Fin.ext (Nat.lt_one_iff.mp (j 0).isLt)

theorem ex_kr (j : S1x128x256.Idx) : ∃ (k : Fin 128) (r : Fin 256), j = ix3 0 k r := by
  refine ⟨j 1, j 2, (eq_ix3 j).trans ?_⟩
  congr 1
  exact Fin.ext (Nat.lt_one_iff.mp (j 0).isLt)

theorem flushed19_eq (t : Fin cfg0.N) : (dats m 0 c).flushed 19 t = ((cfg0.win 19).blk t).view.read (Elt Ideal) (f19 m c) := by
  rw [Value.flushed19]
  funext j
  obtain ⟨r, k, rfl⟩ := ex_rk j
  show out0_19 (iblk m c 0 t) (iblk m c 1 t) (iblk m c 2 t) (iblk m c 3 t) (iblk m c 4 t) (iblk m c 5 t) (iblk m c 6 t) (iblk m c 7 t) (iblk m c 8 t) (iblk m c 9 t) (ix3 0 r k) = f19 m c (((cfg0.win 19).blk t).view.emb (ix3 0 r k))
  rw [emb19]
  refine (out19_apply _ _ _ _ _ _ _ _ _ _ r k).trans ?_
  rw [rowK_eq]
  rfl

theorem covered19 (i : S256x256x128.Idx) : ∃ t : Fin cfg0.N, (cfg0.win 19).flush t = true ∧ i ∈ ((cfg0.win 19).blk t).view.set := by
  obtain ⟨a, r, k, rfl⟩ : ∃ (a : Fin 256) (r : Fin 256) (k : Fin 128), i = ix3 a r k := ⟨i 0, i 1, i 2, eq_ix3 i⟩
  let t : Fin cfg0.N := ⟨a.val, by rw [show cfg0.N = 256 from N_0]; omega⟩
  exact ⟨t, flush0_19 _, (emb19 t r k : _ = ix3 a r k) ▸ ((cfg0.win 19).blk t).view.emb_mem_set (ix3 0 r k)⟩

theorem final19 : (dats m 0 c).arrAt 19 cfg0.N = f19 m c :=
  (dats m 0 c).arrAt_eq_of_cover 19 (f19 m c) (fun t _ => flushed19_eq m c t) covered19

abbrev f20 : FVec Ideal S256x128x256 .bf16 := o20 (m ((c : Thread nD τ).loc main_arg0)) (m ((c : Thread nD τ).loc main_arg1)) (m ((c : Thread nD τ).loc main_arg2)) (m ((c : Thread nD τ).loc main_arg4))

theorem flushed20_eq (t : Fin cfg0.N) : (dats m 0 c).flushed 20 t = ((cfg0.win 20).blk t).view.read (Elt Ideal) (f20 m c) := by
  rw [Value.flushed20]
  funext j
  obtain ⟨k, r, rfl⟩ := ex_kr j
  show out0_20 (iblk m c 0 t) (iblk m c 1 t) (iblk m c 2 t) (iblk m c 3 t) (iblk m c 4 t) (iblk m c 5 t) (iblk m c 6 t) (iblk m c 7 t) (iblk m c 8 t) (iblk m c 9 t) (ix3 0 k r) = f20 m c (((cfg0.win 20).blk t).view.emb (ix3 0 k r))
  rw [emb20]
  refine (out20_apply _ _ _ _ _ _ _ _ _ _ r k).trans ?_
  rw [rowK_eq]
  rfl

theorem covered20 (i : S256x128x256.Idx) : ∃ t : Fin cfg0.N, (cfg0.win 20).flush t = true ∧ i ∈ ((cfg0.win 20).blk t).view.set := by
  obtain ⟨a, k, r, rfl⟩ : ∃ (a : Fin 256) (k : Fin 128) (r : Fin 256), i = ix3 a k r := ⟨i 0, i 1, i 2, eq_ix3 i⟩
  let t : Fin cfg0.N := ⟨a.val, by rw [show cfg0.N = 256 from N_0]; omega⟩
  exact ⟨t, flush0_20 _, (emb20 t k r : _ = ix3 a k r) ▸ ((cfg0.win 20).blk t).view.emb_mem_set (ix3 0 k r)⟩

theorem final20 : (dats m 0 c).arrAt 20 cfg0.N = f20 m c :=
  (dats m 0 c).arrAt_eq_of_cover 20 (f20 m c) (fun t _ => flushed20_eq m c t) covered20

abbrev f21 : FVec Ideal S256x256x128 .bf16 := o21 (m ((c : Thread nD τ).loc main_arg0)) (m ((c : Thread nD τ).loc main_arg1)) (m ((c : Thread nD τ).loc main_arg2))

theorem flushed21_eq (t : Fin cfg0.N) : (dats m 0 c).flushed 21 t = ((cfg0.win 21).blk t).view.read (Elt Ideal) (f21 m c) := by
  rw [Value.flushed21]
  funext j
  obtain ⟨r, k, rfl⟩ := ex_rk j
  show out0_21 (iblk m c 0 t) (iblk m c 1 t) (iblk m c 2 t) (iblk m c 3 t) (iblk m c 4 t) (iblk m c 5 t) (iblk m c 6 t) (iblk m c 7 t) (iblk m c 8 t) (iblk m c 9 t) (ix3 0 r k) = f21 m c (((cfg0.win 21).blk t).view.emb (ix3 0 r k))
  rw [emb21]
  refine (out21_apply _ _ _ _ _ _ _ _ _ _ r k).trans ?_
  rw [kix_eq]
  rfl

theorem covered21 (i : S256x256x128.Idx) : ∃ t : Fin cfg0.N, (cfg0.win 21).flush t = true ∧ i ∈ ((cfg0.win 21).blk t).view.set := by
  obtain ⟨a, r, k, rfl⟩ : ∃ (a : Fin 256) (r : Fin 256) (k : Fin 128), i = ix3 a r k := ⟨i 0, i 1, i 2, eq_ix3 i⟩
  let t : Fin cfg0.N := ⟨a.val, by rw [show cfg0.N = 256 from N_0]; omega⟩
  exact ⟨t, flush0_21 _, (emb21 t r k : _ = ix3 a r k) ▸ ((cfg0.win 21).blk t).view.emb_mem_set (ix3 0 r k)⟩

theorem final21 : (dats m 0 c).arrAt 21 cfg0.N = f21 m c :=
  (dats m 0 c).arrAt_eq_of_cover 21 (f21 m c) (fun t _ => flushed21_eq m c t) covered21

end Cert.InIdeal.Spec
end
-- ==== Proof.InRef.lean ====
/- The plain input projection computes the same arrays. -/
module

public import proofs.«01_k».proof.Proof.InBlock
public import proofs.«01_k».proof.Proof.Gen.InRefIdeal.Read

@[expose] public section

noncomputable section

namespace Cert.InRefIdeal.Spec

open scoped BigOperators
open Idealize.ShloMosaic Cert.InRefIdeal Cert.InRefIdeal.Gen Cert.InRefIdeal.Read Cert.Proof.Mlp Cert.Proof.In
open Cert.InIdeal.Spec (prow cosr sinr cq ck iq ik tok lane o10 o11 o12 o13 o14 o15 o16 o17 o18 o19 o20 o21)

set_option maxRecDepth 16384

variable (x0 : FVec Ideal S65536x1024 .f32) (x1 : FVec Ideal S1024 .f32) (x2 : FVec Ideal S1024x6056 .f32) (x3 : FVec Ideal S256 .f32)
  (x4 : FVec Ideal S128 .f32) (x5 : FVec Ideal S256x8x32 .f32) (x6 : FVec Ideal S256x1024 .bf16)

theorem v13_apply (n : Fin 65536) (c : Fin 1024) :
    (val_main_v13 (F := Ideal) x0 x1 (ix2 n c) : EReal) = rms (fun k => x0 (ix2 n k)) (fun k => x1 (ix1 k)) c := by
  unfold val_main_v13 val_main_v10 val_main_v9 val_main_v8 val_main_v7 val_main_v6 val_main_v5 val_main_v4 val_main_v3 val_main_v2 val_main_v1 val_main_v12 val_main_v11
    val_main_cst val_main_cst_0 val_main_cst_1
  pointwise [rms]

theorem v14_apply (n : Fin 65536) (j : Fin 6056) : (val_main_v14 (F := Ideal) x0 x1 x2 (ix2 n j) : EReal) = prow x0 x1 x2 n j := by
  unfold val_main_v14
  pointwise
  simp only [v13_apply, prow, lin]

/-- The token at position `p` of batch entry `b`. -/
def bp (b : Fin 16) (p : Fin 4096) : Fin 65536 := ⟨4096 * b.val + p.val, by omega⟩

theorem v15_apply (n : Fin 65536) (k : Fin 512) : (val_main_v15 (F := Ideal) x0 x1 x2 (ix2 n k) : EReal) = prow x0 x1 x2 n ⟨0 + k.val, by omega⟩ := by
  unfold val_main_v15
  pointwise
  rw [v14_apply]

theorem v16_apply (n : Fin 65536) (k : Fin 512) : (val_main_v16 (F := Ideal) x0 x1 x2 (ix2 n k) : EReal) = prow x0 x1 x2 n ⟨512 + k.val, by omega⟩ := by
  unfold val_main_v16
  pointwise
  rw [v14_apply]

theorem v17_apply (n : Fin 65536) (k : Fin 512) : (val_main_v17 (F := Ideal) x0 x1 x2 (ix2 n k) : EReal) = prow x0 x1 x2 n ⟨1024 + k.val, by omega⟩ := by
  unfold val_main_v17
  pointwise
  rw [v14_apply]

theorem v18_apply (n : Fin 65536) (k : Fin 512) : (val_main_v18 (F := Ideal) x0 x1 x2 (ix2 n k) : EReal) = prow x0 x1 x2 n ⟨1536 + k.val, by omega⟩ := by
  unfold val_main_v18
  pointwise
  rw [v14_apply]

theorem v19_apply (n : Fin 65536) (k : Fin 256) : (val_main_v19 (F := Ideal) x0 x1 x2 (ix2 n k) : EReal) = prow x0 x1 x2 n ⟨2048 + k.val, by omega⟩ := by
  unfold val_main_v19
  pointwise
  rw [v14_apply]

theorem v20_apply (n : Fin 65536) (k : Fin 128) : (val_main_v20 (F := Ideal) x0 x1 x2 (ix2 n k) : EReal) = prow x0 x1 x2 n ⟨2304 + k.val, by omega⟩ := by
  unfold val_main_v20
  pointwise
  rw [v14_apply]

theorem v21_apply (n : Fin 65536) (k : Fin 32) : (val_main_v21 (F := Ideal) x0 x1 x2 (ix2 n k) : EReal) = prow x0 x1 x2 n ⟨2432 + k.val, by omega⟩ := by
  unfold val_main_v21
  pointwise
  rw [v14_apply]

theorem v22_apply (n : Fin 65536) (k : Fin 8) : (val_main_v22 (F := Ideal) x0 x1 x2 (ix2 n k) : EReal) = prow x0 x1 x2 n ⟨2464 + k.val, by omega⟩ := by
  unfold val_main_v22
  pointwise
  rw [v14_apply]

theorem v23_apply (n : Fin 65536) (k : Fin 512) : (val_main_v23 (F := Ideal) x0 x1 x2 (ix2 n k) : EReal) = prow x0 x1 x2 n ⟨2472 + k.val, by omega⟩ := by
  unfold val_main_v23
  pointwise
  rw [v14_apply]

theorem v24_apply (n : Fin 65536) (k : Fin 3072) : (val_main_v24 (F := Ideal) x0 x1 x2 (ix2 n k) : EReal) = prow x0 x1 x2 n ⟨2984 + k.val, by omega⟩ := by
  unfold val_main_v24
  pointwise
  rw [v14_apply]

theorem v25_apply (b : Fin 16) (p : Fin 4096) (h : Fin 8) (l : Fin 64) :
    (val_main_v25 (F := Ideal) x0 x1 x2 (ix4 b p h l) : EReal) = prow x0 x1 x2 (bp b p) ⟨0 + (64 * h.val + l.val), by omega⟩ := by
  have e : idx_main_v25 (ix4 b p h l) = ix2 (bp b p) ⟨64 * h.val + l.val, by omega⟩ := by
    funext a; apply Fin.ext
    match a with
    | ⟨0, _⟩ => show (((b.val * 4096 + p.val) * 8 + h.val) * 64 + l.val) / 512 = 4096 * b.val + p.val; omega
    | ⟨1, _⟩ => show (((b.val * 4096 + p.val) * 8 + h.val) * 64 + l.val) % 512 = 64 * h.val + l.val; omega
  rw [val_main_v25_apply, e, v15_apply]

theorem v58_apply (b : Fin 16) (p : Fin 4096) (h : Fin 8) (l : Fin 64) :
    (val_main_v58 (F := Ideal) x0 x1 x2 (ix4 b p h l) : EReal) = prow x0 x1 x2 (bp b p) ⟨512 + (64 * h.val + l.val), by omega⟩ := by
  have e : idx_main_v58 (ix4 b p h l) = ix2 (bp b p) ⟨64 * h.val + l.val, by omega⟩ := by
    funext a; apply Fin.ext
    match a with
    | ⟨0, _⟩ => show (((b.val * 4096 + p.val) * 8 + h.val) * 64 + l.val) / 512 = 4096 * b.val + p.val; omega
    | ⟨1, _⟩ => show (((b.val * 4096 + p.val) * 8 + h.val) * 64 + l.val) % 512 = 64 * h.val + l.val; omega
  rw [val_main_v58_apply, e, v16_apply]

theorem v38_apply (p : Fin 4096) (e : Fin 32) : (val_main_v38 (F := Ideal) (ix4 0 p 0 e) : EReal) = Ideal.cos (ang p e.val) := by
  unfold val_main_v38 val_main_v37 val_main_v36 val_main_v35 val_main_v34 val_main_v33 val_main_v32 val_main_v31 val_main_v30 val_main_v29 val_main_v28 val_main_v27 val_main_v26 val_main_cst_2 val_main_cst_3 val_main_v0
  pointwise [ang]

theorem v40_apply (p : Fin 4096) (e : Fin 32) : (val_main_v40 (F := Ideal) (ix4 0 p 0 e) : EReal) = Ideal.sin (ang p e.val) := by
  unfold val_main_v40 val_main_v39 val_main_v36 val_main_v35 val_main_v34 val_main_v33 val_main_v32 val_main_v31 val_main_v30 val_main_v29 val_main_v28 val_main_v27 val_main_v26 val_main_cst_2 val_main_cst_3 val_main_v0
  pointwise [ang]

theorem v71_apply (p : Fin 4096) (e : Fin 32) : (val_main_v71 (F := Ideal) (ix4 0 p 0 e) : EReal) = Ideal.cos (ang p e.val) := by
  unfold val_main_v71 val_main_v70 val_main_v69 val_main_v68 val_main_v67 val_main_v66 val_main_v65 val_main_v64 val_main_v63 val_main_v62 val_main_v61 val_main_v60 val_main_v59 val_main_cst_4 val_main_cst_5 val_main_v0
  pointwise [ang]

theorem v73_apply (p : Fin 4096) (e : Fin 32) : (val_main_v73 (F := Ideal) (ix4 0 p 0 e) : EReal) = Ideal.sin (ang p e.val) := by
  unfold val_main_v73 val_main_v72 val_main_v69 val_main_v68 val_main_v67 val_main_v66 val_main_v65 val_main_v64 val_main_v63 val_main_v62 val_main_v61 val_main_v60 val_main_v59 val_main_cst_4 val_main_cst_5 val_main_v0
  pointwise [ang]

theorem v47_apply (b : Fin 16) (p : Fin 4096) (h : Fin 8) (e : Fin 32) : (val_main_v47 (F := Ideal) x0 x1 x2 (ix4 b p h e) : EReal)
    = prow x0 x1 x2 (bp b p) ⟨0 + (64 * h.val + e.val), by omega⟩ * Ideal.cos (ang p e.val) - prow x0 x1 x2 (bp b p) ⟨0 + (64 * h.val + (32 + e.val)), by omega⟩ * Ideal.sin (ang p e.val) := by
  unfold val_main_v47 val_main_v44 val_main_v46 val_main_v41 val_main_v42 val_main_v43 val_main_v45
  pointwise
  rw [v25_apply, v25_apply, v38_apply, v40_apply]
  simp only [Nat.zero_add]

theorem v52_apply (b : Fin 16) (p : Fin 4096) (h : Fin 8) (e : Fin 32) : (val_main_v52 (F := Ideal) x0 x1 x2 (ix4 b p h e) : EReal)
    = prow x0 x1 x2 (bp b p) ⟨0 + (64 * h.val + (32 + e.val)), by omega⟩ * Ideal.cos (ang p e.val) + prow x0 x1 x2 (bp b p) ⟨0 + (64 * h.val + e.val), by omega⟩ * Ideal.sin (ang p e.val) := by
  unfold val_main_v52 val_main_v49 val_main_v51 val_main_v41 val_main_v42 val_main_v48 val_main_v50
  pointwise
  rw [v25_apply, v25_apply, v38_apply, v40_apply]
  simp only [Nat.zero_add]

theorem v80_apply (b : Fin 16) (p : Fin 4096) (h : Fin 8) (e : Fin 32) : (val_main_v80 (F := Ideal) x0 x1 x2 (ix4 b p h e) : EReal)
    = prow x0 x1 x2 (bp b p) ⟨512 + (64 * h.val + e.val), by omega⟩ * Ideal.cos (ang p e.val) - prow x0 x1 x2 (bp b p) ⟨512 + (64 * h.val + (32 + e.val)), by omega⟩ * Ideal.sin (ang p e.val) := by
  unfold val_main_v80 val_main_v77 val_main_v79 val_main_v74 val_main_v75 val_main_v76 val_main_v78
  pointwise
  rw [v58_apply, v58_apply, v71_apply, v73_apply]

theorem v85_apply (b : Fin 16) (p : Fin 4096) (h : Fin 8) (e : Fin 32) : (val_main_v85 (F := Ideal) x0 x1 x2 (ix4 b p h e) : EReal)
    = prow x0 x1 x2 (bp b p) ⟨512 + (64 * h.val + (32 + e.val)), by omega⟩ * Ideal.cos (ang p e.val) + prow x0 x1 x2 (bp b p) ⟨512 + (64 * h.val + e.val), by omega⟩ * Ideal.sin (ang p e.val) := by
  unfold val_main_v85 val_main_v82 val_main_v84 val_main_v74 val_main_v75 val_main_v81 val_main_v83
  pointwise
  rw [v58_apply, v58_apply, v71_apply, v73_apply]

theorem v53_lo (b : Fin 16) (p : Fin 4096) (h : Fin 8) (e : Fin 32) :
    (val_main_v53 (F := Ideal) x0 x1 x2 (ix4 b p h ⟨e.val, by omega⟩) : EReal) = val_main_v47 (F := Ideal) x0 x1 x2 (ix4 b p h e) := by
  unfold val_main_v53
  refine concatenate_apply_piece (t := S16x4096x8x64) (3 : Fin 4) _ _ _ 0 ?_ S16x4096x8x32 _ rfl rfl 0 rfl (ix4 b p h e) ?_ ?_
  · show 0 < 2
    decide
  · intro b hb
    match b with
    | ⟨0, _⟩ => rfl
    | ⟨1, _⟩ => rfl
    | ⟨2, _⟩ => rfl
    | ⟨3, _⟩ => exact absurd rfl hb
  · show 0 + e.val = e.val
    omega

theorem v53_hi (b : Fin 16) (p : Fin 4096) (h : Fin 8) (e : Fin 32) :
    (val_main_v53 (F := Ideal) x0 x1 x2 (ix4 b p h ⟨32 + e.val, by omega⟩) : EReal) = val_main_v52 (F := Ideal) x0 x1 x2 (ix4 b p h e) := by
  unfold val_main_v53
  refine concatenate_apply_piece (t := S16x4096x8x64) (3 : Fin 4) _ _ _ 1 ?_ S16x4096x8x32 _ rfl rfl 32 rfl (ix4 b p h e) ?_ ?_
  · show 1 < 2
    decide
  · intro b hb
    match b with
    | ⟨0, _⟩ => rfl
    | ⟨1, _⟩ => rfl
    | ⟨2, _⟩ => rfl
    | ⟨3, _⟩ => exact absurd rfl hb
  · show 32 + e.val = 32 + e.val
    rfl

theorem idx56 (n : Fin 65536) (s : Fin 2) (h : Fin 8) (e : Fin 32) :
    idx_main_v55 (idx_main_v56 (ix2 n ⟨256 * s.val + (32 * h.val + e.val), by omega⟩)) = ix4 n h s e := by
  funext a; apply Fin.ext
  match a with
  | ⟨0, _⟩ => show (n.val * 512 + (256 * s.val + (32 * h.val + e.val))) / 512 = n.val; omega
  | ⟨1, _⟩ => show (n.val * 512 + (256 * s.val + (32 * h.val + e.val))) / 32 % 8 = h.val; omega
  | ⟨2, _⟩ => show (n.val * 512 + (256 * s.val + (32 * h.val + e.val))) / 256 % 2 = s.val; omega
  | ⟨3, _⟩ => show (n.val * 512 + (256 * s.val + (32 * h.val + e.val))) % 32 = e.val; omega

theorem idx54 (b : Fin 16) (p : Fin 4096) (s : Fin 2) (h : Fin 8) (e : Fin 32) :
    idx_main_v54 (ix4 (bp b p) h s e) = ix4 b p h ⟨32 * s.val + e.val, by omega⟩ := by
  funext a; apply Fin.ext
  match a with
  | ⟨0, _⟩ => show ((((4096 * b.val + p.val) * 8 + h.val) * 2 + s.val) * 32 + e.val) / 2097152 = b.val; omega
  | ⟨1, _⟩ => show ((((4096 * b.val + p.val) * 8 + h.val) * 2 + s.val) * 32 + e.val) / 512 % 4096 = p.val; omega
  | ⟨2, _⟩ => show ((((4096 * b.val + p.val) * 8 + h.val) * 2 + s.val) * 32 + e.val) / 64 % 8 = h.val; omega
  | ⟨3, _⟩ => show ((((4096 * b.val + p.val) * 8 + h.val) * 2 + s.val) * 32 + e.val) % 64 = 32 * s.val + e.val; omega

/-- The rotated heads, read off the specification. -/
theorem rot53_lo (b : Fin 16) (p : Fin 4096) (h : Fin 8) (e : Fin 32) :
    rot (fun j => prow x0 x1 x2 (bp b p) (headcol 0 (by omega) j)) (cosr (bp b p)) (sinr (bp b p)) ⟨32 * h.val + e.val, by omega⟩
      = val_main_v47 (F := Ideal) x0 x1 x2 (ix4 b p h e) := by
  have hp : (⟨(bp b p).val % 4096, by omega⟩ : Fin 4096) = p := Fin.ext (by show (4096 * b.val + p.val) % 4096 = p.val; omega)
  have he : (32 * h.val + e.val) % 32 = e.val := by omega
  refine (rot_lo _ _ _ (⟨32 * h.val + e.val, by omega⟩ : Fin 256)).trans ?_
  rw [v47_apply]
  unfold cosr sinr
  rw [hp]
  show prow x0 x1 x2 (bp b p) (headcol 0 _ _) * Ideal.cos (ang p ((32 * h.val + e.val) % 32)) - prow x0 x1 x2 (bp b p) (headcol 0 _ _) * Ideal.sin (ang p ((32 * h.val + e.val) % 32)) = _
  rw [he]
  congr 3
  · exact Fin.ext (by show 0 + (64 * ((32 * h.val + e.val) % 256 / 32) + 32 * ((32 * h.val + e.val) / 256) + (32 * h.val + e.val) % 32) = 0 + (64 * h.val + e.val); omega)
  · exact Fin.ext (by show 0 + (64 * ((256 + (32 * h.val + e.val)) % 256 / 32) + 32 * ((256 + (32 * h.val + e.val)) / 256) + (256 + (32 * h.val + e.val)) % 32) = 0 + (64 * h.val + (32 + e.val)); omega)

theorem rot53_hi (b : Fin 16) (p : Fin 4096) (h : Fin 8) (e : Fin 32) :
    rot (fun j => prow x0 x1 x2 (bp b p) (headcol 0 (by omega) j)) (cosr (bp b p)) (sinr (bp b p)) ⟨256 + (32 * h.val + e.val), by omega⟩
      = val_main_v52 (F := Ideal) x0 x1 x2 (ix4 b p h e) := by
  have hp : (⟨(bp b p).val % 4096, by omega⟩ : Fin 4096) = p := Fin.ext (by show (4096 * b.val + p.val) % 4096 = p.val; omega)
  have he : (32 * h.val + e.val) % 32 = e.val := by omega
  refine (rot_hi _ _ _ (⟨32 * h.val + e.val, by omega⟩ : Fin 256)).trans ?_
  rw [v52_apply]
  unfold cosr sinr
  rw [hp]
  show prow x0 x1 x2 (bp b p) (headcol 0 _ _) * Ideal.cos (ang p ((32 * h.val + e.val) % 32)) + prow x0 x1 x2 (bp b p) (headcol 0 _ _) * Ideal.sin (ang p ((32 * h.val + e.val) % 32)) = _
  rw [he]
  congr 3
  · exact Fin.ext (by show 0 + (64 * ((256 + (32 * h.val + e.val)) % 256 / 32) + 32 * ((256 + (32 * h.val + e.val)) / 256) + (256 + (32 * h.val + e.val)) % 32) = 0 + (64 * h.val + (32 + e.val)); omega)
  · exact Fin.ext (by show 0 + (64 * ((32 * h.val + e.val) % 256 / 32) + 32 * ((32 * h.val + e.val) / 256) + (32 * h.val + e.val) % 32) = 0 + (64 * h.val + e.val); omega)

theorem v86_lo (b : Fin 16) (p : Fin 4096) (h : Fin 8) (e : Fin 32) :
    (val_main_v86 (F := Ideal) x0 x1 x2 (ix4 b p h ⟨e.val, by omega⟩) : EReal) = val_main_v80 (F := Ideal) x0 x1 x2 (ix4 b p h e) := by
  unfold val_main_v86
  refine concatenate_apply_piece (t := S16x4096x8x64) (3 : Fin 4) _ _ _ 0 ?_ S16x4096x8x32 _ rfl rfl 0 rfl (ix4 b p h e) ?_ ?_
  · show 0 < 2
    decide
  · intro b hb
    match b with
    | ⟨0, _⟩ => rfl
    | ⟨1, _⟩ => rfl
    | ⟨2, _⟩ => rfl
    | ⟨3, _⟩ => exact absurd rfl hb
  · show 0 + e.val = e.val
    omega

theorem v86_hi (b : Fin 16) (p : Fin 4096) (h : Fin 8) (e : Fin 32) :
    (val_main_v86 (F := Ideal) x0 x1 x2 (ix4 b p h ⟨32 + e.val, by omega⟩) : EReal) = val_main_v85 (F := Ideal) x0 x1 x2 (ix4 b p h e) := by
  unfold val_main_v86
  refine concatenate_apply_piece (t := S16x4096x8x64) (3 : Fin 4) _ _ _ 1 ?_ S16x4096x8x32 _ rfl rfl 32 rfl (ix4 b p h e) ?_ ?_
  · show 1 < 2
    decide
  · intro b hb
    match b with
    | ⟨0, _⟩ => rfl
    | ⟨1, _⟩ => rfl
    | ⟨2, _⟩ => rfl
    | ⟨3, _⟩ => exact absurd rfl hb
  · show 32 + e.val = 32 + e.val
    rfl

theorem idx91 (n : Fin 65536) (s : Fin 2) (h : Fin 8) (e : Fin 32) :
    idx_main_v90 (idx_main_v91 (ix2 n ⟨256 * s.val + (32 * h.val + e.val), by omega⟩)) = ix4 n h s e := by
  funext a; apply Fin.ext
  match a with
  | ⟨0, _⟩ => show (n.val * 512 + (256 * s.val + (32 * h.val + e.val))) / 512 = n.val; omega
  | ⟨1, _⟩ => show (n.val * 512 + (256 * s.val + (32 * h.val + e.val))) / 32 % 8 = h.val; omega
  | ⟨2, _⟩ => show (n.val * 512 + (256 * s.val + (32 * h.val + e.val))) / 256 % 2 = s.val; omega
  | ⟨3, _⟩ => show (n.val * 512 + (256 * s.val + (32 * h.val + e.val))) % 32 = e.val; omega

theorem idx89 (b : Fin 16) (p : Fin 4096) (s : Fin 2) (h : Fin 8) (e : Fin 32) :
    idx_main_v89 (ix4 (bp b p) h s e) = ix4 b p h ⟨32 * s.val + e.val, by omega⟩ := by
  funext a; apply Fin.ext
  match a with
  | ⟨0, _⟩ => show ((((4096 * b.val + p.val) * 8 + h.val) * 2 + s.val) * 32 + e.val) / 2097152 = b.val; omega
  | ⟨1, _⟩ => show ((((4096 * b.val + p.val) * 8 + h.val) * 2 + s.val) * 32 + e.val) / 512 % 4096 = p.val; omega
  | ⟨2, _⟩ => show ((((4096 * b.val + p.val) * 8 + h.val) * 2 + s.val) * 32 + e.val) / 64 % 8 = h.val; omega
  | ⟨3, _⟩ => show ((((4096 * b.val + p.val) * 8 + h.val) * 2 + s.val) * 32 + e.val) % 64 = 32 * s.val + e.val; omega

/-- The rotated heads, read off the specification. -/
theorem rot86_lo (b : Fin 16) (p : Fin 4096) (h : Fin 8) (e : Fin 32) :
    rot (fun j => prow x0 x1 x2 (bp b p) (headcol 512 (by omega) j)) (cosr (bp b p)) (sinr (bp b p)) ⟨32 * h.val + e.val, by omega⟩
      = val_main_v80 (F := Ideal) x0 x1 x2 (ix4 b p h e) := by
  have hp : (⟨(bp b p).val % 4096, by omega⟩ : Fin 4096) = p := Fin.ext (by show (4096 * b.val + p.val) % 4096 = p.val; omega)
  have he : (32 * h.val + e.val) % 32 = e.val := by omega
  refine (rot_lo _ _ _ (⟨32 * h.val + e.val, by omega⟩ : Fin 256)).trans ?_
  rw [v80_apply]
  unfold cosr sinr
  rw [hp]
  show prow x0 x1 x2 (bp b p) (headcol 512 _ _) * Ideal.cos (ang p ((32 * h.val + e.val) % 32)) - prow x0 x1 x2 (bp b p) (headcol 512 _ _) * Ideal.sin (ang p ((32 * h.val + e.val) % 32)) = _
  rw [he]
  congr 3
  · exact Fin.ext (by show 512 + (64 * ((32 * h.val + e.val) % 256 / 32) + 32 * ((32 * h.val + e.val) / 256) + (32 * h.val + e.val) % 32) = 512 + (64 * h.val + e.val); omega)
  · exact Fin.ext (by show 512 + (64 * ((256 + (32 * h.val + e.val)) % 256 / 32) + 32 * ((256 + (32 * h.val + e.val)) / 256) + (256 + (32 * h.val + e.val)) % 32) = 512 + (64 * h.val + (32 + e.val)); omega)

theorem rot86_hi (b : Fin 16) (p : Fin 4096) (h : Fin 8) (e : Fin 32) :
    rot (fun j => prow x0 x1 x2 (bp b p) (headcol 512 (by omega) j)) (cosr (bp b p)) (sinr (bp b p)) ⟨256 + (32 * h.val + e.val), by omega⟩
      = val_main_v85 (F := Ideal) x0 x1 x2 (ix4 b p h e) := by
  have hp : (⟨(bp b p).val % 4096, by omega⟩ : Fin 4096) = p := Fin.ext (by show (4096 * b.val + p.val) % 4096 = p.val; omega)
  have he : (32 * h.val + e.val) % 32 = e.val := by omega
  refine (rot_hi _ _ _ (⟨32 * h.val + e.val, by omega⟩ : Fin 256)).trans ?_
  rw [v85_apply]
  unfold cosr sinr
  rw [hp]
  show prow x0 x1 x2 (bp b p) (headcol 512 _ _) * Ideal.cos (ang p ((32 * h.val + e.val) % 32)) + prow x0 x1 x2 (bp b p) (headcol 512 _ _) * Ideal.sin (ang p ((32 * h.val + e.val) % 32)) = _
  rw [he]
  congr 3
  · exact Fin.ext (by show 512 + (64 * ((256 + (32 * h.val + e.val)) % 256 / 32) + 32 * ((256 + (32 * h.val + e.val)) / 256) + (256 + (32 * h.val + e.val)) % 32) = 512 + (64 * h.val + (32 + e.val)); omega)
  · exact Fin.ext (by show 512 + (64 * ((32 * h.val + e.val) % 256 / 32) + 32 * ((32 * h.val + e.val) / 256) + (32 * h.val + e.val) % 32) = 512 + (64 * h.val + e.val); omega)

theorem ex_bp (n : Fin 65536) : ∃ (b : Fin 16) (p : Fin 4096), n = bp b p :=
  ⟨⟨n.val / 4096, by omega⟩, ⟨n.val % 4096, by omega⟩, Fin.ext (by show n.val = 4096 * (n.val / 4096) + n.val % 4096; omega)⟩

theorem ex_half (k : Fin 512) : ∃ (s : Fin 2) (h : Fin 8) (e : Fin 32), k = ⟨256 * s.val + (32 * h.val + e.val), by omega⟩ :=
  ⟨⟨k.val / 256, by omega⟩, ⟨k.val / 32 % 8, by omega⟩, ⟨k.val % 32, by omega⟩,
    Fin.ext (by show k.val = 256 * (k.val / 256) + (32 * (k.val / 32 % 8) + k.val % 32); omega)⟩

/-- A column of the rotated heads is in the first half or in the second. -/
theorem rot_cases {motive : Fin 512 → Prop} (lo : ∀ (h : Fin 8) (e : Fin 32), motive ⟨32 * h.val + e.val, by omega⟩)
    (hi : ∀ (h : Fin 8) (e : Fin 32), motive ⟨256 + (32 * h.val + e.val), by omega⟩) (k : Fin 512) : motive k := by
  obtain ⟨s, h, e, rfl⟩ := ex_half k
  match s with
  | ⟨0, _⟩ =>
    have q : (⟨256 * 0 + (32 * h.val + e.val), by omega⟩ : Fin 512) = ⟨32 * h.val + e.val, by omega⟩ := Fin.ext (Nat.zero_add _)
    exact q ▸ lo h e
  | ⟨1, _⟩ => exact hi h e

theorem v56_lo (b : Fin 16) (p : Fin 4096) (h : Fin 8) (e : Fin 32) :
    (val_main_v56 (F := Ideal) x0 x1 x2 (ix2 (bp b p) ⟨32 * h.val + e.val, by omega⟩) : EReal) = val_main_v47 (F := Ideal) x0 x1 x2 (ix4 b p h e) := by
  have q : (⟨32 * h.val + e.val, by omega⟩ : Fin 512) = ⟨256 * (0 : Fin 2).val + (32 * h.val + e.val), by simp; omega⟩ := Fin.ext (by simp)
  rw [q, val_main_v56_apply, val_main_v55_apply, idx56, val_main_v54_apply, idx54, ← v53_lo]
  exact congrArg (fun l => val_main_v53 (F := Ideal) x0 x1 x2 (ix4 b p h l)) (Fin.ext (by simp))

theorem v56_hi (b : Fin 16) (p : Fin 4096) (h : Fin 8) (e : Fin 32) :
    (val_main_v56 (F := Ideal) x0 x1 x2 (ix2 (bp b p) ⟨256 + (32 * h.val + e.val), by omega⟩) : EReal) = val_main_v52 (F := Ideal) x0 x1 x2 (ix4 b p h e) := by
  have q : (⟨256 + (32 * h.val + e.val), by omega⟩ : Fin 512) = ⟨256 * (1 : Fin 2).val + (32 * h.val + e.val), by simp; omega⟩ := Fin.ext (by simp)
  rw [q, val_main_v56_apply, val_main_v55_apply, idx56, val_main_v54_apply, idx54, ← v53_hi]
  exact congrArg (fun l => val_main_v53 (F := Ideal) x0 x1 x2 (ix4 b p h l)) (Fin.ext (by simp))

theorem v88_apply (i : S16x4096x8x64.Idx) : (val_main_v88 (F := Ideal) x0 x1 x2 i : EReal) = val_main_v86 (F := Ideal) x0 x1 x2 i * Ideal.ofBits FTy.f32 0x3E000000#32 := by
  obtain ⟨b, p, h, l, rfl⟩ : ∃ (b : Fin 16) (p : Fin 4096) (h : Fin 8) (l : Fin 64), i = ix4 b p h l := ⟨i 0, i 1, i 2, i 3, eq_ix4 i⟩
  unfold val_main_v88 val_main_v87 val_main_cst_6
  pointwise

theorem v91_lo (b : Fin 16) (p : Fin 4096) (h : Fin 8) (e : Fin 32) :
    (val_main_v91 (F := Ideal) x0 x1 x2 (ix2 (bp b p) ⟨32 * h.val + e.val, by omega⟩) : EReal) = val_main_v80 (F := Ideal) x0 x1 x2 (ix4 b p h e) * Ideal.ofBits FTy.f32 0x3E000000#32 := by
  have q : (⟨32 * h.val + e.val, by omega⟩ : Fin 512) = ⟨256 * (0 : Fin 2).val + (32 * h.val + e.val), by simp; omega⟩ := Fin.ext (by simp)
  rw [q, val_main_v91_apply, val_main_v90_apply, idx91, val_main_v89_apply, idx89, v88_apply, ← v86_lo]
  exact congrArg (fun l => val_main_v86 (F := Ideal) x0 x1 x2 (ix4 b p h l) * Ideal.ofBits FTy.f32 0x3E000000#32) (Fin.ext (by simp))

theorem v91_hi (b : Fin 16) (p : Fin 4096) (h : Fin 8) (e : Fin 32) :
    (val_main_v91 (F := Ideal) x0 x1 x2 (ix2 (bp b p) ⟨256 + (32 * h.val + e.val), by omega⟩) : EReal) = val_main_v85 (F := Ideal) x0 x1 x2 (ix4 b p h e) * Ideal.ofBits FTy.f32 0x3E000000#32 := by
  have q : (⟨256 + (32 * h.val + e.val), by omega⟩ : Fin 512) = ⟨256 * (1 : Fin 2).val + (32 * h.val + e.val), by simp; omega⟩ := Fin.ext (by simp)
  rw [q, val_main_v91_apply, val_main_v90_apply, idx91, val_main_v89_apply, idx89, v88_apply, ← v86_hi]
  exact congrArg (fun l => val_main_v86 (F := Ideal) x0 x1 x2 (ix4 b p h l) * Ideal.ofBits FTy.f32 0x3E000000#32) (Fin.ext (by simp))

theorem o10_eq : val_main_v57 (F := Ideal) x0 x1 x2 = o10 x0 x1 x2 := by
  funext i
  obtain ⟨n, k, rfl⟩ : ∃ (n : Fin 65536) (k : Fin 512), i = ix2 n k := ⟨i 0, i 1, eq_ix2 i⟩
  obtain ⟨b, p, rfl⟩ := ex_bp n
  show val_main_v56 (F := Ideal) x0 x1 x2 (ix2 (bp b p) k) = rot _ _ _ k
  exact rot_cases (motive := fun k => val_main_v56 (F := Ideal) x0 x1 x2 (ix2 (bp b p) k) = rot _ _ _ k)
    (fun h e => (v56_lo x0 x1 x2 b p h e).trans (rot53_lo x0 x1 x2 b p h e).symm) (fun h e => (v56_hi x0 x1 x2 b p h e).trans (rot53_hi x0 x1 x2 b p h e).symm) k

theorem o11_eq : val_main_v92 (F := Ideal) x0 x1 x2 = o11 x0 x1 x2 := by
  funext i
  obtain ⟨n, k, rfl⟩ : ∃ (n : Fin 65536) (k : Fin 512), i = ix2 n k := ⟨i 0, i 1, eq_ix2 i⟩
  obtain ⟨b, p, rfl⟩ := ex_bp n
  show val_main_v91 (F := Ideal) x0 x1 x2 (ix2 (bp b p) k) = rot _ _ _ k * Ideal.ofBits FTy.f32 0x3E000000#32
  exact rot_cases (motive := fun k => val_main_v91 (F := Ideal) x0 x1 x2 (ix2 (bp b p) k) = rot _ _ _ k * Ideal.ofBits FTy.f32 0x3E000000#32)
    (fun h e => (v91_lo x0 x1 x2 b p h e).trans (congrArg (· * Ideal.ofBits FTy.f32 0x3E000000#32) (rot86_lo x0 x1 x2 b p h e).symm))
    (fun h e => (v91_hi x0 x1 x2 b p h e).trans (congrArg (· * Ideal.ofBits FTy.f32 0x3E000000#32) (rot86_hi x0 x1 x2 b p h e).symm)) k

theorem o12_eq : val_main_v147 (F := Ideal) x0 x1 x2 = o12 x0 x1 x2 := by
  funext i
  obtain ⟨n, k, rfl⟩ : ∃ (n : Fin 65536) (k : Fin 512), i = ix2 n k := ⟨i 0, i 1, eq_ix2 i⟩
  exact v17_apply x0 x1 x2 n k

theorem o13_eq : val_main_v148 (F := Ideal) x0 x1 x2 = o13 x0 x1 x2 := by
  funext i
  obtain ⟨n, k, rfl⟩ : ∃ (n : Fin 65536) (k : Fin 512), i = ix2 n k := ⟨i 0, i 1, eq_ix2 i⟩
  exact v18_apply x0 x1 x2 n k

theorem o14_eq : val_main_v149 (F := Ideal) x0 x1 x2 = o14 x0 x1 x2 := by
  funext i
  obtain ⟨n, k, rfl⟩ : ∃ (n : Fin 65536) (k : Fin 512), i = ix2 n k := ⟨i 0, i 1, eq_ix2 i⟩
  exact v23_apply x0 x1 x2 n k

theorem o15_eq : val_main_v150 (F := Ideal) x0 x1 x2 = o15 x0 x1 x2 := by
  funext i
  obtain ⟨n, k, rfl⟩ : ∃ (n : Fin 65536) (k : Fin 3072), i = ix2 n k := ⟨i 0, i 1, eq_ix2 i⟩
  exact v24_apply x0 x1 x2 n k

theorem v105_apply (n : Fin 65536) (k : Fin 256) : (val_main_v105 (F := Ideal) x0 x1 x2 x3 (ix2 n k) : EReal) = cq x0 x1 x2 x3 n k := by
  unfold val_main_v105 val_main_v102 val_main_v101 val_main_v100 val_main_v99 val_main_v98 val_main_v97 val_main_v96 val_main_v95 val_main_v94 val_main_v93 val_main_v104 val_main_v103 val_main_cst_7 val_main_cst_8 val_main_cst_9
  pointwise
  simp only [v19_apply]
  rfl

theorem v118_apply (n : Fin 65536) (k : Fin 128) : (val_main_v118 (F := Ideal) x0 x1 x2 x4 (ix2 n k) : EReal) = ck x0 x1 x2 x4 n k := by
  unfold val_main_v118 val_main_v115 val_main_v114 val_main_v113 val_main_v112 val_main_v111 val_main_v110 val_main_v109 val_main_v108 val_main_v107 val_main_v106 val_main_v117 val_main_v116 val_main_cst_10 val_main_cst_11 val_main_cst_12
  pointwise
  simp only [v20_apply]
  rfl

theorem v119_apply (t r : Fin 256) (k : Fin 128) : (val_main_v119 (F := Ideal) x0 x1 x2 x4 (ix3 t r k) : EReal) = ck x0 x1 x2 x4 (tok t r) k := by
  have e : idx_main_v119 (ix3 t r k) = ix2 (tok t r) k := by
    funext a; apply Fin.ext
    match a with
    | ⟨0, _⟩ => show ((t.val * 256 + r.val) * 128 + k.val) / 128 = 256 * t.val + r.val; omega
    | ⟨1, _⟩ => show ((t.val * 256 + r.val) * 128 + k.val) % 128 = k.val; omega
  rw [val_main_v119_apply, e, v118_apply]

theorem o19_eq : val_main_v152 (F := Ideal) x0 x1 x2 x4 = o19 x0 x1 x2 x4 := by
  funext i
  obtain ⟨t, r, k, rfl⟩ : ∃ (t r : Fin 256) (k : Fin 128), i = ix3 t r k := ⟨i 0, i 1, i 2, eq_ix3 i⟩
  exact v119_apply x0 x1 x2 x4 t r k

theorem o20_eq : val_main_v154 (F := Ideal) x0 x1 x2 x4 = o20 x0 x1 x2 x4 := by
  funext i
  obtain ⟨t, k, r, rfl⟩ : ∃ (t : Fin 256) (k : Fin 128) (r : Fin 256), i = ix3 t k r := ⟨i 0, i 1, i 2, eq_ix3 i⟩
  unfold val_main_v154 val_main_v153
  pointwise
  exact v119_apply x0 x1 x2 x4 t r k

theorem v121_apply (n : Fin 65536) (j : Fin 1024) :
    (val_main_v121 (F := Ideal) x0 x1 x2 x3 x6 (ix2 n j) : EReal) = lin (cq x0 x1 x2 x3 n) (fun k j => x6 (ix2 k j)) j := by
  unfold val_main_v121 val_main_v120
  pointwise
  simp only [v105_apply, lin]

theorem o16_eq : val_main_v124 (F := Ideal) x0 x1 x2 x3 x6 = o16 x0 x1 x2 x3 x6 := by
  funext i
  obtain ⟨t, h, r, k, rfl⟩ : ∃ (t : Fin 256) (h : Fin 8) (r : Fin 256) (k : Fin 128), i = ix4 t h r k := ⟨i 0, i 1, i 2, i 3, eq_ix4 i⟩
  have e : idx_main_v122 (ix4 t r h k) = ix2 (tok t r) (lane h k) := by
    funext a; apply Fin.ext
    match a with
    | ⟨0, _⟩ => show (((t.val * 256 + r.val) * 8 + h.val) * 128 + k.val) / 1024 = 256 * t.val + r.val; omega
    | ⟨1, _⟩ => show (((t.val * 256 + r.val) * 8 + h.val) * 128 + k.val) % 1024 = 128 * h.val + k.val; omega
  unfold val_main_v124 val_main_v123
  pointwise
  rw [val_main_v122_apply, e, v121_apply]
  rfl

theorem v125_apply (n : Fin 65536) (h : Fin 8) (e : Fin 32) :
    (val_main_v125 (F := Ideal) x0 x1 x2 x3 x5 (ix3 n h e) : EReal) = ∑ k, cq x0 x1 x2 x3 n k * x5 (ix3 k h e) := by
  unfold val_main_v125
  pointwise
  simp only [v105_apply]

theorem v128_apply (n : Fin 65536) (h : Fin 8) (e : Fin 32) : (val_main_v128 (F := Ideal) x0 x1 x2 x3 x5 (ix3 n h e) : EReal)
    = val_main_v125 (F := Ideal) x0 x1 x2 x3 x5 (ix3 n h e) - val_main_v125 (F := Ideal) x0 x1 x2 x3 x5 (ix3 n h e) := by
  unfold val_main_v128 val_main_v127 val_main_v126
  pointwise

theorem v131_apply (n : Fin 65536) (h : Fin 8) (e : Fin 32) : (val_main_v131 (F := Ideal) x0 x1 x2 x3 x5 (ix3 n h e) : EReal)
    = val_main_v125 (F := Ideal) x0 x1 x2 x3 x5 (ix3 n h e) - val_main_v125 (F := Ideal) x0 x1 x2 x3 x5 (ix3 n h e) := by
  unfold val_main_v131 val_main_v130 val_main_v129
  pointwise

theorem v138_apply (n : Fin 65536) (e : Fin 32) : (val_main_v138 (F := Ideal) x0 x1 x2 (ix2 n e) : EReal)
    = val_main_v21 (F := Ideal) x0 x1 x2 (ix2 n e) - val_main_v21 (F := Ideal) x0 x1 x2 (ix2 n e) := by
  unfold val_main_v138 val_main_v137 val_main_v136
  pointwise

theorem v141_apply (n : Fin 65536) (e : Fin 32) : (val_main_v141 (F := Ideal) x0 x1 x2 (ix2 n e) : EReal)
    = val_main_v21 (F := Ideal) x0 x1 x2 (ix2 n e) - val_main_v21 (F := Ideal) x0 x1 x2 (ix2 n e) := by
  unfold val_main_v141 val_main_v140 val_main_v139
  pointwise

/-- A lane is one of four copies of 32. -/
theorem lane_cases {motive : Fin 128 → Prop} (c0 : ∀ e : Fin 32, motive ⟨e.val, by omega⟩) (c1 : ∀ e : Fin 32, motive ⟨32 + e.val, by omega⟩)
    (c2 : ∀ e : Fin 32, motive ⟨64 + e.val, by omega⟩) (c3 : ∀ e : Fin 32, motive ⟨96 + e.val, by omega⟩) (l : Fin 128) : motive l := by
  have q : ∀ (a : Nat) (ha : a + 32 ≤ 128) (hl : a ≤ l.val) (hu : l.val < a + 32), (⟨a + (l.val - a), by omega⟩ : Fin 128) = l := fun a ha hl hu => Fin.ext (by show a + (l.val - a) = l.val; omega)
  by_cases h0 : l.val < 32
  · exact c0 ⟨l.val, h0⟩
  by_cases h1 : l.val < 64
  · exact q 32 (by omega) (by omega) (by omega) ▸ c1 ⟨l.val - 32, by omega⟩
  by_cases h2 : l.val < 96
  · exact q 64 (by omega) (by omega) (by omega) ▸ c2 ⟨l.val - 64, by omega⟩
  · exact q 96 (by omega) (by omega) (by omega) ▸ c3 ⟨l.val - 96, by omega⟩

theorem v132_0 (n : Fin 65536) (h : Fin 8) (e : Fin 32) : (val_main_v132 (F := Ideal) x0 x1 x2 x3 x5 (ix3 n h ⟨e.val, by omega⟩) : EReal) = val_main_v125 (F := Ideal) x0 x1 x2 x3 x5 (ix3 n h e) := by
  unfold val_main_v132
  refine concatenate_apply_piece (t := S65536x8x128) (2 : Fin 3) _ _ _ 0 ?_ S65536x8x32 _ rfl rfl 0 rfl (ix3 n h e) ?_ ?_
  · show 0 < 4
    decide
  · intro b hb
    match b with
    | ⟨0, _⟩ => rfl
    | ⟨1, _⟩ => rfl
    | ⟨2, _⟩ => exact absurd rfl hb
  · show 0 + e.val = e.val
    omega

theorem v132_1 (n : Fin 65536) (h : Fin 8) (e : Fin 32) : (val_main_v132 (F := Ideal) x0 x1 x2 x3 x5 (ix3 n h ⟨32 + e.val, by omega⟩) : EReal) = val_main_v125 (F := Ideal) x0 x1 x2 x3 x5 (ix3 n h e) := by
  unfold val_main_v132
  refine concatenate_apply_piece (t := S65536x8x128) (2 : Fin 3) _ _ _ 1 ?_ S65536x8x32 _ rfl rfl 32 rfl (ix3 n h e) ?_ ?_
  · show 1 < 4
    decide
  · intro b hb
    match b with
    | ⟨0, _⟩ => rfl
    | ⟨1, _⟩ => rfl
    | ⟨2, _⟩ => exact absurd rfl hb
  · show 32 + e.val = 32 + e.val
    rfl

theorem v132_2 (n : Fin 65536) (h : Fin 8) (e : Fin 32) : (val_main_v132 (F := Ideal) x0 x1 x2 x3 x5 (ix3 n h ⟨64 + e.val, by omega⟩) : EReal) = val_main_v128 (F := Ideal) x0 x1 x2 x3 x5 (ix3 n h e) := by
  unfold val_main_v132
  refine concatenate_apply_piece (t := S65536x8x128) (2 : Fin 3) _ _ _ 2 ?_ S65536x8x32 _ rfl rfl 64 rfl (ix3 n h e) ?_ ?_
  · show 2 < 4
    decide
  · intro b hb
    match b with
    | ⟨0, _⟩ => rfl
    | ⟨1, _⟩ => rfl
    | ⟨2, _⟩ => exact absurd rfl hb
  · show 64 + e.val = 64 + e.val
    rfl

theorem v132_3 (n : Fin 65536) (h : Fin 8) (e : Fin 32) : (val_main_v132 (F := Ideal) x0 x1 x2 x3 x5 (ix3 n h ⟨96 + e.val, by omega⟩) : EReal) = val_main_v131 (F := Ideal) x0 x1 x2 x3 x5 (ix3 n h e) := by
  unfold val_main_v132
  refine concatenate_apply_piece (t := S65536x8x128) (2 : Fin 3) _ _ _ 3 ?_ S65536x8x32 _ rfl rfl 96 rfl (ix3 n h e) ?_ ?_
  · show 3 < 4
    decide
  · intro b hb
    match b with
    | ⟨0, _⟩ => rfl
    | ⟨1, _⟩ => rfl
    | ⟨2, _⟩ => exact absurd rfl hb
  · show 96 + e.val = 96 + e.val
    rfl

theorem v142_0 (n : Fin 65536) (e : Fin 32) : (val_main_v142 (F := Ideal) x0 x1 x2 (ix2 n ⟨e.val, by omega⟩) : EReal) = val_main_v21 (F := Ideal) x0 x1 x2 (ix2 n e) := by
  unfold val_main_v142
  refine concatenate_apply_piece (t := S65536x128) (1 : Fin 2) _ _ _ 0 ?_ S65536x32 _ rfl rfl 0 rfl (ix2 n e) ?_ ?_
  · show 0 < 4
    decide
  · intro b hb
    match b with
    | ⟨0, _⟩ => rfl
    | ⟨1, _⟩ => exact absurd rfl hb
  · show 0 + e.val = e.val
    omega

theorem v142_1 (n : Fin 65536) (e : Fin 32) : (val_main_v142 (F := Ideal) x0 x1 x2 (ix2 n ⟨32 + e.val, by omega⟩) : EReal) = val_main_v138 (F := Ideal) x0 x1 x2 (ix2 n e) := by
  unfold val_main_v142
  refine concatenate_apply_piece (t := S65536x128) (1 : Fin 2) _ _ _ 1 ?_ S65536x32 _ rfl rfl 32 rfl (ix2 n e) ?_ ?_
  · show 1 < 4
    decide
  · intro b hb
    match b with
    | ⟨0, _⟩ => rfl
    | ⟨1, _⟩ => exact absurd rfl hb
  · show 32 + e.val = 32 + e.val
    rfl

theorem v142_2 (n : Fin 65536) (e : Fin 32) : (val_main_v142 (F := Ideal) x0 x1 x2 (ix2 n ⟨64 + e.val, by omega⟩) : EReal) = val_main_v21 (F := Ideal) x0 x1 x2 (ix2 n e) := by
  unfold val_main_v142
  refine concatenate_apply_piece (t := S65536x128) (1 : Fin 2) _ _ _ 2 ?_ S65536x32 _ rfl rfl 64 rfl (ix2 n e) ?_ ?_
  · show 2 < 4
    decide
  · intro b hb
    match b with
    | ⟨0, _⟩ => rfl
    | ⟨1, _⟩ => exact absurd rfl hb
  · show 64 + e.val = 64 + e.val
    rfl

theorem v142_3 (n : Fin 65536) (e : Fin 32) : (val_main_v142 (F := Ideal) x0 x1 x2 (ix2 n ⟨96 + e.val, by omega⟩) : EReal) = val_main_v141 (F := Ideal) x0 x1 x2 (ix2 n e) := by
  unfold val_main_v142
  refine concatenate_apply_piece (t := S65536x128) (1 : Fin 2) _ _ _ 3 ?_ S65536x32 _ rfl rfl 96 rfl (ix2 n e) ?_ ?_
  · show 3 < 4
    decide
  · intro b hb
    match b with
    | ⟨0, _⟩ => rfl
    | ⟨1, _⟩ => exact absurd rfl hb
  · show 96 + e.val = 96 + e.val
    rfl

theorem iq_of (n : Fin 65536) (h : Fin 8) (l : Fin 128) (e : Fin 32) (he : l.val % 32 = e.val) :
    iq x0 x1 x2 x3 x5 n h l = val_main_v125 (F := Ideal) x0 x1 x2 x3 x5 (ix3 n h e) := by
  have q : (⟨l.val % 32, by omega⟩ : Fin 32) = e := Fin.ext he
  unfold iq
  rw [q, v125_apply]

theorem ik_of (n : Fin 65536) (l : Fin 128) (e : Fin 32) (he : l.val % 32 = e.val) : ik x0 x1 x2 n l = val_main_v21 (F := Ideal) x0 x1 x2 (ix2 n e) := by
  have q : (⟨2432 + l.val % 32, by omega⟩ : Fin 6056) = ⟨2432 + e.val, by omega⟩ := Fin.ext (congrArg (2432 + ·) he)
  unfold ik
  rw [q, v21_apply]

theorem v132_apply (n : Fin 65536) (h : Fin 8) (l : Fin 128) : (val_main_v132 (F := Ideal) x0 x1 x2 x3 x5 (ix3 n h l) : EReal)
    = if l.val < 64 then iq x0 x1 x2 x3 x5 n h l else iq x0 x1 x2 x3 x5 n h l - iq x0 x1 x2 x3 x5 n h l := by
  refine lane_cases (motive := fun l => (val_main_v132 (F := Ideal) x0 x1 x2 x3 x5 (ix3 n h l) : EReal)
    = if l.val < 64 then iq x0 x1 x2 x3 x5 n h l else iq x0 x1 x2 x3 x5 n h l - iq x0 x1 x2 x3 x5 n h l) ?_ ?_ ?_ ?_ l
  · intro e
    rw [iq_of x0 x1 x2 x3 x5 n h _ e (by show (e.val) % 32 = e.val; omega), v132_0, if_pos (by show (e.val < 64); omega)]
  · intro e
    rw [iq_of x0 x1 x2 x3 x5 n h _ e (by show (32 + e.val) % 32 = e.val; omega), v132_1, if_pos (by show (32 + e.val < 64); omega)]
  · intro e
    rw [iq_of x0 x1 x2 x3 x5 n h _ e (by show (64 + e.val) % 32 = e.val; omega), v132_2, if_neg (by show ¬ (64 + e.val < 64); omega), v128_apply]
  · intro e
    rw [iq_of x0 x1 x2 x3 x5 n h _ e (by show (96 + e.val) % 32 = e.val; omega), v132_3, if_neg (by show ¬ (96 + e.val < 64); omega), v131_apply]

theorem v142_apply (n : Fin 65536) (l : Fin 128) : (val_main_v142 (F := Ideal) x0 x1 x2 (ix2 n l) : EReal)
    = if l.val / 32 % 2 = 0 then ik x0 x1 x2 n l else ik x0 x1 x2 n l - ik x0 x1 x2 n l := by
  refine lane_cases (motive := fun l => (val_main_v142 (F := Ideal) x0 x1 x2 (ix2 n l) : EReal)
    = if l.val / 32 % 2 = 0 then ik x0 x1 x2 n l else ik x0 x1 x2 n l - ik x0 x1 x2 n l) ?_ ?_ ?_ ?_ l
  · intro e
    rw [ik_of x0 x1 x2 n _ e (by show (e.val) % 32 = e.val; omega), v142_0, if_pos (by show ((e.val) / 32 % 2 = 0); omega)]
  · intro e
    rw [ik_of x0 x1 x2 n _ e (by show (32 + e.val) % 32 = e.val; omega), v142_1, if_neg (by show ¬ ((32 + e.val) / 32 % 2 = 0); omega), v138_apply]
  · intro e
    rw [ik_of x0 x1 x2 n _ e (by show (64 + e.val) % 32 = e.val; omega), v142_2, if_pos (by show ((64 + e.val) / 32 % 2 = 0); omega)]
  · intro e
    rw [ik_of x0 x1 x2 n _ e (by show (96 + e.val) % 32 = e.val; omega), v142_3, if_neg (by show ¬ ((96 + e.val) / 32 % 2 = 0); omega), v141_apply]

theorem o17_eq : val_main_v135 (F := Ideal) x0 x1 x2 x3 x5 = o17 x0 x1 x2 x3 x5 := by
  funext i
  obtain ⟨t, h, r, k, rfl⟩ : ∃ (t : Fin 256) (h : Fin 8) (r : Fin 256) (k : Fin 128), i = ix4 t h r k := ⟨i 0, i 1, i 2, i 3, eq_ix4 i⟩
  have e : idx_main_v133 (ix4 t r h k) = ix3 (tok t r) h k := by
    funext a; apply Fin.ext
    match a with
    | ⟨0, _⟩ => show (((t.val * 256 + r.val) * 8 + h.val) * 128 + k.val) / 1024 = 256 * t.val + r.val; omega
    | ⟨1, _⟩ => show (((t.val * 256 + r.val) * 8 + h.val) * 128 + k.val) / 128 % 8 = h.val; omega
    | ⟨2, _⟩ => show (((t.val * 256 + r.val) * 8 + h.val) * 128 + k.val) % 128 = k.val; omega
  unfold val_main_v135 val_main_v134
  pointwise
  rw [val_main_v133_apply, e, v132_apply]
  rfl

theorem o21_eq : val_main_v144 (F := Ideal) x0 x1 x2 = o21 x0 x1 x2 := by
  funext i
  obtain ⟨t, r, k, rfl⟩ : ∃ (t r : Fin 256) (k : Fin 128), i = ix3 t r k := ⟨i 0, i 1, i 2, eq_ix3 i⟩
  have e : idx_main_v143 (ix3 t r k) = ix2 (tok t r) k := by
    funext a; apply Fin.ext
    match a with
    | ⟨0, _⟩ => show ((t.val * 256 + r.val) * 128 + k.val) / 128 = 256 * t.val + r.val; omega
    | ⟨1, _⟩ => show ((t.val * 256 + r.val) * 128 + k.val) % 128 = k.val; omega
  show val_main_v143 (F := Ideal) x0 x1 x2 (ix3 t r k) = _
  rw [val_main_v143_apply, e, v142_apply]
  rfl

theorem o18_eq : val_main_v151 (F := Ideal) x0 x1 x2 = o18 x0 x1 x2 := by
  funext i
  obtain ⟨h, n, rfl⟩ : ∃ (h : Fin 8) (n : Fin 65536), i = ix2 h n := ⟨i 0, i 1, eq_ix2 i⟩
  unfold val_main_v151 val_main_v146 val_main_v145 val_main_cst_13
  pointwise
  rw [v22_apply]
  rfl

end Cert.InRefIdeal.Spec
end
-- ==== Proof.InClaim.lean ====
/- The plain input projection computes the same arrays, and the claims about the two. -/
module

public import proofs.«01_k».proof.Proof.InRef

@[expose] public section

noncomputable section

namespace Cert.Proof.In

open Idealize.ShloMosaic Idealize.SL.Sem

set_option maxRecDepth 16384

theorem frame_ref : Cert.quiescent_InRefIdeal := fun m ρ _ =>
  (θ_run Cert.InRefIdeal.defs _ _).mono (fun r h => ⟨fun c => (h c).2.2.2.2.2.2.2.2.2.2.2.2, sem_eq_zero_of_no_sems (by decide) r.2⟩)
    (Cert.InRefIdeal.Value.run (F := Ideal) m ρ)

theorem algebraic : Cert.algebraic_InIdeal_InRefIdeal := by
  intro m g m' g' _ hagree
  refine ⟨fun c => Cert.InIdeal.Spec.f10 m c, fun c => Cert.InIdeal.Spec.f11 m c, fun c => Cert.InIdeal.Spec.f12 m c, fun c => Cert.InIdeal.Spec.f13 m c, fun c => Cert.InIdeal.Spec.f14 m c, fun c => Cert.InIdeal.Spec.f15 m c, fun c => Cert.InIdeal.Spec.f16 m c, fun c => Cert.InIdeal.Spec.f17 m c, fun c => Cert.InIdeal.Spec.f18 m c, fun c => Cert.InIdeal.Spec.f19 m c, fun c => Cert.InIdeal.Spec.f20 m c, fun c => Cert.InIdeal.Spec.f21 m c, ?_, ?_⟩
  · exact (θ_run Cert.InIdeal.defs _ _).mono
      (fun _ h c => ⟨(h c).1.trans (Cert.InIdeal.Spec.final10 m c),
        (h c).2.1.trans (Cert.InIdeal.Spec.final11 m c),
        (h c).2.2.1.trans (Cert.InIdeal.Spec.final12 m c),
        (h c).2.2.2.1.trans (Cert.InIdeal.Spec.final13 m c),
        (h c).2.2.2.2.1.trans (Cert.InIdeal.Spec.final14 m c),
        (h c).2.2.2.2.2.1.trans (Cert.InIdeal.Spec.final15 m c),
        (h c).2.2.2.2.2.2.1.trans (Cert.InIdeal.Spec.final16 m c),
        (h c).2.2.2.2.2.2.2.1.trans (Cert.InIdeal.Spec.final17 m c),
        (h c).2.2.2.2.2.2.2.2.1.trans (Cert.InIdeal.Spec.final18 m c),
        (h c).2.2.2.2.2.2.2.2.2.1.trans (Cert.InIdeal.Spec.final19 m c),
        (h c).2.2.2.2.2.2.2.2.2.2.1.trans (Cert.InIdeal.Spec.final20 m c),
        (h c).2.2.2.2.2.2.2.2.2.2.2.1.trans (Cert.InIdeal.Spec.final21 m c), (h c).2.2.2.2.2.2.2.2.2.2.2.2⟩)
      (Cert.InIdeal.Value.run_blocks (F := Ideal) m g)
  · refine (θ_run Cert.InRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
      (Cert.InRefIdeal.Value.run (F := Ideal) m' g')
    · obtain ⟨e0, e1, e2, e3, e4, e5, e6⟩ := hagree c
      rw [Cert.InRefIdeal.Read.val_main_v57_eq, e0, e1, e2]
      exact Cert.InRefIdeal.Spec.o10_eq _ _ _
    · obtain ⟨e0, e1, e2, e3, e4, e5, e6⟩ := hagree c
      rw [Cert.InRefIdeal.Read.val_main_v92_eq, e0, e1, e2]
      exact Cert.InRefIdeal.Spec.o11_eq _ _ _
    · obtain ⟨e0, e1, e2, e3, e4, e5, e6⟩ := hagree c
      rw [Cert.InRefIdeal.Read.val_main_v147_eq, e0, e1, e2]
      exact Cert.InRefIdeal.Spec.o12_eq _ _ _
    · obtain ⟨e0, e1, e2, e3, e4, e5, e6⟩ := hagree c
      rw [Cert.InRefIdeal.Read.val_main_v148_eq, e0, e1, e2]
      exact Cert.InRefIdeal.Spec.o13_eq _ _ _
    · obtain ⟨e0, e1, e2, e3, e4, e5, e6⟩ := hagree c
      rw [Cert.InRefIdeal.Read.val_main_v149_eq, e0, e1, e2]
      exact Cert.InRefIdeal.Spec.o14_eq _ _ _
    · obtain ⟨e0, e1, e2, e3, e4, e5, e6⟩ := hagree c
      rw [Cert.InRefIdeal.Read.val_main_v150_eq, e0, e1, e2]
      exact Cert.InRefIdeal.Spec.o15_eq _ _ _
    · obtain ⟨e0, e1, e2, e3, e4, e5, e6⟩ := hagree c
      rw [Cert.InRefIdeal.Read.val_main_v124_eq, e0, e1, e2, e3, e6]
      exact Cert.InRefIdeal.Spec.o16_eq _ _ _ _ _
    · obtain ⟨e0, e1, e2, e3, e4, e5, e6⟩ := hagree c
      rw [Cert.InRefIdeal.Read.val_main_v135_eq, e0, e1, e2, e3, e5]
      exact Cert.InRefIdeal.Spec.o17_eq _ _ _ _ _
    · obtain ⟨e0, e1, e2, e3, e4, e5, e6⟩ := hagree c
      rw [Cert.InRefIdeal.Read.val_main_v151_eq, e0, e1, e2]
      exact Cert.InRefIdeal.Spec.o18_eq _ _ _
    · obtain ⟨e0, e1, e2, e3, e4, e5, e6⟩ := hagree c
      rw [Cert.InRefIdeal.Read.val_main_v152_eq, e0, e1, e2, e4]
      exact Cert.InRefIdeal.Spec.o19_eq _ _ _ _
    · obtain ⟨e0, e1, e2, e3, e4, e5, e6⟩ := hagree c
      rw [Cert.InRefIdeal.Read.val_main_v154_eq, e0, e1, e2, e4]
      exact Cert.InRefIdeal.Spec.o20_eq _ _ _ _
    · obtain ⟨e0, e1, e2, e3, e4, e5, e6⟩ := hagree c
      rw [Cert.InRefIdeal.Read.val_main_v144_eq, e0, e1, e2]
      exact Cert.InRefIdeal.Spec.o21_eq _ _ _

end Cert.Proof.In
end
-- ==== Proof.MemkvBlock.lean ====
/- The projection of the memory as a function of the extended reals, and the proof that the kernel's blocks compute it. -/
module

public import proofs.«01_k».proof.Proof.MlpBlock
public import proofs.«01_k».proof.Proof.Gen.MemkvIdeal.Value

@[expose] public section

noncomputable section

namespace Cert.MemkvIdeal.Spec

open Idealize.ShloMosaic Idealize.ShloMosaic.TcCoe Idealize.SL.Sem Cert.MemkvIdeal Cert.MemkvIdeal.Gen Cert.Proof.Mlp
open scoped BigOperators

set_option maxRecDepth 16384

/-- Column `e` of the projection of a normalized row. -/
def proj (x w : Fin 1024 → EReal) (p : Fin 1024 → Fin 1024 → EReal) (e : Fin 1024) : EReal := ∑ d, rms x w d * p d e

theorem pay1_apply (x : FVec Ideal S1x256x1024 .f32) (w : FVec Ideal S1x1024 .f32) (p : FVec Ideal S1024x1024 .bf16) (r : Fin 256) (c : Fin 1024) :
    k0_pay1 (F := Ideal) x w p (ix2 r c) = proj (fun k => x (ix3 0 r k)) (fun k => w (ix2 0 k)) (fun d e => p (ix2 d e)) c := by
  pointwise [k0_pay1, rms, proj]

theorem hz : (![0, 0] : Fin 2 → Nat) = fun _ => 0 := funext fun a => by fin_cases a <;> rfl
theorem hz3 : (![0, 0, 0] : Fin 3 → Nat) = fun _ => 0 := funext fun a => by fin_cases a <;> rfl

/-- The keys of a block. -/
theorem out3_apply (x0 : FVec Ideal S1x256x1024 .f32) (x1 : FVec Ideal S1x1024 .f32) (x2 : FVec Ideal S1024x1024 .bf16) (r : Fin 256) (c : Fin 512) :
    out0_3 (F := Ideal) x0 x1 x2 (ix3 0 r c)
      = proj (fun k => x0 (ix3 0 r k)) (fun k => x1 (ix2 0 k)) (fun d e => x2 (ix2 d e)) ⟨c.val, by omega⟩ := by
  unfold out0_3
  rw [View.canon_unit_zero hz3]
  simp only [View.ld_unit_zero (S := S1x256x1024) hz3, View.ld_unit_zero (S := S1x1024) hz, View.ld_unit_zero (S := S1024x1024) hz]
  pointwise [k0_pay2]
  simp only [pay1_apply]

/-- The values of a block. -/
theorem out4_apply (x0 : FVec Ideal S1x256x1024 .f32) (x1 : FVec Ideal S1x1024 .f32) (x2 : FVec Ideal S1024x1024 .bf16) (r : Fin 256) (c : Fin 512) :
    out0_4 (F := Ideal) x0 x1 x2 (ix3 0 r c)
      = proj (fun k => x0 (ix3 0 r k)) (fun k => x1 (ix2 0 k)) (fun d e => x2 (ix2 d e)) ⟨512 + c.val, by omega⟩ := by
  unfold out0_4
  rw [View.canon_unit_zero hz3]
  simp only [View.ld_unit_zero (S := S1x256x1024) hz3, View.ld_unit_zero (S := S1x1024) hz, View.ld_unit_zero (S := S1024x1024) hz]
  pointwise [k0_pay3]
  simp only [pay1_apply]

variable (m : (ℓ : Loc nD τ sig) → Buf (Elt Ideal) ℓ)

/-- The key array as a function of the argument arrays. -/
def keys (a0 : FVec Ideal S16x256x1024 .f32) (a1 : FVec Ideal S1024 .f32) (a2 : FVec Ideal S1024x1024 .f32) : FVec Ideal S16x256x512 .bf16 :=
  fun i => proj (fun k => a0 (ix3 (i 0) (i 1) k)) (fun k => a1 (ix1 k)) (fun d e => a2 (ix2 d e)) ⟨(i 2).val, (i 2).isLt.trans (by decide : (512 : Nat) < 1024)⟩

/-- The value array as a function of the argument arrays. -/
def vals (a0 : FVec Ideal S16x256x1024 .f32) (a1 : FVec Ideal S1024 .f32) (a2 : FVec Ideal S1024x1024 .f32) : FVec Ideal S16x256x512 .bf16 :=
  fun i => proj (fun k => a0 (ix3 (i 0) (i 1) k)) (fun k => a1 (ix1 k)) (fun d e => a2 (ix2 d e))
    ⟨512 + (i 2).val, Nat.add_lt_add_left (show (i 2).val < 512 from (i 2).isLt) 512⟩

theorem idx_all : ∀ t : Fin cfg0.N, (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem lt_points (t : Fin cfg0.N) : t.val < 16 := by
  have h : cfg0.N = 16 := N_0
  have := t.isLt; omega

/-- Block `t` is batch entry `t`. -/
def batch (t : Fin cfg0.N) : Fin 16 := ⟨t.val, lt_points t⟩

theorem blk0 (c : Dev nD) (t : Fin cfg0.N) (r : Fin 256) (k : Fin 1024) :
    iblk m c 0 t (ix3 0 r k) = m ((c : Thread nD τ).loc main_arg0) (ix3 (batch t) r k) := by
  rw [← V_main_arg0 m c]
  show V m c main_arg0 (((cfg0.win 0).blk t).view.emb (ix3 0 r k)) = _
  congr 1
  obtain ⟨⟨e0, e1, e2⟩, -⟩ := idx_all t
  funext a; apply Fin.ext
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 1024 + 1 * k.val = k.val; omega

theorem blk1 (c : Dev nD) (t : Fin cfg0.N) (k : Fin 1024) :
    iblk m c 1 t (ix2 0 k) = m ((c : Thread nD τ).loc main_arg1) (ix1 k) := by
  show V m c main_v0 (((cfg0.win 1).blk t).view.emb (ix2 0 k)) = _
  have h : ((cfg0.win 1).blk t).view.emb (ix2 0 k) = ix2 0 k := by
    obtain ⟨-, ⟨e0, e1⟩, -⟩ := idx_all t
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  rw [h]
  entry_read
  pointwise

theorem blk2 (c : Dev nD) (t : Fin cfg0.N) (d : Fin 1024) (k : Fin 1024) :
    iblk m c 2 t (ix2 d k) = m ((c : Thread nD τ).loc main_arg2) (ix2 d k) := by
  show V m c main_v1 (((cfg0.win 2).blk t).view.emb (ix2 d k)) = _
  have h : ((cfg0.win 2).blk t).view.emb (ix2 d k) = ix2 d k := by
    obtain ⟨-, -, ⟨e0, e1⟩, -⟩ := idx_all t
    funext a; apply Fin.ext
    match a with
    | ⟨0, _⟩ => show win0_2.index t (0 : Fin 2) * 1024 + 1 * d.val = d.val; omega
    | ⟨1, _⟩ => show win0_2.index t (1 : Fin 2) * 1024 + 1 * k.val = k.val; omega
  rw [h]
  entry_read
  pointwise

/-- The key array of the launch memory `m`. -/
abbrev keysOf (c : Dev nD) : FVec Ideal S16x256x512 .bf16 :=
  keys (m ((c : Thread nD τ).loc main_arg0)) (m ((c : Thread nD τ).loc main_arg1)) (m ((c : Thread nD τ).loc main_arg2))

/-- The value array of the launch memory `m`. -/
abbrev valsOf (c : Dev nD) : FVec Ideal S16x256x512 .bf16 :=
  vals (m ((c : Thread nD τ).loc main_arg0)) (m ((c : Thread nD τ).loc main_arg1)) (m ((c : Thread nD τ).loc main_arg2))

theorem emb3 (t : Fin cfg0.N) (r : Fin 256) (k : Fin 512) : ((cfg0.win 3).blk t).view.emb (ix3 0 r k) = ix3 (batch t) r k := by
  obtain ⟨-, -, -, ⟨e0, e1, e2⟩, -⟩ := idx_all t
  funext a; apply Fin.ext
  match a with
  | ⟨0, _⟩ => show win0_3.index t (0 : Fin 3) * 1 + 1 * 0 = t.val; omega
  | ⟨1, _⟩ => show win0_3.index t (1 : Fin 3) * 256 + 1 * r.val = r.val; omega
  | ⟨2, _⟩ => show win0_3.index t (2 : Fin 3) * 512 + 1 * k.val = k.val; omega

theorem emb4 (t : Fin cfg0.N) (r : Fin 256) (k : Fin 512) : ((cfg0.win 4).blk t).view.emb (ix3 0 r k) = ix3 (batch t) r k := by
  obtain ⟨-, -, -, -, e0, e1, e2⟩ := idx_all t
  funext a; apply Fin.ext
  match a with
  | ⟨0, _⟩ => show win0_4.index t (0 : Fin 3) * 1 + 1 * 0 = t.val; omega
  | ⟨1, _⟩ => show win0_4.index t (1 : Fin 3) * 256 + 1 * r.val = r.val; omega
  | ⟨2, _⟩ => show win0_4.index t (2 : Fin 3) * 512 + 1 * k.val = k.val; omega

theorem ex_block (j : S1x256x512.Idx) : ∃ (r : Fin 256) (k : Fin 512), j = ix3 0 r k := by
  refine ⟨j 1, j 2, (eq_ix3 j).trans ?_⟩
  congr 1
  exact Fin.ext (Nat.lt_one_iff.mp (j 0).isLt)

theorem flushed3_eq (c : Dev nD) (t : Fin cfg0.N) :
    (dats m 0 c).flushed 3 t = ((cfg0.win 3).blk t).view.read (Elt Ideal) (keysOf m c) := by
  rw [Value.flushed3]
  funext j
  obtain ⟨r, k, rfl⟩ := ex_block j
  show out0_3 (iblk m c 0 t) (iblk m c 1 t) (iblk m c 2 t) (ix3 0 r k) = keysOf m c (((cfg0.win 3).blk t).view.emb (ix3 0 r k))
  rw [emb3, out3_apply]
  simp only [blk0, blk1, blk2]
  rfl

theorem flushed4_eq (c : Dev nD) (t : Fin cfg0.N) :
    (dats m 0 c).flushed 4 t = ((cfg0.win 4).blk t).view.read (Elt Ideal) (valsOf m c) := by
  rw [Value.flushed4]
  funext j
  obtain ⟨r, k, rfl⟩ := ex_block j
  show out0_4 (iblk m c 0 t) (iblk m c 1 t) (iblk m c 2 t) (ix3 0 r k) = valsOf m c (((cfg0.win 4).blk t).view.emb (ix3 0 r k))
  rw [emb4, out4_apply]
  simp only [blk0, blk1, blk2]
  rfl

theorem covered3 (i : S16x256x512.Idx) : ∃ t : Fin cfg0.N, (cfg0.win 3).flush t = true ∧ i ∈ ((cfg0.win 3).blk t).view.set := by
  obtain ⟨a, b, d, rfl⟩ : ∃ (a : Fin 16) (b : Fin 256) (d : Fin 512), i = ix3 a b d := ⟨i 0, i 1, i 2, eq_ix3 i⟩
  let t : Fin cfg0.N := ⟨a.val, by rw [show cfg0.N = 16 from N_0]; omega⟩
  exact ⟨t, flush0_3 _, (emb3 t b d : _ = ix3 a b d) ▸ ((cfg0.win 3).blk t).view.emb_mem_set (ix3 0 b d)⟩

theorem covered4 (i : S16x256x512.Idx) : ∃ t : Fin cfg0.N, (cfg0.win 4).flush t = true ∧ i ∈ ((cfg0.win 4).blk t).view.set := by
  obtain ⟨a, b, d, rfl⟩ : ∃ (a : Fin 16) (b : Fin 256) (d : Fin 512), i = ix3 a b d := ⟨i 0, i 1, i 2, eq_ix3 i⟩
  let t : Fin cfg0.N := ⟨a.val, by rw [show cfg0.N = 16 from N_0]; omega⟩
  exact ⟨t, flush0_4 _, (emb4 t b d : _ = ix3 a b d) ▸ ((cfg0.win 4).blk t).view.emb_mem_set (ix3 0 b d)⟩

theorem final3 (c : Dev nD) : (dats m 0 c).arrAt 3 cfg0.N = keysOf m c :=
  (dats m 0 c).arrAt_eq_of_cover 3 (keysOf m c) (fun t _ => flushed3_eq m c t) covered3

theorem final4 (c : Dev nD) : (dats m 0 c).arrAt 4 cfg0.N = valsOf m c :=
  (dats m 0 c).arrAt_eq_of_cover 4 (valsOf m c) (fun t _ => flushed4_eq m c t) covered4

end Cert.MemkvIdeal.Spec
end
-- ==== Proof.MemkvClaim.lean ====
/- The plain projection of the memory computes the same arrays, and the claims about the two. -/
module

public import proofs.«01_k».proof.Proof.MemkvBlock
public import proofs.«01_k».proof.Proof.Gen.MemkvRefIdeal.Run
public import proofs.«01_k».proof.Proof.Gen.MemkvRefIdeal.Read
public import proofs.«01_k».proof.Proof.Gen.Memkv.Frame

@[expose] public section

noncomputable section

namespace Cert.MemkvRefIdeal.Spec

open Idealize.ShloMosaic Cert.MemkvRefIdeal Cert.MemkvRefIdeal.Gen Cert.MemkvRefIdeal.Read Cert.Proof.Mlp
open Cert.MemkvIdeal.Spec (proj keys vals)

set_option maxRecDepth 16384

variable (x0 : FVec Ideal S16x256x1024 .f32) (x1 : FVec Ideal S1024 .f32) (x2 : FVec Ideal S1024x1024 .f32)

theorem v12_apply (b : Fin 16) (r : Fin 256) (c : Fin 1024) :
    val_main_v12 (F := Ideal) x0 x1 (ix3 b r c) = rms (fun k => x0 (ix3 b r k)) (fun k => x1 (ix1 k)) c := by
  unfold val_main_v12 val_main_v9 val_main_v8 val_main_v7 val_main_v6 val_main_v5 val_main_v4 val_main_v3 val_main_v2 val_main_v1 val_main_v0 val_main_v11 val_main_v10
    val_main_cst val_main_cst_0 val_main_cst_1
  pointwise [rms]

theorem v13_apply (b : Fin 16) (r : Fin 256) (c : Fin 1024) :
    val_main_v13 (F := Ideal) x0 x1 x2 (ix3 b r c) = proj (fun k => x0 (ix3 b r k)) (fun k => x1 (ix1 k)) (fun d e => x2 (ix2 d e)) c := by
  unfold val_main_v13
  pointwise
  simp only [v12_apply, proj]

theorem keys_eq : val_main_v16 (F := Ideal) x0 x1 x2 = keys x0 x1 x2 := by
  funext i
  obtain ⟨b, r, k, rfl⟩ : ∃ (b : Fin 16) (r : Fin 256) (k : Fin 512), i = ix3 b r k := ⟨i 0, i 1, i 2, eq_ix3 i⟩
  unfold val_main_v16 val_main_v14
  pointwise
  rw [v13_apply]
  rfl

theorem vals_eq : val_main_v17 (F := Ideal) x0 x1 x2 = vals x0 x1 x2 := by
  funext i
  obtain ⟨b, r, k, rfl⟩ : ∃ (b : Fin 16) (r : Fin 256) (k : Fin 512), i = ix3 b r k := ⟨i 0, i 1, i 2, eq_ix3 i⟩
  unfold val_main_v17 val_main_v15
  pointwise
  rw [v13_apply]
  rfl

end Cert.MemkvRefIdeal.Spec

namespace Cert.Proof.Memkv

open Idealize.ShloMosaic Idealize.SL.Sem

theorem frame_ref : Cert.quiescent_MemkvRefIdeal := fun m ρ _ =>
  (θ_run Cert.MemkvRefIdeal.defs _ _).mono (fun r h => ⟨fun c => (h c).2.2, sem_eq_zero_of_no_sems (by decide) r.2⟩)
    (Cert.MemkvRefIdeal.Value.run (F := Ideal) m ρ)

theorem algebraic : Cert.algebraic_MemkvIdeal_MemkvRefIdeal := by
  intro m g m' g' _ hagree
  refine ⟨fun c => Cert.MemkvIdeal.Spec.keysOf m c, fun c => Cert.MemkvIdeal.Spec.valsOf m c, ?_, ?_⟩
  · exact (θ_run Cert.MemkvIdeal.defs _ _).mono
      (fun _ h c => ⟨(h c).1.trans (Cert.MemkvIdeal.Spec.final3 m c), (h c).2.1.trans (Cert.MemkvIdeal.Spec.final4 m c), (h c).2.2⟩)
      (Cert.MemkvIdeal.Value.run_blocks (F := Ideal) m g)
  · refine (θ_run Cert.MemkvRefIdeal.defs _ _).mono (fun _ h c => ⟨(h c).1.trans ?_, (h c).2.1.trans ?_, (h c).2.2⟩)
      (Cert.MemkvRefIdeal.Value.run (F := Ideal) m' g')
    · obtain ⟨e0, e1, e2⟩ := hagree c
      rw [Cert.MemkvRefIdeal.Read.val_main_v16_eq, e0, e1, e2]
      exact Cert.MemkvRefIdeal.Spec.keys_eq _ _ _
    · obtain ⟨e0, e1, e2⟩ := hagree c
      rw [Cert.MemkvRefIdeal.Read.val_main_v17_eq, e0, e1, e2]
      exact Cert.MemkvRefIdeal.Spec.vals_eq _ _ _

end Cert.Proof.Memkv
end
-- ==== Proof.lean ====
module

public import proofs.«01_k».proof.Defs
public import proofs.«01_k».proof.Proof.Gen.Mlp.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.Ret.Frame
public import proofs.«01_k».proof.Proof.Gen.RetIdeal.Value
public import proofs.«01_k».proof.Proof.Gen.RetRefIdeal.Run
public import proofs.«01_k».proof.Proof.Gen.Pre_finite_qkv
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import proofs.«01_k».proof.Proof.Gen.Memkv.Frame
public import proofs.«01_k».proof.Proof.Gen.MemkvIdeal.Value
public import proofs.«01_k».proof.Proof.Gen.MemkvRefIdeal.Run
public import proofs.«01_k».proof.Proof.Gen.MemkvRefIdeal.Read
public import proofs.«01_k».proof.Proof.Gen.Pre_finite_qk
public import proofs.«01_k».proof.Proof.MlpClaim
public import proofs.«01_k».proof.Proof.RetClaim
public import proofs.«01_k».proof.Proof.MergeClaim
public import proofs.«01_k».proof.Proof.InClaim
public import proofs.«01_k».proof.Proof.MemkvClaim
public import Idealize.ShloMosaic.Adequacy
public import Idealize.ShloMosaic.Init

@[expose] public section

noncomputable section

namespace Cert.Proof

open Idealize.ShloMosaic Idealize.SL.Sem Cert.Mlp

theorem claim : Cert.Claim :=
  ⟨Cert.Mlp.Gen.facts, Cert.MlpIdeal.Gen.facts, Cert.MlpRefIdeal.Gen.facts, Cert.Ret.Gen.facts, Cert.RetIdeal.Gen.facts, Cert.RetRefIdeal.Gen.facts,
    Cert.Merge.Gen.facts, Cert.MergeIdeal.Gen.facts, Cert.MergeRefIdeal.Gen.facts, Cert.In.Gen.facts, Cert.InIdeal.Gen.facts, Cert.InRefIdeal.Gen.facts,
    Cert.Memkv.Gen.facts, Cert.MemkvIdeal.Gen.facts, Cert.MemkvRefIdeal.Gen.facts,
    Cert.Pre_finite_qkv.Gen.facts, Cert.Pre_finite_qk.Gen.facts,
    fun m ρ _ => Cert.Mlp.Gen.frame m ρ, fun m ρ _ => Cert.MlpIdeal.Gen.frame m ρ, Mlp.frame_ref,
    fun m ρ _ => Cert.Ret.Gen.frame m ρ, fun m ρ _ => Cert.RetIdeal.Gen.frame m ρ, fun m ρ _ => Cert.RetIdeal.Gen.frame m ρ, Ret.frame_ref, Ret.frame_ref_pre,
    fun m ρ _ => Cert.Merge.Gen.frame m ρ, fun m ρ _ => Cert.MergeIdeal.Gen.frame m ρ, fun m ρ _ => Cert.MergeIdeal.Gen.frame m ρ, Merge.frame_ref, Merge.frame_ref_pre,
    fun m ρ _ => Cert.In.Gen.frame m ρ, fun m ρ _ => Cert.InIdeal.Gen.frame m ρ, In.frame_ref,
    fun m ρ _ => Cert.Memkv.Gen.frame m ρ, fun m ρ _ => Cert.MemkvIdeal.Gen.frame m ρ, Memkv.frame_ref,
    trivial, Mlp.algebraic, trivial, Ret.algebraic, trivial, Merge.algebraic, trivial, In.algebraic, trivial, Memkv.algebraic⟩

end Cert.Proof

end
